-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_fox [hPre_finite_fox : Cert.Pre_finite_fox.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_fox.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_fox [hPre_finite_fox : Cert.Pre_finite_fox.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_fox.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_fox [hKernel7Ideal : Cert.Kernel7Ideal.Facts] [hPre_finite_fox : Cert.Pre_finite_fox.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_fox m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_fox [hReference7Ideal : Cert.Reference7Ideal.Facts] [hPre_finite_fox : Cert.Pre_finite_fox.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_fox m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v35) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  IdealRules.named_const.Statement Cert.Kernel7Ideal.κ "mask" .f32 0xF149F2CA#32 ⊥

def algebraic_Kernel7Ideal_Reference7Ideal_pre_finite_fox [hKernel7Ideal : Cert.Kernel7Ideal.Facts] [hReference7Ideal : Cert.Reference7Ideal.Facts] [hPre_finite_fox : Cert.Pre_finite_fox.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_fox m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v43) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_v12) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite_fox : Cert.Pre_finite_fox.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_fox (hKernel7Ideal := hKernel7Ideal) (hPre_finite_fox := hPre_finite_fox)
    ∧ quiescent_Reference7Ideal (hReference7Ideal := hReference7Ideal)
    ∧ quiescent_Reference7Ideal_pre_finite_fox (hReference7Ideal := hReference7Ideal) (hPre_finite_fox := hPre_finite_fox)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_fox (hKernel7Ideal := hKernel7Ideal) (hReference7Ideal := hReference7Ideal) (hPre_finite_fox := hPre_finite_fox)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S16512x2048 : Shape := ⟨2, ![16512, 2048]⟩
abbrev S16512x256 : Shape := ⟨2, ![16512, 256]⟩
abbrev S128x8x64 : Shape := ⟨3, ![128, 8, 64]⟩
abbrev S16512x2304 : Shape := ⟨2, ![16512, 2304]⟩
abbrev S_ : Shape := ⟨0, ![]⟩

class Facts : Prop where
  bitsLt_bf16_f32 : FTy.bits .bf16 < FTy.bits .f32
  concatenates_S16512x2048_S16512x256_S16512x2304_d1 : Shape.Concatenates [S16512x2048, S16512x256] S16512x2304 1
  bcast_S_S16512x2304 : S_.BroadcastsInDim S16512x2304 (![] : Fin 0 → Fin S16512x2304.rank)

variable [Facts]

def fn {F : FTy → Type} [FloatOps F] (main_arg0 : FVec F S16512x2048 .bf16) (main_arg1 : FVec F S16512x256 .f32) (main_arg2 : FVec F S128x8x64 .f32) : IVec S16512x2304 1 :=
  let main_v0 : FVec F S16512x2048 .f32 := (extf .f32 · bitsLt_bf16_f32) main_arg0
  let main_v1 : FVec F S16512x2048 .f32 := Host.absf main_v0
  let main_v2 : FVec F S16512x256 .f32 := Host.absf main_arg1
  let main_v3 : FVec F S16512x2304 .f32 := (fun a b => concatenate S16512x2304 1 [⟨S16512x2048, a⟩, ⟨S16512x256, b⟩] concatenates_S16512x2048_S16512x256_S16512x2304_d1) main_v1 main_v2
  let main_cst : FVec F S_ .f32 := constant S_ .f32 0x7F800000#32
  let main_v4 : FVec F S16512x2304 .f32 := broadcastInDim S16512x2304 ![] bcast_S_S16512x2304 main_cst
  let main_v5 : IVec S16512x2304 1 := cmpf .olt main_v3 main_v4
  main_v5
-- ==== Pre_finite_fox.lean ====
abbrev S16512x4480 : Shape := ⟨2, ![16512, 4480]⟩
abbrev S16384x128 : Shape := ⟨2, ![16384, 128]⟩
abbrev S64x2048 : Shape := ⟨2, ![64, 2048]⟩
abbrev S16384x512 : Shape := ⟨2, ![16384, 512]⟩
abbrev S16384x64 : Shape := ⟨2, ![16384, 64]⟩
abbrev S16384x8 : Shape := ⟨2, ![16384, 8]⟩
abbrev S16384x592 : Shape := ⟨2, ![16384, 592]⟩
abbrev S_ : Shape := ⟨0, ![]⟩

class Facts : Prop where
  slices_S16512x4480_S16384x512_0_2560 : S16512x4480.Slices ![0, 2560] S16384x512
  slices_S16512x4480_S16384x64_0_4224 : S16512x4480.Slices ![0, 4224] S16384x64
  slices_S16384x128_S16384x8_0_0 : S16384x128.Slices ![0, 0] S16384x8
  shapeCasts_S64x2048_S16384x8 : S64x2048.ShapeCasts S16384x8
  concatenates_S16384x512_S16384x64_S16384x8_S16384x8_S16384x592_d1 : Shape.Concatenates [S16384x512, S16384x64, S16384x8, S16384x8] S16384x592 1
  bcast_S_S16384x592 : S_.BroadcastsInDim S16384x592 (![] : Fin 0 → Fin S16384x592.rank)

variable [Facts]

def fn {F : FTy → Type} [FloatOps F] (main_arg0 : FVec F S16512x4480 .f32) (main_arg1 : FVec F S16384x128 .f32) (main_arg2 : FVec F S64x2048 .f32) : IVec S16384x592 1 :=
  let main_v0 : FVec F S16384x512 .f32 := (extractStridedSlice S16384x512 ![0, 2560] · slices_S16512x4480_S16384x512_0_2560) main_arg0
  let main_v1 : FVec F S16384x64 .f32 := (extractStridedSlice S16384x64 ![0, 4224] · slices_S16512x4480_S16384x64_0_4224) main_arg0
  let main_v2 : FVec F S16384x8 .f32 := (extractStridedSlice S16384x8 ![0, 0] · slices_S16384x128_S16384x8_0_0) main_arg1
  let main_v3 : FVec F S16384x8 .f32 := shapeCast S16384x8 main_arg2 shapeCasts_S64x2048_S16384x8
  let main_v4 : FVec F S16384x592 .f32 := concatenate S16384x592 1 [⟨S16384x512, main_v0⟩, ⟨S16384x64, main_v1⟩, ⟨S16384x8, main_v2⟩, ⟨S16384x8, main_v3⟩] concatenates_S16384x512_S16384x64_S16384x8_S16384x8_S16384x592_d1
  let main_v5 : FVec F S16384x592 .f32 := Host.absf main_v4
  let main_cst : FVec F S_ .f32 := constant S_ .f32 0x7F800000#32
  let main_v6 : FVec F S16384x592 .f32 := broadcastInDim S16384x592 ![] bcast_S_S16384x592 main_cst
  let main_v7 : IVec S16384x592 1 := cmpf .olt main_v5 main_v6
  main_v7
-- ==== Kernel.lean ====
abbrev S16512x2048 : Shape := ⟨2, ![16512, 2048]⟩
abbrev S16512x256 : Shape := ⟨2, ![16512, 256]⟩
abbrev S128x8x64 : Shape := ⟨3, ![128, 8, 64]⟩
abbrev S8x128x64 : Shape := ⟨3, ![8, 128, 64]⟩
abbrev S8x8 : Shape := ⟨2, ![8, 8]⟩
abbrev S_ : Shape := ⟨0, ![]⟩
abbrev S8x1x8x1 : Shape := ⟨4, ![8, 1, 8, 1]⟩
abbrev S8x128x1x64 : Shape := ⟨4, ![8, 128, 1, 64]⟩
abbrev S8x128x8x64 : Shape := ⟨4, ![8, 128, 8, 64]⟩
abbrev S1024x512 : Shape := ⟨2, ![1024, 512]⟩
abbrev S16384x512 : Shape := ⟨2, ![16384, 512]⟩
abbrev S128x2048 : Shape := ⟨2, ![128, 2048]⟩
abbrev S2048x256 : Shape := ⟨2, ![2048, 256]⟩
abbrev S128x512 : Shape := ⟨2, ![128, 512]⟩
abbrev S128x256 : Shape := ⟨2, ![128, 256]⟩
abbrev S1024x256 : Shape := ⟨2, ![1024, 256]⟩
abbrev S1024x1 : Shape := ⟨2, ![1024, 1]⟩
abbrev S1024x128 : Shape := ⟨2, ![1024, 128]⟩
abbrev S256x256 : Shape := ⟨2, ![256, 256]⟩
abbrev S256x128 : Shape := ⟨2, ![256, 128]⟩
abbrev S1024 : Shape := ⟨1, ![1024]⟩
abbrev S128x128 : Shape := ⟨2, ![128, 128]⟩
abbrev S128x1024 : Shape := ⟨2, ![128, 1024]⟩

abbrev nBuf : Space → Nat
  | .hbm => 21
  | .vmem => 7
  | .smem => 0
  | _ => 0

abbrev bufTy : (tb : Table) → Fin (tcTables nBuf tb) → BufTy
  | .hbm, ⟨0, _⟩ => ⟨S16512x2048, .bf16⟩
  | .hbm, ⟨1, _⟩ => ⟨S16512x256, .f32⟩
  | .hbm, ⟨2, _⟩ => ⟨S128x8x64, .f32⟩
  | .hbm, ⟨3, _⟩ => ⟨S8x128x64, .f32⟩
  | .hbm, ⟨4, _⟩ => ⟨S8x8, .i32⟩
  | .hbm, ⟨5, _⟩ => ⟨S8x8, .i32⟩
  | .hbm, ⟨6, _⟩ => ⟨S_, .i32⟩
  | .hbm, ⟨7, _⟩ => ⟨S8x8, .i32⟩
  | .hbm, ⟨8, _⟩ => ⟨S8x8, .i32⟩
  | .hbm, ⟨9, _⟩ => ⟨S8x8, .i1⟩
  | .hbm, ⟨10, _⟩ => ⟨S8x1x8x1, .i1⟩
  | .hbm, ⟨11, _⟩ => ⟨S8x128x1x64, .f32⟩
  | .hbm, ⟨12, _⟩ => ⟨S_, .i32⟩
  | .hbm, ⟨13, _⟩ => ⟨S_, .f32⟩
  | .hbm, ⟨14, _⟩ => ⟨S8x128x8x64, .i1⟩
  | .hbm, ⟨15, _⟩ => ⟨S8x128x8x64, .f32⟩
  | .hbm, ⟨16, _⟩ => ⟨S8x128x8x64, .f32⟩
  | .hbm, ⟨17, _⟩ => ⟨S8x128x8x64, .f32⟩
  | .hbm, ⟨18, _⟩ => ⟨S1024x512, .f32⟩
  | .hbm, ⟨19, _⟩ => ⟨S1024x512, .bf16⟩
  | .hbm, ⟨20, _⟩ => ⟨S16384x512, .bf16⟩
  | .local _ .vmem, ⟨0, _⟩ => ⟨S128x2048, .bf16⟩
  | .local _ .vmem, ⟨1, _⟩ => ⟨S128x2048, .bf16⟩
  | .local _ .vmem, ⟨2, _⟩ => ⟨S2048x256, .f32⟩
  | .local _ .vmem, ⟨3, _⟩ => ⟨S2048x256, .f32⟩
  | .local _ .vmem, ⟨4, _⟩ => ⟨S1024x512, .bf16⟩
  | .local _ .vmem, ⟨5, _⟩ => ⟨S128x512, .bf16⟩
  | .local _ .vmem, ⟨6, _⟩ => ⟨S128x512, .bf16⟩
  | _, _ => ⟨S16512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_10 : BitVec 32 := 0#32
  let arg1 : BitVec 32 := BitVec.ofNat 32 (i 1).val
  let c128_i32 : BitVec 32 := 128#32
  let v0 : BitVec 32 := Scalar.muli arg1 c128_i32
  let c128_i32_1 : BitVec 32 := 128#32
  let v15 : BitVec 32 := Scalar.addi v0 c128_i32_1
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32_6 : BitVec 32 := 1#32
  let v32 : BitVec 32 := Scalar.subi v17 c1_i32_6
  let v33 : BitVec 32 := Scalar.select v31 v32 v17
  let c1_i32_7 : BitVec 32 := 1#32
  let v34 : BitVec 32 := Scalar.addi v33 c1_i32_7
  let v38 : BitVec 32 := Scalar.subi v34 c0_i32_10
  let c1_i32_11 : BitVec 32 := 1#32
  let v40 : BitVec 32 := Scalar.divsi v38 c1_i32_11
  let v41 : BitVec 32 := Scalar.muli v40 c1_i32_11
  let v42 : BitVec 32 := Scalar.addi c0_i32_10 v41
  let c1_i32_12 : BitVec 32 := 1#32
  ⟨c0_i32_10, v42, c1_i32_12⟩
def k0_mult1 (i : grid0.Coords) (k0_t1 : Fin (k0_t1_loop i).trips) : BitVec 32 :=
  let c0_i32_10 : BitVec 32 := 0#32
  let c1_i32_12 : BitVec 32 := 1#32
  let arg6 : BitVec 32 := Scf.iv c0_i32_10 c1_i32_12 k0_t1
  let c256_i32_19 : BitVec 32 := 256#32
  let v62 : BitVec 32 := Scalar.muli arg6 c256_i32_19
  v62
def k0_off1 (i : grid0.Coords) (k0_t1 : Fin (k0_t1_loop i).trips) : Fin 2 → Nat :=
  let c0_i32_10 : BitVec 32 := 0#32
  let c1_i32_12 : BitVec 32 := 1#32
  let arg6 : BitVec 32 := Scf.iv c0_i32_10 c1_i32_12 k0_t1
  let c256_i32_19 : BitVec 32 := 256#32
  let v62 : BitVec 32 := Scalar.muli arg6 c256_i32_19
  let v63 : BitVec 32 := v62
  let v64 : Index := Scalar.indexCast v63
  let c0_20 : Index := 0#32
  ![v64.toNat, 0]
@[reducible] def k0_t2_loop (i : grid0.Coords) : Scf.Loop 32 :=
  let c0_i32_10 : BitVec 32 := 0#32
  let arg1 : BitVec 32 := BitVec.ofNat 32 (i 1).val
  let c128_i32 : BitVec 32 := 128#32
  let v0 : BitVec 32 := Scalar.muli arg1 c128_i32
  let c128_i32_1 : BitVec 32 := 128#32
  let v15 : BitVec 32 := Scalar.addi v0 c128_i32_1
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32_6 : BitVec 32 := 1#32
  let v32 : BitVec 32 := Scalar.subi v17 c1_i32_6
  let v33 : BitVec 32 := Scalar.select v31 v32 v17
  let c1_i32_7 : BitVec 32 := 1#32
  let v34 : BitVec 32 := Scalar.addi v33 c1_i32_7
  let v38 : BitVec 32 := Scalar.subi v34 c0_i32_10
  let c1_i32_11 : BitVec 32 := 1#32
  let v40 : BitVec 32 := Scalar.divsi v38 c1_i32_11
  let v41 : BitVec 32 := Scalar.muli v40 c1_i32_11
  let v42 : BitVec 32 := Scalar.addi c0_i32_10 v41
  let v39 : BitVec 32 := Scalar.addi c0_i32_10 v38
  let c1_i32_13 : BitVec 32 := 1#32
  ⟨v42, v39, c1_i32_13⟩
def k0_mult2 (i : grid0.Coords) (k0_t2 : Fin (k0_t2_loop i).trips) : BitVec 32 :=
  let c0_i32_10 : BitVec 32 := 0#32
  let arg1 : BitVec 32 := BitVec.ofNat 32 (i 1).val
  let c128_i32 : BitVec 32 := 128#32
  let v0 : BitVec 32 := Scalar.muli arg1 c128_i32
  let c128_i32_1 : BitVec 32 := 128#32
  let v15 : BitVec 32 := Scalar.addi v0 c128_i32_1
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32_6 : BitVec 32 := 1#32
  let v32 : BitVec 32 := Scalar.subi v17 c1_i32_6
  let v33 : BitVec 32 := Scalar.select v31 v32 v17
  let c1_i32_7 : BitVec 32 := 1#32
  let v34 : BitVec 32 := Scalar.addi v33 c1_i32_7
  let v38 : BitVec 32 := Scalar.subi v34 c0_i32_10
  let c1_i32_11 : BitVec 32 := 1#32
  let v40 : BitVec 32 := Scalar.divsi v38 c1_i32_11
  let v41 : BitVec 32 := Scalar.muli v40 c1_i32_11
  let v42 : BitVec 32 := Scalar.addi c0_i32_10 v41
  let c1_i32_13 : BitVec 32 := 1#32
  let arg6 : BitVec 32 := Scf.iv v42 c1_i32_13 k0_t2
  let c256_i32_19 : BitVec 32 := 256#32
  let v62 : BitVec 32 := Scalar.muli arg6 c256_i32_19
  v62
def k0_off2 (i : grid0.Coords) (k0_t2 : Fin (k0_t2_loop i).trips) : Fin 2 → Nat :=
  let c0_i32_10 : BitVec 32 := 0#32
  let arg1 : BitVec 32 := BitVec.ofNat 32 (i 1).val
  let c128_i32 : BitVec 32 := 128#32
  let v0 : BitVec 32 := Scalar.muli arg1 c128_i32
  let c128_i32_1 : BitVec 32 := 128#32
  let v15 : BitVec 32 := Scalar.addi v0 c128_i32_1
  let c1_i32 : BitVec 32 := 1#32
  let v16 : BitVec 32 := Scalar.subi v15 c1_i32
  let c0_i32 : BitVec 32 := 0#32
  let v18 : BitVec 1 := Scalar.cmpi .sgt v16 c0_i32
  let v19 : BitVec 32 := Scalar.extui v18
  let c0_i32_2 : BitVec 32 := 0#32
  let v20 : BitVec 1 := Scalar.cmpi .slt v16 c0_i32_2
  let v21 : BitVec 32 := Scalar.extui v20
  let v22 : BitVec 32 := Scalar.subi v19 v21
  let c256_i32 : BitVec 32 := 256#32
  let c0_i32_3 : BitVec 32 := 0#32
  let v23 : BitVec 1 := Scalar.cmpi .sgt c256_i32 c0_i32_3
  let v24 : BitVec 32 := Scalar.extui v23
  let c0_i32_4 : BitVec 32 := 0#32
  let v25 : BitVec 1 := Scalar.cmpi .slt c256_i32 c0_i32_4
  let v26 : BitVec 32 := Scalar.extui v25
  let v27 : BitVec 32 := Scalar.subi v24 v26
  let v28 : BitVec 1 := Scalar.cmpi .ne v22 v27
  let v29 : BitVec 32 := Scalar.remsi v16 c256_i32
  let c0_i32_5 : BitVec 32 := 0#32
  let v30 : BitVec 1 := Scalar.cmpi .ne v29 c0_i32_5
  let v31 : BitVec 1 := Scalar.andi v28 v30
  let v17 : BitVec 32 := Scalar.divsi v16 c256_i32
  let c1_i32_6 : BitVec 32 := 1#32
  let v32 : BitVec 32 := Scalar.subi v17 c1_i32_6
  let v33 : BitVec 32 := Scalar.select v31 v32 v17
  let c1_i32_7 : BitVec 32 := 1#32
  let v34 : BitVec 32 := Scalar.addi v33 c1_i32_7
  let v38 : BitVec 32 := Scalar.subi v34 c0_i32_10
  let c1_i32_11 : BitVec 32 := 1#32
  let v40 : BitVec 32 := Scalar.divsi v38 c1_i32_11
  let v41 : BitVec 32 := Scalar.muli v40 c1_i32_11
  let v42 : BitVec 32 := Scalar.addi c0_i32_10 v41
  let c1_i32_13 : BitVec 32 := 1#32
  let arg6 : BitVec 32 := Scf.iv v42 c1_i32_13 k0_t2
  let c256_i32_19 : BitVec 32 := 256#32
  let v62 : BitVec 32 := Scalar.muli arg6 c256_i32_19
  let v63 : BitVec 32 := v62
  let v64 : Index := Scalar.indexCast v63
  let c0_20 : Index := 0#32
  ![v64.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16512x2048 : Shape := ⟨2, ![16512, 2048]⟩
abbrev S16512x256 : Shape := ⟨2, ![16512, 256]⟩
abbrev S128x8x64 : Shape := ⟨3, ![128, 8, 64]⟩
abbrev S16384x2048 : Shape := ⟨2, ![16384, 2048]⟩
abbrev S8x2048x8x256 : Shape := ⟨4, ![8, 2048, 8, 256]⟩
abbrev S16384x256 : Shape := ⟨2, ![16384, 256]⟩
abbrev S8x2048x256 : Shape := ⟨3, ![8, 2048, 256]⟩
abbrev S2048 : Shape := ⟨1, ![2048]⟩
abbrev S8x2048x2048x8 : Shape := ⟨4, ![8, 2048, 2048, 8]⟩
abbrev S8x8x2048x2048 : Shape := ⟨4, ![8, 8, 2048, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x8x2048 : Shape := ⟨3, ![8, 8, 2048]⟩
abbrev S8x8x2048x1 : Shape := ⟨4, ![8, 8, 2048, 1]⟩
abbrev S8x256x8x2048 : Shape := ⟨4, ![8, 256, 8, 2048]⟩
abbrev S8x2048x8x128 : Shape := ⟨4, ![8, 2048, 8, 128]⟩
abbrev S8x64x8x2048 : Shape := ⟨4, ![8, 64, 8, 2048]⟩
abbrev S8x2048x8x64 : Shape := ⟨4, ![8, 2048, 8, 64]⟩
abbrev S16384x512 : Shape := ⟨2, ![16384, 512]⟩

abbrev nBuf : Space → Nat
  | .hbm => 42
  | .vmem => 0
  | .smem => 0
  | _ => 0

abbrev bufTy : (tb : Table) → Fin (tcTables nBuf tb) → BufTy
  | .hbm, ⟨0, _⟩ => ⟨S16512x2048, .bf16⟩
  | .hbm, ⟨1, _⟩ => ⟨S16512x256, .f32⟩
  | .hbm, ⟨2, _⟩ => ⟨S128x8x64, .f32⟩
  | .hbm, ⟨3, _⟩ => ⟨S16384x2048, .bf16⟩
  | .hbm, ⟨4, _⟩ => ⟨S8x2048x8x256, .bf16⟩
  | .hbm, ⟨5, _⟩ => ⟨S8x2048x8x256, .f32⟩
  | .hbm, ⟨6, _⟩ => ⟨S16384x256, .f32⟩
  | .hbm, ⟨7, _⟩ => ⟨S8x2048x256, .f32⟩
  | .hbm, ⟨8, _⟩ => ⟨S2048, .i32⟩
  | .hbm, ⟨9, _⟩ => ⟨S8x2048x2048x8, .f32⟩
  | .hbm, ⟨10, _⟩ => ⟨S8x8x2048x2048, .f32⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .f32⟩
  | .hbm, ⟨17, _⟩ => ⟨S_, .f32⟩
  | .hbm, ⟨18, _⟩ => ⟨S8x8x2048x2048, .i1⟩
  | .hbm, ⟨19, _⟩ => ⟨S8x8x2048x2048, .f32⟩
  | .hbm, ⟨20, _⟩ => ⟨S8x8x2048x2048, .f32⟩
  | .hbm, ⟨21, _⟩ => ⟨S_, .f32⟩
  | .hbm, ⟨22, _⟩ => ⟨S8x8x2048, .f32⟩
  | .hbm, ⟨23, _⟩ => ⟨S_, .f32⟩
  | .hbm, ⟨24, _⟩ => ⟨S8x8x2048, .f32⟩
  | .hbm, ⟨25, _⟩ => ⟨S8x8x2048, .f32⟩
  | .hbm, ⟨26, _⟩ => ⟨S8x8x2048x1, .f32⟩
  | .hbm, ⟨27, _⟩ => ⟨S8x8x2048x2048, .f32⟩
  | .hbm, ⟨28, _⟩ => ⟨S8x8x2048x2048, .f32⟩
  | .hbm, ⟨29, _⟩ => ⟨S8x8x2048x2048, .f32⟩
  | .hbm, ⟨30, _⟩ => ⟨S_, .f32⟩
  | .hbm, ⟨31, _⟩ => ⟨S8x8x2048, .f32⟩
  | .hbm, ⟨32, _⟩ => ⟨S8x8x2048x1, .f32⟩
  | .hbm, ⟨33, _⟩ => ⟨S8x8x2048x2048, .f32⟩
  | .hbm, ⟨34, _⟩ => ⟨S8x8x2048x2048, .f32⟩
  | .hbm, ⟨35, _⟩ => ⟨S8x256x8x2048, .f32⟩
  | .hbm, ⟨36, _⟩ => ⟨S8x2048x8x256, .f32⟩
  | .hbm, ⟨37, _⟩ => ⟨S8x2048x8x128, .f32⟩
  | .hbm, ⟨38, _⟩ => ⟨S8x64x8x2048, .f32⟩
  | .hbm, ⟨39, _⟩ => ⟨S8x2048x8x64, .f32⟩
  | .hbm, ⟨40, _⟩ => ⟨S16384x512, .f32⟩
  | .hbm, ⟨41, _⟩ => ⟨S16384x512, .bf16⟩
  | _, _ => ⟨S16512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel2.lean ====
abbrev S16512x2048 : Shape := ⟨2, ![16512, 2048]⟩
abbrev S2048 : Shape := ⟨1, ![2048]⟩
abbrev S2048x8192 : Shape := ⟨2, ![2048, 8192]⟩
abbrev S4096x2048 : Shape := ⟨2, ![4096, 2048]⟩
abbrev S1x2048 : Shape := ⟨2, ![1, 2048]⟩
abbrev S384x2048 : Shape := ⟨2, ![384, 2048]⟩
abbrev S2048x1024 : Shape := ⟨2, ![2048, 1024]⟩
abbrev S1024x2048 : Shape := ⟨2, ![1024, 2048]⟩
abbrev S384 : Shape := ⟨1, ![384]⟩
abbrev S384x1 : Shape := ⟨2, ![384, 1]⟩
abbrev S384x1024 : Shape := ⟨2, ![384, 1024]⟩

abbrev nBuf : Space → Nat
  | .hbm => 8
  | .vmem => 13
  | .smem => 0
  | _ => 0

abbrev bufTy : (tb : Table) → Fin (tcTables nBuf tb) → BufTy
  | .hbm, ⟨0, _⟩ => ⟨S16512x2048, .f32⟩
  | .hbm, ⟨1, _⟩ => ⟨S2048, .f32⟩
  | .hbm, ⟨2, _⟩ => ⟨S2048x8192, .f32⟩
  | .hbm, ⟨3, _⟩ => ⟨S4096x2048, .f32⟩
  | .hbm, ⟨4, _⟩ => ⟨S2048x8192, .bf16⟩
  | .hbm, ⟨5, _⟩ => ⟨S4096x2048, .bf16⟩
  | .hbm, ⟨6, _⟩ => ⟨S1x2048, .f32⟩
  | .hbm, ⟨7, _⟩ => ⟨S16512x2048, .f32⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S1024x2048, .bf16⟩
  | .local _ .vmem, ⟨8, _⟩ => ⟨S1024x2048, .bf16⟩
  | .local _ .vmem, ⟨9, _⟩ => ⟨S384x2048, .f32⟩
  | .local _ .vmem, ⟨10, _⟩ => ⟨S384x2048, .f32⟩
  | .local _ .vmem, ⟨11, _⟩ => ⟨S384x2048, .bf16⟩
  | .local _ .vmem, ⟨12, _⟩ => ⟨S384x2048, .f32⟩
  | _, _ => ⟨S16512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![43, 4], ![false, false]⟩

def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S384x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16512x2048 : Shape := ⟨2, ![16512, 2048]⟩
abbrev S2048 : Shape := ⟨1, ![2048]⟩
abbrev S2048x8192 : Shape := ⟨2, ![2048, 8192]⟩
abbrev S4096x2048 : Shape := ⟨2, ![4096, 2048]⟩
abbrev S_ : Shape := ⟨0, ![]⟩
abbrev S16512 : Shape := ⟨1, ![16512]⟩
abbrev S16512x1 : Shape := ⟨2, ![16512, 1]⟩
abbrev S1x2048 : Shape := ⟨2, ![1, 2048]⟩
abbrev S16512x8192 : Shape := ⟨2, ![16512, 8192]⟩
abbrev S16512x4096 : Shape := ⟨2, ![16512, 4096]⟩

abbrev nBuf : Space → Nat
  | .hbm => 38
  | .vmem => 0
  | .smem => 0
  | _ => 0

abbrev bufTy : (tb : Table) → Fin (tcTables nBuf tb) → BufTy
  | .hbm, ⟨0, _⟩ => ⟨S16512x2048, .f32⟩
  | .hbm, ⟨1, _⟩ => ⟨S2048, .f32⟩
  | .hbm, ⟨2, _⟩ => ⟨S2048x8192, .f32⟩
  | .hbm, ⟨3, _⟩ => ⟨S4096x2048, .f32⟩
  | .hbm, ⟨4, _⟩ => ⟨S16512x2048, .f32⟩
  | .hbm, ⟨5, _⟩ => ⟨S_, .f32⟩
  | .hbm, ⟨6, _⟩ => ⟨S16512, .f32⟩
  | .hbm, ⟨7, _⟩ => ⟨S16512x1, .f32⟩
  | .hbm, ⟨8, _⟩ => ⟨S_, .f32⟩
  | .hbm, ⟨9, _⟩ => ⟨S16512x1, .f32⟩
  | .hbm, ⟨10, _⟩ => ⟨S16512x1, .f32⟩
  | .hbm, ⟨11, _⟩ => ⟨S_, .f32⟩
  | .hbm, ⟨12, _⟩ => ⟨S16512x1, .f32⟩
  | .hbm, ⟨13, _⟩ => ⟨S16512x1, .f32⟩
  | .hbm, ⟨14, _⟩ => ⟨S16512x1, .f32⟩
  | .hbm, ⟨15, _⟩ => ⟨S16512x2048, .f32⟩
  | .hbm, ⟨16, _⟩ => ⟨S16512x2048, .f32⟩
  | .hbm, ⟨17, _⟩ => ⟨S1x2048, .f32⟩
  | .hbm, ⟨18, _⟩ => ⟨S16512x2048, .f32⟩
  | .hbm, ⟨19, _⟩ => ⟨S16512x2048, .f32⟩
  | .hbm, ⟨20, _⟩ => ⟨S16512x8192, .f32⟩
  | .hbm, ⟨21, _⟩ => ⟨S16512x4096, .f32⟩
  | .hbm, ⟨22, _⟩ => ⟨S16512x4096, .f32⟩
  | .hbm, ⟨23, _⟩ => ⟨S16512x4096, .f32⟩
  | .hbm, ⟨24, _⟩ => ⟨S_, .f32⟩
  | .hbm, ⟨25, _⟩ => ⟨S16512x4096, .f32⟩
  | .hbm, ⟨26, _⟩ => ⟨S16512x4096, .f32⟩
  | .hbm, ⟨27, _⟩ => ⟨S_, .f32⟩
  | .hbm, ⟨28, _⟩ => ⟨S16512x4096, .f32⟩
  | .hbm, ⟨29, _⟩ => ⟨S16512x4096, .f32⟩
  | .hbm, ⟨30, _⟩ => ⟨S16512x4096, .f32⟩
  | .hbm, ⟨31, _⟩ => ⟨S16512x4096, .f32⟩
  | .hbm, ⟨32, _⟩ => ⟨S16512x4096, .f32⟩
  | .hbm, ⟨33, _⟩ => ⟨S16512x2048, .f32⟩
  | .hbm, ⟨34, _⟩ => ⟨S_, .f32⟩
  | .hbm, ⟨35, _⟩ => ⟨S16512x2048, .f32⟩
  | .hbm, ⟨36, _⟩ => ⟨S16512x2048, .f32⟩
  | .hbm, ⟨37, _⟩ => ⟨S16512x2048, .f32⟩
  | _, _ => ⟨S16512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel3.lean ====
abbrev S16512x2048 : Shape := ⟨2, ![16512, 2048]⟩
abbrev S2048 : Shape := ⟨1, ![2048]⟩
abbrev S4x16512x512 : Shape := ⟨3, ![4, 16512, 512]⟩
abbrev S2048x8192 : Shape := ⟨2, ![2048, 8192]⟩
abbrev S4x512x2048 : Shape := ⟨3, ![4, 512, 2048]⟩
abbrev S2048x2048 : Shape := ⟨2, ![2048, 2048]⟩
abbrev S1x2048 : Shape := ⟨2, ![1, 2048]⟩
abbrev S384x2048 : Shape := ⟨2, ![384, 2048]⟩
abbrev S1x384x512 : Shape := ⟨3, ![1, 384, 512]⟩
abbrev S2048x1024 : Shape := ⟨2, ![2048, 1024]⟩
abbrev S1x512x1024 : Shape := ⟨3, ![1, 512, 1024]⟩
abbrev S2x384x1024 : Shape := ⟨3, ![2, 384, 1024]⟩
abbrev S384 : Shape := ⟨1, ![384]⟩
abbrev S384x1 : Shape := ⟨2, ![384, 1]⟩
abbrev S384x1024 : Shape := ⟨2, ![384, 1024]⟩
abbrev S1x384x1024 : Shape := ⟨3, ![1, 384, 1024]⟩
abbrev S384x512 : Shape := ⟨2, ![384, 512]⟩
abbrev S512x1024 : Shape := ⟨2, ![512, 1024]⟩
abbrev S1024x2048 : Shape := ⟨2, ![1024, 2048]⟩

abbrev nBuf : Space → Nat
  | .hbm => 11
  | .vmem => 14
  | .smem => 0
  | _ => 0

abbrev bufTy : (tb : Table) → Fin (tcTables nBuf tb) → BufTy
  | .hbm, ⟨0, _⟩ => ⟨S16512x2048, .f32⟩
  | .hbm, ⟨1, _⟩ => ⟨S2048, .f32⟩
  | .hbm, ⟨2, _⟩ => ⟨S4x16512x512, .bf16⟩
  | .hbm, ⟨3, _⟩ => ⟨S2048x8192, .f32⟩
  | .hbm, ⟨4, _⟩ => ⟨S4x512x2048, .f32⟩
  | .hbm, ⟨5, _⟩ => ⟨S2048x2048, .f32⟩
  | .hbm, ⟨6, _⟩ => ⟨S2048x8192, .bf16⟩
  | .hbm, ⟨7, _⟩ => ⟨S4x512x2048, .bf16⟩
  | .hbm, ⟨8, _⟩ => ⟨S2048x2048, .bf16⟩
  | .hbm, ⟨9, _⟩ => ⟨S1x2048, .f32⟩
  | .hbm, ⟨10, _⟩ => ⟨S16512x2048, .f32⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S1x384x512, .bf16⟩
  | .local _ .vmem, ⟨4, _⟩ => ⟨S1x384x512, .bf16⟩
  | .local _ .vmem, ⟨5, _⟩ => ⟨S2048x1024, .bf16⟩
  | .local _ .vmem, ⟨6, _⟩ => ⟨S2048x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S2048x2048, .bf16⟩
  | .local _ .vmem, ⟨10, _⟩ => ⟨S384x2048, .f32⟩
  | .local _ .vmem, ⟨11, _⟩ => ⟨S384x2048, .f32⟩
  | .local _ .vmem, ⟨12, _⟩ => ⟨S384x2048, .bf16⟩
  | .local _ .vmem, ⟨13, _⟩ => ⟨S2x384x1024, .f32⟩
  | _, _ => ⟨S16512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![43, 8], ![false, false]⟩

def k0_off1 (i : grid0.Coords) : Fin 3 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v18 : Index := Scalar.indexCast v9
  let c0_8 : Index := 0#32
  let c0_9 : Index := 0#32
  ![v18.toNat, 0, 0]
def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_19 : BitVec 32 := 0#32
  let v34 : BitVec 1 := Scalar.cmpi .ne v33 c0_i32_19
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg0.toNat, c0_i32_4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S384x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16512x2048 : Shape := ⟨2, ![16512, 2048]⟩
abbrev S2048 : Shape := ⟨1, ![2048]⟩
abbrev S4x16512x512 : Shape := ⟨3, ![4, 16512, 512]⟩
abbrev S2048x8192 : Shape := ⟨2, ![2048, 8192]⟩
abbrev S4x512x2048 : Shape := ⟨3, ![4, 512, 2048]⟩
abbrev S2048x2048 : Shape := ⟨2, ![2048, 2048]⟩
abbrev S_ : Shape := ⟨0, ![]⟩
abbrev S16512 : Shape := ⟨1, ![16512]⟩
abbrev S16512x1 : Shape := ⟨2, ![16512, 1]⟩
abbrev S1x2048 : Shape := ⟨2, ![1, 2048]⟩
abbrev S16512x8192 : Shape := ⟨2, ![16512, 8192]⟩
abbrev S16512x4x2048 : Shape := ⟨3, ![16512, 4, 2048]⟩
abbrev S4x2048x16512 : Shape := ⟨3, ![4, 2048, 16512]⟩

abbrev nBuf : Space → Nat
  | .hbm => 40
  | .vmem => 0
  | .smem => 0
  | _ => 0

abbrev bufTy : (tb : Table) → Fin (tcTables nBuf tb) → BufTy
  | .hbm, ⟨0, _⟩ => ⟨S16512x2048, .f32⟩
  | .hbm, ⟨1, _⟩ => ⟨S2048, .f32⟩
  | .hbm, ⟨2, _⟩ => ⟨S4x16512x512, .bf16⟩
  | .hbm, ⟨3, _⟩ => ⟨S2048x8192, .f32⟩
  | .hbm, ⟨4, _⟩ => ⟨S4x512x2048, .f32⟩
  | .hbm, ⟨5, _⟩ => ⟨S2048x2048, .f32⟩
  | .hbm, ⟨6, _⟩ => ⟨S16512x2048, .f32⟩
  | .hbm, ⟨7, _⟩ => ⟨S_, .f32⟩
  | .hbm, ⟨8, _⟩ => ⟨S16512, .f32⟩
  | .hbm, ⟨9, _⟩ => ⟨S16512x1, .f32⟩
  | .hbm, ⟨10, _⟩ => ⟨S_, .f32⟩
  | .hbm, ⟨11, _⟩ => ⟨S16512x1, .f32⟩
  | .hbm, ⟨12, _⟩ => ⟨S16512x1, .f32⟩
  | .hbm, ⟨13, _⟩ => ⟨S_, .f32⟩
  | .hbm, ⟨14, _⟩ => ⟨S16512x1, .f32⟩
  | .hbm, ⟨15, _⟩ => ⟨S16512x1, .f32⟩
  | .hbm, ⟨16, _⟩ => ⟨S16512x1, .f32⟩
  | .hbm, ⟨17, _⟩ => ⟨S16512x2048, .f32⟩
  | .hbm, ⟨18, _⟩ => ⟨S16512x2048, .f32⟩
  | .hbm, ⟨19, _⟩ => ⟨S1x2048, .f32⟩
  | .hbm, ⟨20, _⟩ => ⟨S16512x2048, .f32⟩
  | .hbm, ⟨21, _⟩ => ⟨S16512x2048, .f32⟩
  | .hbm, ⟨22, _⟩ => ⟨S16512x8192, .f32⟩
  | .hbm, ⟨23, _⟩ => ⟨S16512x8192, .f32⟩
  | .hbm, ⟨24, _⟩ => ⟨S16512x8192, .f32⟩
  | .hbm, ⟨25, _⟩ => ⟨S_, .f32⟩
  | .hbm, ⟨26, _⟩ => ⟨S16512x8192, .f32⟩
  | .hbm, ⟨27, _⟩ => ⟨S16512x8192, .f32⟩
  | .hbm, ⟨28, _⟩ => ⟨S_, .f32⟩
  | .hbm, ⟨29, _⟩ => ⟨S16512x8192, .f32⟩
  | .hbm, ⟨30, _⟩ => ⟨S16512x8192, .f32⟩
  | .hbm, ⟨31, _⟩ => ⟨S16512x4x2048, .f32⟩
  | .hbm, ⟨32, _⟩ => ⟨S4x16512x512, .f32⟩
  | .hbm, ⟨33, _⟩ => ⟨S4x2048x16512, .f32⟩
  | .hbm, ⟨34, _⟩ => ⟨S16512x4x2048, .f32⟩
  | .hbm, ⟨35, _⟩ => ⟨S16512x4x2048, .f32⟩
  | .hbm, ⟨36, _⟩ => ⟨S_, .f32⟩
  | .hbm, ⟨37, _⟩ => ⟨S16512x2048, .f32⟩
  | .hbm, ⟨38, _⟩ => ⟨S16512x2048, .f32⟩
  | .hbm, ⟨39, _⟩ => ⟨S16512x2048, .f32⟩
  | _, _ => ⟨S16512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel4.lean ====
abbrev S16512x2048 : Shape := ⟨2, ![16512, 2048]⟩
abbrev S2048 : Shape := ⟨1, ![2048]⟩
abbrev S2048x4480 : Shape := ⟨2, ![2048, 4480]⟩
abbrev S1x2048 : Shape := ⟨2, ![1, 2048]⟩
abbrev S16512x4480 : Shape := ⟨2, ![16512, 4480]⟩
abbrev S384x2048 : Shape := ⟨2, ![384, 2048]⟩
abbrev S384x4480 : Shape := ⟨2, ![384, 4480]⟩
abbrev S384 : Shape := ⟨1, ![384]⟩
abbrev S384x1 : Shape := ⟨2, ![384, 1]⟩

abbrev nBuf : Space → Nat
  | .hbm => 6
  | .vmem => 6
  | .smem => 0
  | _ => 0

abbrev bufTy : (tb : Table) → Fin (tcTables nBuf tb) → BufTy
  | .hbm, ⟨0, _⟩ => ⟨S16512x2048, .f32⟩
  | .hbm, ⟨1, _⟩ => ⟨S2048, .f32⟩
  | .hbm, ⟨2, _⟩ => ⟨S2048x4480, .f32⟩
  | .hbm, ⟨3, _⟩ => ⟨S2048x4480, .bf16⟩
  | .hbm, ⟨4, _⟩ => ⟨S1x2048, .f32⟩
  | .hbm, ⟨5, _⟩ => ⟨S16512x4480, .f32⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S2048x4480, .bf16⟩
  | .local _ .vmem, ⟨4, _⟩ => ⟨S384x4480, .f32⟩
  | .local _ .vmem, ⟨5, _⟩ => ⟨S384x4480, .f32⟩
  | _, _ => ⟨S16512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4480 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x4480 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16512x2048 : Shape := ⟨2, ![16512, 2048]⟩
abbrev S2048 : Shape := ⟨1, ![2048]⟩
abbrev S2048x4480 : Shape := ⟨2, ![2048, 4480]⟩
abbrev S_ : Shape := ⟨0, ![]⟩
abbrev S16512 : Shape := ⟨1, ![16512]⟩
abbrev S16512x1 : Shape := ⟨2, ![16512, 1]⟩
abbrev S1x2048 : Shape := ⟨2, ![1, 2048]⟩
abbrev S16512x4480 : Shape := ⟨2, ![16512, 4480]⟩

abbrev nBuf : Space → Nat
  | .hbm => 20
  | .vmem => 0
  | .smem => 0
  | _ => 0

abbrev bufTy : (tb : Table) → Fin (tcTables nBuf tb) → BufTy
  | .hbm, ⟨0, _⟩ => ⟨S16512x2048, .f32⟩
  | .hbm, ⟨1, _⟩ => ⟨S2048, .f32⟩
  | .hbm, ⟨2, _⟩ => ⟨S2048x4480, .f32⟩
  | .hbm, ⟨3, _⟩ => ⟨S16512x2048, .f32⟩
  | .hbm, ⟨4, _⟩ => ⟨S_, .f32⟩
  | .hbm, ⟨5, _⟩ => ⟨S16512, .f32⟩
  | .hbm, ⟨6, _⟩ => ⟨S16512x1, .f32⟩
  | .hbm, ⟨7, _⟩ => ⟨S_, .f32⟩
  | .hbm, ⟨8, _⟩ => ⟨S16512x1, .f32⟩
  | .hbm, ⟨9, _⟩ => ⟨S16512x1, .f32⟩
  | .hbm, ⟨10, _⟩ => ⟨S_, .f32⟩
  | .hbm, ⟨11, _⟩ => ⟨S16512x1, .f32⟩
  | .hbm, ⟨12, _⟩ => ⟨S16512x1, .f32⟩
  | .hbm, ⟨13, _⟩ => ⟨S16512x1, .f32⟩
  | .hbm, ⟨14, _⟩ => ⟨S16512x2048, .f32⟩
  | .hbm, ⟨15, _⟩ => ⟨S16512x2048, .f32⟩
  | .hbm, ⟨16, _⟩ => ⟨S1x2048, .f32⟩
  | .hbm, ⟨17, _⟩ => ⟨S16512x2048, .f32⟩
  | .hbm, ⟨18, _⟩ => ⟨S16512x2048, .f32⟩
  | .hbm, ⟨19, _⟩ => ⟨S16512x4480, .f32⟩
  | _, _ => ⟨S16512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel5.lean ====
abbrev S16512x2048 : Shape := ⟨2, ![16512, 2048]⟩
abbrev S2048 : Shape := ⟨1, ![2048]⟩
abbrev S16512x256 : Shape := ⟨2, ![16512, 256]⟩
abbrev S2048x2048 : Shape := ⟨2, ![2048, 2048]⟩
abbrev S256x2048 : Shape := ⟨2, ![256, 2048]⟩
abbrev S1x2048 : Shape := ⟨2, ![1, 2048]⟩
abbrev S384x2048 : Shape := ⟨2, ![384, 2048]⟩
abbrev S384x256 : Shape := ⟨2, ![384, 256]⟩
abbrev S384 : Shape := ⟨1, ![384]⟩
abbrev S384x1 : Shape := ⟨2, ![384, 1]⟩

abbrev nBuf : Space → Nat
  | .hbm => 11
  | .vmem => 10
  | .smem => 0
  | _ => 0

abbrev bufTy : (tb : Table) → Fin (tcTables nBuf tb) → BufTy
  | .hbm, ⟨0, _⟩ => ⟨S16512x2048, .f32⟩
  | .hbm, ⟨1, _⟩ => ⟨S2048, .f32⟩
  | .hbm, ⟨2, _⟩ => ⟨S16512x256, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S2048x2048, .bf16⟩
  | .hbm, ⟨7, _⟩ => ⟨S256x2048, .bf16⟩
  | .hbm, ⟨8, _⟩ => ⟨S1x2048, .f32⟩
  | .hbm, ⟨9, _⟩ => ⟨S1x2048, .f32⟩
  | .hbm, ⟨10, _⟩ => ⟨S16512x2048, .f32⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S384x256, .f32⟩
  | .local _ .vmem, ⟨4, _⟩ => ⟨S384x256, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S384x2048, .f32⟩
  | .local _ .vmem, ⟨9, _⟩ => ⟨S384x2048, .f32⟩
  | _, _ => ⟨S16512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S16512x2048 : Shape := ⟨2, ![16512, 2048]⟩
abbrev S2048 : Shape := ⟨1, ![2048]⟩
abbrev S16512x256 : Shape := ⟨2, ![16512, 256]⟩
abbrev S2048x2048 : Shape := ⟨2, ![2048, 2048]⟩
abbrev S256x2048 : Shape := ⟨2, ![256, 2048]⟩
abbrev S_ : Shape := ⟨0, ![]⟩
abbrev S16512 : Shape := ⟨1, ![16512]⟩
abbrev S16512x1 : Shape := ⟨2, ![16512, 1]⟩
abbrev S1x2048 : Shape := ⟨2, ![1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S16512x2048, .f32⟩
  | .hbm, ⟨1, _⟩ => ⟨S2048, .f32⟩
  | .hbm, ⟨2, _⟩ => ⟨S16512x256, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S16512x2048, .f32⟩
  | .hbm, ⟨7, _⟩ => ⟨S_, .f32⟩
  | .hbm, ⟨8, _⟩ => ⟨S16512, .f32⟩
  | .hbm, ⟨9, _⟩ => ⟨S16512x1, .f32⟩
  | .hbm, ⟨10, _⟩ => ⟨S_, .f32⟩
  | .hbm, ⟨11, _⟩ => ⟨S16512x1, .f32⟩
  | .hbm, ⟨12, _⟩ => ⟨S16512x1, .f32⟩
  | .hbm, ⟨13, _⟩ => ⟨S_, .f32⟩
  | .hbm, ⟨14, _⟩ => ⟨S16512x1, .f32⟩
  | .hbm, ⟨15, _⟩ => ⟨S16512x1, .f32⟩
  | .hbm, ⟨16, _⟩ => ⟨S16512x1, .f32⟩
  | .hbm, ⟨17, _⟩ => ⟨S16512x2048, .f32⟩
  | .hbm, ⟨18, _⟩ => ⟨S16512x2048, .f32⟩
  | .hbm, ⟨19, _⟩ => ⟨S1x2048, .f32⟩
  | .hbm, ⟨20, _⟩ => ⟨S16512x2048, .f32⟩
  | .hbm, ⟨21, _⟩ => ⟨S16512x2048, .f32⟩
  | .hbm, ⟨22, _⟩ => ⟨S16512x2048, .f32⟩
  | .hbm, ⟨23, _⟩ => ⟨S16512x2048, .f32⟩
  | .hbm, ⟨24, _⟩ => ⟨S16512x2048, .f32⟩
  | .hbm, ⟨25, _⟩ => ⟨S_, .f32⟩
  | .hbm, ⟨26, _⟩ => ⟨S16512x2048, .f32⟩
  | .hbm, ⟨27, _⟩ => ⟨S16512x2048, .f32⟩
  | .hbm, ⟨28, _⟩ => ⟨S_, .f32⟩
  | .hbm, ⟨29, _⟩ => ⟨S16512x2048, .f32⟩
  | .hbm, ⟨30, _⟩ => ⟨S16512x2048, .f32⟩
  | .hbm, ⟨31, _⟩ => ⟨S16512x2048, .f32⟩
  | .hbm, ⟨32, _⟩ => ⟨S16512x2048, .f32⟩
  | .hbm, ⟨33, _⟩ => ⟨S16512x2048, .f32⟩
  | _, _ => ⟨S16512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Kernel6.lean ====
abbrev S16512x2048 : Shape := ⟨2, ![16512, 2048]⟩
abbrev S2048 : Shape := ⟨1, ![2048]⟩
abbrev S16512x256 : Shape := ⟨2, ![16512, 256]⟩
abbrev S2048x2048 : Shape := ⟨2, ![2048, 2048]⟩
abbrev S256x2048 : Shape := ⟨2, ![256, 2048]⟩
abbrev S1x2048 : Shape := ⟨2, ![1, 2048]⟩
abbrev S384x2048 : Shape := ⟨2, ![384, 2048]⟩
abbrev S384x256 : Shape := ⟨2, ![384, 256]⟩
abbrev S384 : Shape := ⟨1, ![384]⟩
abbrev S384x1 : Shape := ⟨2, ![384, 1]⟩

abbrev nBuf : Space → Nat
  | .hbm => 11
  | .vmem => 10
  | .smem => 0
  | _ => 0

abbrev bufTy : (tb : Table) → Fin (tcTables nBuf tb) → BufTy
  | .hbm, ⟨0, _⟩ => ⟨S16512x2048, .f32⟩
  | .hbm, ⟨1, _⟩ => ⟨S2048, .f32⟩
  | .hbm, ⟨2, _⟩ => ⟨S16512x256, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S2048x2048, .bf16⟩
  | .hbm, ⟨7, _⟩ => ⟨S256x2048, .bf16⟩
  | .hbm, ⟨8, _⟩ => ⟨S1x2048, .f32⟩
  | .hbm, ⟨9, _⟩ => ⟨S1x2048, .f32⟩
  | .hbm, ⟨10, _⟩ => ⟨S16512x2048, .f32⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S384x256, .f32⟩
  | .local _ .vmem, ⟨4, _⟩ => ⟨S384x256, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S384x2048, .f32⟩
  | .local _ .vmem, ⟨9, _⟩ => ⟨S384x2048, .f32⟩
  | _, _ => ⟨S16512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S16512x2048 : Shape := ⟨2, ![16512, 2048]⟩
abbrev S2048 : Shape := ⟨1, ![2048]⟩
abbrev S16512x256 : Shape := ⟨2, ![16512, 256]⟩
abbrev S2048x2048 : Shape := ⟨2, ![2048, 2048]⟩
abbrev S256x2048 : Shape := ⟨2, ![256, 2048]⟩
abbrev S_ : Shape := ⟨0, ![]⟩
abbrev S16512 : Shape := ⟨1, ![16512]⟩
abbrev S16512x1 : Shape := ⟨2, ![16512, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S16512x2048, .f32⟩
  | .hbm, ⟨1, _⟩ => ⟨S2048, .f32⟩
  | .hbm, ⟨2, _⟩ => ⟨S16512x256, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S16512x2048, .f32⟩
  | .hbm, ⟨7, _⟩ => ⟨S_, .f32⟩
  | .hbm, ⟨8, _⟩ => ⟨S16512, .f32⟩
  | .hbm, ⟨9, _⟩ => ⟨S16512x1, .f32⟩
  | .hbm, ⟨10, _⟩ => ⟨S_, .f32⟩
  | .hbm, ⟨11, _⟩ => ⟨S16512x1, .f32⟩
  | .hbm, ⟨12, _⟩ => ⟨S16512x1, .f32⟩
  | .hbm, ⟨13, _⟩ => ⟨S_, .f32⟩
  | .hbm, ⟨14, _⟩ => ⟨S16512x1, .f32⟩
  | .hbm, ⟨15, _⟩ => ⟨S16512x1, .f32⟩
  | .hbm, ⟨16, _⟩ => ⟨S16512x1, .f32⟩
  | .hbm, ⟨17, _⟩ => ⟨S16512x2048, .f32⟩
  | .hbm, ⟨18, _⟩ => ⟨S16512x2048, .f32⟩
  | .hbm, ⟨19, _⟩ => ⟨S1x2048, .f32⟩
  | .hbm, ⟨20, _⟩ => ⟨S16512x2048, .f32⟩
  | .hbm, ⟨21, _⟩ => ⟨S16512x2048, .f32⟩
  | .hbm, ⟨22, _⟩ => ⟨S16512x2048, .f32⟩
  | .hbm, ⟨23, _⟩ => ⟨S16512x2048, .f32⟩
  | .hbm, ⟨24, _⟩ => ⟨S16512x2048, .f32⟩
  | .hbm, ⟨25, _⟩ => ⟨S_, .f32⟩
  | .hbm, ⟨26, _⟩ => ⟨S16512x2048, .f32⟩
  | .hbm, ⟨27, _⟩ => ⟨S16512x2048, .f32⟩
  | .hbm, ⟨28, _⟩ => ⟨S_, .f32⟩
  | .hbm, ⟨29, _⟩ => ⟨S16512x2048, .f32⟩
  | .hbm, ⟨30, _⟩ => ⟨S16512x2048, .f32⟩
  | .hbm, ⟨31, _⟩ => ⟨S16512x2048, .f32⟩
  | .hbm, ⟨32, _⟩ => ⟨S16512x2048, .f32⟩
  | .hbm, ⟨33, _⟩ => ⟨S16512x2048, .f32⟩
  | .hbm, ⟨34, _⟩ => ⟨S16512x2048, .f32⟩
  | .hbm, ⟨35, _⟩ => ⟨S_, .f32⟩
  | .hbm, ⟨36, _⟩ => ⟨S16512, .f32⟩
  | .hbm, ⟨37, _⟩ => ⟨S16512x1, .f32⟩
  | .hbm, ⟨38, _⟩ => ⟨S_, .f32⟩
  | .hbm, ⟨39, _⟩ => ⟨S16512x1, .f32⟩
  | .hbm, ⟨40, _⟩ => ⟨S16512x1, .f32⟩
  | .hbm, ⟨41, _⟩ => ⟨S_, .f32⟩
  | .hbm, ⟨42, _⟩ => ⟨S16512x1, .f32⟩
  | .hbm, ⟨43, _⟩ => ⟨S16512x1, .f32⟩
  | .hbm, ⟨44, _⟩ => ⟨S16512x1, .f32⟩
  | .hbm, ⟨45, _⟩ => ⟨S16512x2048, .f32⟩
  | .hbm, ⟨46, _⟩ => ⟨S16512x2048, .f32⟩
  | .hbm, ⟨47, _⟩ => ⟨S1x2048, .f32⟩
  | .hbm, ⟨48, _⟩ => ⟨S16512x2048, .f32⟩
  | .hbm, ⟨49, _⟩ => ⟨S16512x2048, .f32⟩
  | _, _ => ⟨S16512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel7.lean ====
abbrev S16512x4480 : Shape := ⟨2, ![16512, 4480]⟩
abbrev S16384x128 : Shape := ⟨2, ![16384, 128]⟩
abbrev S64x2048 : Shape := ⟨2, ![64, 2048]⟩
abbrev S16384x512 : Shape := ⟨2, ![16384, 512]⟩
abbrev S128x512 : Shape := ⟨2, ![128, 512]⟩
abbrev S2048x128 : Shape := ⟨2, ![2048, 128]⟩
abbrev S128x128 : Shape := ⟨2, ![128, 128]⟩
abbrev S8x2048 : Shape := ⟨2, ![8, 2048]⟩
abbrev S128x64 : Shape := ⟨2, ![128, 64]⟩
abbrev S1024x64 : Shape := ⟨2, ![1024, 64]⟩
abbrev S128x1 : Shape := ⟨2, ![128, 1]⟩
abbrev S1024x1 : Shape := ⟨2, ![1024, 1]⟩
abbrev S128x256 : Shape := ⟨2, ![128, 256]⟩
abbrev S256x128 : Shape := ⟨2, ![256, 128]⟩
abbrev S256x64 : Shape := ⟨2, ![256, 64]⟩
abbrev S1024x256 : Shape := ⟨2, ![1024, 256]⟩
abbrev S8x256 : Shape := ⟨2, ![8, 256]⟩
abbrev S1x256 : Shape := ⟨2, ![1, 256]⟩
abbrev S1024 : Shape := ⟨1, ![1024]⟩

abbrev nBuf : Space → Nat
  | .hbm => 4
  | .vmem => 10
  | .smem => 0
  | _ => 0

abbrev bufTy : (tb : Table) → Fin (tcTables nBuf tb) → BufTy
  | .hbm, ⟨0, _⟩ => ⟨S16512x4480, .f32⟩
  | .hbm, ⟨1, _⟩ => ⟨S16384x128, .f32⟩
  | .hbm, ⟨2, _⟩ => ⟨S64x2048, .f32⟩
  | .hbm, ⟨3, _⟩ => ⟨S16384x512, .bf16⟩
  | .local _ .vmem, ⟨0, _⟩ => ⟨S128x512, .f32⟩
  | .local _ .vmem, ⟨1, _⟩ => ⟨S128x512, .f32⟩
  | .local _ .vmem, ⟨2, _⟩ => ⟨S2048x128, .f32⟩
  | .local _ .vmem, ⟨3, _⟩ => ⟨S2048x128, .f32⟩
  | .local _ .vmem, ⟨4, _⟩ => ⟨S128x128, .f32⟩
  | .local _ .vmem, ⟨5, _⟩ => ⟨S128x128, .f32⟩
  | .local _ .vmem, ⟨6, _⟩ => ⟨S8x2048, .f32⟩
  | .local _ .vmem, ⟨7, _⟩ => ⟨S8x2048, .f32⟩
  | .local _ .vmem, ⟨8, _⟩ => ⟨S128x512, .bf16⟩
  | .local _ .vmem, ⟨9, _⟩ => ⟨S128x512, .bf16⟩
  | _, _ => ⟨S16512x4480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_13 : BitVec 32 := 0#32
  let arg1 : BitVec 32 := BitVec.ofNat 32 (i 1).val
  let c128_i32 : BitVec 32 := 128#32
  let v0 : BitVec 32 := Scalar.muli arg1 c128_i32
  let c128_i32_3 : BitVec 32 := 128#32
  let v28 : BitVec 32 := Scalar.addi v0 c128_i32_3
  let c1_i32 : BitVec 32 := 1#32
  let v29 : BitVec 32 := Scalar.subi v28 c1_i32
  let c0_i32 : BitVec 32 := 0#32
  let v31 : BitVec 1 := Scalar.cmpi .sgt v29 c0_i32
  let v32 : BitVec 32 := Scalar.extui v31
  let c0_i32_4 : BitVec 32 := 0#32
  let v33 : BitVec 1 := Scalar.cmpi .slt v29 c0_i32_4
  let v34 : BitVec 32 := Scalar.extui v33
  let v35 : BitVec 32 := Scalar.subi v32 v34
  let c256_i32 : BitVec 32 := 256#32
  let c0_i32_5 : BitVec 32 := 0#32
  let v36 : BitVec 1 := Scalar.cmpi .sgt c256_i32 c0_i32_5
  let v37 : BitVec 32 := Scalar.extui v36
  let c0_i32_6 : BitVec 32 := 0#32
  let v38 : BitVec 1 := Scalar.cmpi .slt c256_i32 c0_i32_6
  let v39 : BitVec 32 := Scalar.extui v38
  let v40 : BitVec 32 := Scalar.subi v37 v39
  let v41 : BitVec 1 := Scalar.cmpi .ne v35 v40
  let v42 : BitVec 32 := Scalar.remsi v29 c256_i32
  let c0_i32_7 : BitVec 32 := 0#32
  let v43 : BitVec 1 := Scalar.cmpi .ne v42 c0_i32_7
  let v44 : BitVec 1 := Scalar.andi v41 v43
  let v30 : BitVec 32 := Scalar.divsi v29 c256_i32
  let c1_i32_8 : BitVec 32 := 1#32
  let v45 : BitVec 32 := Scalar.subi v30 c1_i32_8
  let v46 : BitVec 32 := Scalar.select v44 v45 v30
  let c1_i32_9 : BitVec 32 := 1#32
  let v47 : BitVec 32 := Scalar.addi v46 c1_i32_9
  let v51 : BitVec 32 := Scalar.subi v47 c0_i32_13
  let c1_i32_14 : BitVec 32 := 1#32
  let v53 : BitVec 32 := Scalar.divsi v51 c1_i32_14
  let v54 : BitVec 32 := Scalar.muli v53 c1_i32_14
  let v55 : BitVec 32 := Scalar.addi c0_i32_13 v54
  let c1_i32_15 : BitVec 32 := 1#32
  ⟨c0_i32_13, v55, c1_i32_15⟩
def k0_mult1 (i : grid0.Coords) (k0_t1 : Fin (k0_t1_loop i).trips) : BitVec 32 :=
  let c0_i32_13 : BitVec 32 := 0#32
  let c1_i32_15 : BitVec 32 := 1#32
  let arg7 : BitVec 32 := Scf.iv c0_i32_13 c1_i32_15 k0_t1
  let c256_i32_19 : BitVec 32 := 256#32
  let v71 : BitVec 32 := Scalar.muli arg7 c256_i32_19
  v71
def k0_off1 (i : grid0.Coords) (k0_t1 : Fin (k0_t1_loop i).trips) : Fin 2 → Nat :=
  let c0_i32_13 : BitVec 32 := 0#32
  let c1_i32_15 : BitVec 32 := 1#32
  let arg7 : BitVec 32 := Scf.iv c0_i32_13 c1_i32_15 k0_t1
  let c256_i32_19 : BitVec 32 := 256#32
  let v71 : BitVec 32 := Scalar.muli arg7 c256_i32_19
  let v72 : BitVec 32 := v71
  let v73 : Index := Scalar.indexCast v72
  let c0_20 : Index := 0#32
  ![v73.toNat, 0]
def k0_off2 (i : grid0.Coords) (k0_t1 : Fin (k0_t1_loop i).trips) : Fin 2 → Nat :=
  let c0_22 : Index := 0#32
  let c0_i32_13 : BitVec 32 := 0#32
  let c1_i32_15 : BitVec 32 := 1#32
  let arg7 : BitVec 32 := Scf.iv c0_i32_13 c1_i32_15 k0_t1
  let c256_i32_19 : BitVec 32 := 256#32
  let v71 : BitVec 32 := Scalar.muli arg7 c256_i32_19
  let v72 : BitVec 32 := v71
  let v78 : Index := Scalar.indexCast v72
  ![0, v78.toNat]
@[reducible] def k0_t2_loop (i : grid0.Coords) : Scf.Loop 32 :=
  let c0_i32_13 : BitVec 32 := 0#32
  let arg1 : BitVec 32 := BitVec.ofNat 32 (i 1).val
  let c128_i32 : BitVec 32 := 128#32
  let v0 : BitVec 32 := Scalar.muli arg1 c128_i32
  let c128_i32_3 : BitVec 32 := 128#32
  let v28 : BitVec 32 := Scalar.addi v0 c128_i32_3
  let c1_i32 : BitVec 32 := 1#32
  let v29 : BitVec 32 := Scalar.subi v28 c1_i32
  let c0_i32 : BitVec 32 := 0#32
  let v31 : BitVec 1 := Scalar.cmpi .sgt v29 c0_i32
  let v32 : BitVec 32 := Scalar.extui v31
  let c0_i32_4 : BitVec 32 := 0#32
  let v33 : BitVec 1 := Scalar.cmpi .slt v29 c0_i32_4
  let v34 : BitVec 32 := Scalar.extui v33
  let v35 : BitVec 32 := Scalar.subi v32 v34
  let c256_i32 : BitVec 32 := 256#32
  let c0_i32_5 : BitVec 32 := 0#32
  let v36 : BitVec 1 := Scalar.cmpi .sgt c256_i32 c0_i32_5
  let v37 : BitVec 32 := Scalar.extui v36
  let c0_i32_6 : BitVec 32 := 0#32
  let v38 : BitVec 1 := Scalar.cmpi .slt c256_i32 c0_i32_6
  let v39 : BitVec 32 := Scalar.extui v38
  let v40 : BitVec 32 := Scalar.subi v37 v39
  let v41 : BitVec 1 := Scalar.cmpi .ne v35 v40
  let v42 : BitVec 32 := Scalar.remsi v29 c256_i32
  let c0_i32_7 : BitVec 32 := 0#32
  let v43 : BitVec 1 := Scalar.cmpi .ne v42 c0_i32_7
  let v44 : BitVec 1 := Scalar.andi v41 v43
  let v30 : BitVec 32 := Scalar.divsi v29 c256_i32
  let c1_i32_8 : BitVec 32 := 1#32
  let v45 : BitVec 32 := Scalar.subi v30 c1_i32_8
  let v46 : BitVec 32 := Scalar.select v44 v45 v30
  let c1_i32_9 : BitVec 32 := 1#32
  let v47 : BitVec 32 := Scalar.addi v46 c1_i32_9
  let v51 : BitVec 32 := Scalar.subi v47 c0_i32_13
  let c1_i32_14 : BitVec 32 := 1#32
  let v53 : BitVec 32 := Scalar.divsi v51 c1_i32_14
  let v54 : BitVec 32 := Scalar.muli v53 c1_i32_14
  let v55 : BitVec 32 := Scalar.addi c0_i32_13 v54
  let v52 : BitVec 32 := Scalar.addi c0_i32_13 v51
  let c1_i32_16 : BitVec 32 := 1#32
  ⟨v55, v52, c1_i32_16⟩
def k0_mult2 (i : grid0.Coords) (k0_t2 : Fin (k0_t2_loop i).trips) : BitVec 32 :=
  let c0_i32_13 : BitVec 32 := 0#32
  let arg1 : BitVec 32 := BitVec.ofNat 32 (i 1).val
  let c128_i32 : BitVec 32 := 128#32
  let v0 : BitVec 32 := Scalar.muli arg1 c128_i32
  let c128_i32_3 : BitVec 32 := 128#32
  let v28 : BitVec 32 := Scalar.addi v0 c128_i32_3
  let c1_i32 : BitVec 32 := 1#32
  let v29 : BitVec 32 := Scalar.subi v28 c1_i32
  let c0_i32 : BitVec 32 := 0#32
  let v31 : BitVec 1 := Scalar.cmpi .sgt v29 c0_i32
  let v32 : BitVec 32 := Scalar.extui v31
  let c0_i32_4 : BitVec 32 := 0#32
  let v33 : BitVec 1 := Scalar.cmpi .slt v29 c0_i32_4
  let v34 : BitVec 32 := Scalar.extui v33
  let v35 : BitVec 32 := Scalar.subi v32 v34
  let c256_i32 : BitVec 32 := 256#32
  let c0_i32_5 : BitVec 32 := 0#32
  let v36 : BitVec 1 := Scalar.cmpi .sgt c256_i32 c0_i32_5
  let v37 : BitVec 32 := Scalar.extui v36
  let c0_i32_6 : BitVec 32 := 0#32
  let v38 : BitVec 1 := Scalar.cmpi .slt c256_i32 c0_i32_6
  let v39 : BitVec 32 := Scalar.extui v38
  let v40 : BitVec 32 := Scalar.subi v37 v39
  let v41 : BitVec 1 := Scalar.cmpi .ne v35 v40
  let v42 : BitVec 32 := Scalar.remsi v29 c256_i32
  let c0_i32_7 : BitVec 32 := 0#32
  let v43 : BitVec 1 := Scalar.cmpi .ne v42 c0_i32_7
  let v44 : BitVec 1 := Scalar.andi v41 v43
  let v30 : BitVec 32 := Scalar.divsi v29 c256_i32
  let c1_i32_8 : BitVec 32 := 1#32
  let v45 : BitVec 32 := Scalar.subi v30 c1_i32_8
  let v46 : BitVec 32 := Scalar.select v44 v45 v30
  let c1_i32_9 : BitVec 32 := 1#32
  let v47 : BitVec 32 := Scalar.addi v46 c1_i32_9
  let v51 : BitVec 32 := Scalar.subi v47 c0_i32_13
  let c1_i32_14 : BitVec 32 := 1#32
  let v53 : BitVec 32 := Scalar.divsi v51 c1_i32_14
  let v54 : BitVec 32 := Scalar.muli v53 c1_i32_14
  let v55 : BitVec 32 := Scalar.addi c0_i32_13 v54
  let c1_i32_16 : BitVec 32 := 1#32
  let arg7 : BitVec 32 := Scf.iv v55 c1_i32_16 k0_t2
  let c256_i32_19 : BitVec 32 := 256#32
  let v71 : BitVec 32 := Scalar.muli arg7 c256_i32_19
  v71
def k0_off3 (i : grid0.Coords) (k0_t2 : Fin (k0_t2_loop i).trips) : Fin 2 → Nat :=
  let c0_i32_13 : BitVec 32 := 0#32
  let arg1 : BitVec 32 := BitVec.ofNat 32 (i 1).val
  let c128_i32 : BitVec 32 := 128#32
  let v0 : BitVec 32 := Scalar.muli arg1 c128_i32
  let c128_i32_3 : BitVec 32 := 128#32
  let v28 : BitVec 32 := Scalar.addi v0 c128_i32_3
  let c1_i32 : BitVec 32 := 1#32
  let v29 : BitVec 32 := Scalar.subi v28 c1_i32
  let c0_i32 : BitVec 32 := 0#32
  let v31 : BitVec 1 := Scalar.cmpi .sgt v29 c0_i32
  let v32 : BitVec 32 := Scalar.extui v31
  let c0_i32_4 : BitVec 32 := 0#32
  let v33 : BitVec 1 := Scalar.cmpi .slt v29 c0_i32_4
  let v34 : BitVec 32 := Scalar.extui v33
  let v35 : BitVec 32 := Scalar.subi v32 v34
  let c256_i32 : BitVec 32 := 256#32
  let c0_i32_5 : BitVec 32 := 0#32
  let v36 : BitVec 1 := Scalar.cmpi .sgt c256_i32 c0_i32_5
  let v37 : BitVec 32 := Scalar.extui v36
  let c0_i32_6 : BitVec 32 := 0#32
  let v38 : BitVec 1 := Scalar.cmpi .slt c256_i32 c0_i32_6
  let v39 : BitVec 32 := Scalar.extui v38
  let v40 : BitVec 32 := Scalar.subi v37 v39
  let v41 : BitVec 1 := Scalar.cmpi .ne v35 v40
  let v42 : BitVec 32 := Scalar.remsi v29 c256_i32
  let c0_i32_7 : BitVec 32 := 0#32
  let v43 : BitVec 1 := Scalar.cmpi .ne v42 c0_i32_7
  let v44 : BitVec 1 := Scalar.andi v41 v43
  let v30 : BitVec 32 := Scalar.divsi v29 c256_i32
  let c1_i32_8 : BitVec 32 := 1#32
  let v45 : BitVec 32 := Scalar.subi v30 c1_i32_8
  let v46 : BitVec 32 := Scalar.select v44 v45 v30
  let c1_i32_9 : BitVec 32 := 1#32
  let v47 : BitVec 32 := Scalar.addi v46 c1_i32_9
  let v51 : BitVec 32 := Scalar.subi v47 c0_i32_13
  let c1_i32_14 : BitVec 32 := 1#32
  let v53 : BitVec 32 := Scalar.divsi v51 c1_i32_14
  let v54 : BitVec 32 := Scalar.muli v53 c1_i32_14
  let v55 : BitVec 32 := Scalar.addi c0_i32_13 v54
  let c1_i32_16 : BitVec 32 := 1#32
  let arg7 : BitVec 32 := Scf.iv v55 c1_i32_16 k0_t2
  let c256_i32_19 : BitVec 32 := 256#32
  let v71 : BitVec 32 := Scalar.muli arg7 c256_i32_19
  let v72 : BitVec 32 := v71
  let v73 : Index := Scalar.indexCast v72
  let c0_20 : Index := 0#32
  ![v73.toNat, 0]
def k0_off4 (i : grid0.Coords) (k0_t2 : Fin (k0_t2_loop i).trips) : Fin 2 → Nat :=
  let c0_22 : Index := 0#32
  let c0_i32_13 : BitVec 32 := 0#32
  let arg1 : BitVec 32 := BitVec.ofNat 32 (i 1).val
  let c128_i32 : BitVec 32 := 128#32
  let v0 : BitVec 32 := Scalar.muli arg1 c128_i32
  let c128_i32_3 : BitVec 32 := 128#32
  let v28 : BitVec 32 := Scalar.addi v0 c128_i32_3
  let c1_i32 : BitVec 32 := 1#32
  let v29 : BitVec 32 := Scalar.subi v28 c1_i32
  let c0_i32 : BitVec 32 := 0#32
  let v31 : BitVec 1 := Scalar.cmpi .sgt v29 c0_i32
  let v32 : BitVec 32 := Scalar.extui v31
  let c0_i32_4 : BitVec 32 := 0#32
  let v33 : BitVec 1 := Scalar.cmpi .slt v29 c0_i32_4
  let v34 : BitVec 32 := Scalar.extui v33
  let v35 : BitVec 32 := Scalar.subi v32 v34
  let c256_i32 : BitVec 32 := 256#32
  let c0_i32_5 : BitVec 32 := 0#32
  let v36 : BitVec 1 := Scalar.cmpi .sgt c256_i32 c0_i32_5
  let v37 : BitVec 32 := Scalar.extui v36
  let c0_i32_6 : BitVec 32 := 0#32
  let v38 : BitVec 1 := Scalar.cmpi .slt c256_i32 c0_i32_6
  let v39 : BitVec 32 := Scalar.extui v38
  let v40 : BitVec 32 := Scalar.subi v37 v39
  let v41 : BitVec 1 := Scalar.cmpi .ne v35 v40
  let v42 : BitVec 32 := Scalar.remsi v29 c256_i32
  let c0_i32_7 : BitVec 32 := 0#32
  let v43 : BitVec 1 := Scalar.cmpi .ne v42 c0_i32_7
  let v44 : BitVec 1 := Scalar.andi v41 v43
  let v30 : BitVec 32 := Scalar.divsi v29 c256_i32
  let c1_i32_8 : BitVec 32 := 1#32
  let v45 : BitVec 32 := Scalar.subi v30 c1_i32_8
  let v46 : BitVec 32 := Scalar.select v44 v45 v30
  let c1_i32_9 : BitVec 32 := 1#32
  let v47 : BitVec 32 := Scalar.addi v46 c1_i32_9
  let v51 : BitVec 32 := Scalar.subi v47 c0_i32_13
  let c1_i32_14 : BitVec 32 := 1#32
  let v53 : BitVec 32 := Scalar.divsi v51 c1_i32_14
  let v54 : BitVec 32 := Scalar.muli v53 c1_i32_14
  let v55 : BitVec 32 := Scalar.addi c0_i32_13 v54
  let c1_i32_16 : BitVec 32 := 1#32
  let arg7 : BitVec 32 := Scf.iv v55 c1_i32_16 k0_t2
  let c256_i32_19 : BitVec 32 := 256#32
  let v71 : BitVec 32 := Scalar.muli arg7 c256_i32_19
  let v72 : BitVec 32 := v71
  let v78 : Index := Scalar.indexCast v72
  ![0, v78.toNat]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_1 (i : grid0.Coords) : Fin 2 → Nat :=
  let arg0 : BitVec 32 := BitVec.ofNat 32 (i 0).val
  let arg1 : BitVec 32 := BitVec.ofNat 32 (i 1).val
  let c33_i32 : BitVec 32 := 33#32
  let c0_i32 : BitVec 32 := 0#32
  ![arg0.toNat, c33_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel7Ideal.lean ====
variable {F : FTy → Type} [FloatOps F] [Named F]
def κ : String → Option EReal := fun
  | "mask" => some ⊥
  | _ => none
-- ==== Reference7Ideal.lean ====
abbrev S16512x4480 : Shape := ⟨2, ![16512, 4480]⟩
abbrev S16384x128 : Shape := ⟨2, ![16384, 128]⟩
abbrev S64x2048 : Shape := ⟨2, ![64, 2048]⟩
abbrev S16384x512 : Shape := ⟨2, ![16384, 512]⟩
abbrev S8x2048x8x64 : Shape := ⟨4, ![8, 2048, 8, 64]⟩
abbrev S8x2048x2x64 : Shape := ⟨4, ![8, 2048, 2, 64]⟩
abbrev S16384x8 : Shape := ⟨2, ![16384, 8]⟩
abbrev S8x2048x8 : Shape := ⟨3, ![8, 2048, 8]⟩
abbrev S8x8x2048 : Shape := ⟨3, ![8, 8, 2048]⟩
abbrev S2048 : Shape := ⟨1, ![2048]⟩
abbrev S8x2048x1x64 : Shape := ⟨4, ![8, 2048, 1, 64]⟩
abbrev S8x2048x64 : Shape := ⟨3, ![8, 2048, 64]⟩
abbrev S8x2048x2048x8 : Shape := ⟨4, ![8, 2048, 2048, 8]⟩
abbrev S8x8x2048x2048 : Shape := ⟨4, ![8, 8, 2048, 2048]⟩
abbrev S_ : Shape := ⟨0, ![]⟩
abbrev S8x8x2048x1 : Shape := ⟨4, ![8, 8, 2048, 1]⟩
abbrev S8x8x1x2048 : Shape := ⟨4, ![8, 8, 1, 2048]⟩
abbrev S1x2048 : Shape := ⟨2, ![1, 2048]⟩
abbrev S2048x1 : Shape := ⟨2, ![2048, 1]⟩
abbrev S2048x2048 : Shape := ⟨2, ![2048, 2048]⟩
abbrev S8x64x8x2048 : Shape := ⟨4, ![8, 64, 8, 2048]⟩

abbrev nBuf : Space → Nat
  | .hbm => 55
  | .vmem => 0
  | .smem => 0
  | _ => 0

abbrev bufTy : (tb : Table) → Fin (tcTables nBuf tb) → BufTy
  | .hbm, ⟨0, _⟩ => ⟨S16512x4480, .f32⟩
  | .hbm, ⟨1, _⟩ => ⟨S16384x128, .f32⟩
  | .hbm, ⟨2, _⟩ => ⟨S64x2048, .f32⟩
  | .hbm, ⟨3, _⟩ => ⟨S16384x512, .f32⟩
  | .hbm, ⟨4, _⟩ => ⟨S8x2048x8x64, .f32⟩
  | .hbm, ⟨5, _⟩ => ⟨S16384x128, .f32⟩
  | .hbm, ⟨6, _⟩ => ⟨S8x2048x2x64, .f32⟩
  | .hbm, ⟨7, _⟩ => ⟨S16384x8, .f32⟩
  | .hbm, ⟨8, _⟩ => ⟨S8x2048x8, .f32⟩
  | .hbm, ⟨9, _⟩ => ⟨S8x8x2048, .f32⟩
  | .hbm, ⟨10, _⟩ => ⟨S8x8x2048, .f32⟩
  | .hbm, ⟨11, _⟩ => ⟨S2048, .i32⟩
  | .hbm, ⟨12, _⟩ => ⟨S8x2048x1x64, .f32⟩
  | .hbm, ⟨13, _⟩ => ⟨S8x2048x64, .f32⟩
  | .hbm, ⟨14, _⟩ => ⟨S8x2048x2048x8, .f32⟩
  | .hbm, ⟨15, _⟩ => ⟨S8x8x2048x2048, .f32⟩
  | .hbm, ⟨16, _⟩ => ⟨S_, .f32⟩
  | .hbm, ⟨17, _⟩ => ⟨S8x8x2048x2048, .f32⟩
  | .hbm, ⟨18, _⟩ => ⟨S8x8x2048x2048, .f32⟩
  | .hbm, ⟨19, _⟩ => ⟨S8x8x2048x1, .f32⟩
  | .hbm, ⟨20, _⟩ => ⟨S8x8x2048x2048, .f32⟩
  | .hbm, ⟨21, _⟩ => ⟨S8x8x2048x2048, .f32⟩
  | .hbm, ⟨22, _⟩ => ⟨S8x8x1x2048, .f32⟩
  | .hbm, ⟨23, _⟩ => ⟨S8x8x2048x2048, .f32⟩
  | .hbm, ⟨24, _⟩ => ⟨S8x8x2048x2048, .f32⟩
  | .hbm, ⟨25, _⟩ => ⟨S1x2048, .i32⟩
  | .hbm, ⟨26, _⟩ => ⟨S2048x1, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S8x8x2048x2048, .i1⟩
  | .hbm, ⟨33, _⟩ => ⟨S8x8x2048x2048, .f32⟩
  | .hbm, ⟨34, _⟩ => ⟨S8x8x2048x2048, .f32⟩
  | .hbm, ⟨35, _⟩ => ⟨S_, .f32⟩
  | .hbm, ⟨36, _⟩ => ⟨S8x8x2048, .f32⟩
  | .hbm, ⟨37, _⟩ => ⟨S_, .f32⟩
  | .hbm, ⟨38, _⟩ => ⟨S8x8x2048, .f32⟩
  | .hbm, ⟨39, _⟩ => ⟨S8x8x2048, .f32⟩
  | .hbm, ⟨40, _⟩ => ⟨S8x8x2048x1, .f32⟩
  | .hbm, ⟨41, _⟩ => ⟨S8x8x2048x2048, .f32⟩
  | .hbm, ⟨42, _⟩ => ⟨S8x8x2048x2048, .f32⟩
  | .hbm, ⟨43, _⟩ => ⟨S8x8x2048x2048, .f32⟩
  | .hbm, ⟨44, _⟩ => ⟨S_, .f32⟩
  | .hbm, ⟨45, _⟩ => ⟨S8x8x2048, .f32⟩
  | .hbm, ⟨46, _⟩ => ⟨S8x8x2048x1, .f32⟩
  | .hbm, ⟨47, _⟩ => ⟨S8x8x2048x2048, .f32⟩
  | .hbm, ⟨48, _⟩ => ⟨S8x8x2048x2048, .f32⟩
  | .hbm, ⟨49, _⟩ => ⟨S8x2048x1x64, .f32⟩
  | .hbm, ⟨50, _⟩ => ⟨S8x2048x64, .f32⟩
  | .hbm, ⟨51, _⟩ => ⟨S8x64x8x2048, .f32⟩
  | .hbm, ⟨52, _⟩ => ⟨S8x2048x8x64, .f32⟩
  | .hbm, ⟨53, _⟩ => ⟨S16384x512, .f32⟩
  | .hbm, ⟨54, _⟩ => ⟨S16384x512, .bf16⟩
  | _, _ => ⟨S16512x4480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Kernel8.lean ====
abbrev S16512x512 : Shape := ⟨2, ![16512, 512]⟩
abbrev S8x128x128 : Shape := ⟨3, ![8, 128, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S16384x512 : Shape := ⟨2, ![16384, 512]⟩
abbrev S512x512 : Shape := ⟨2, ![512, 512]⟩
abbrev S128x128 : Shape := ⟨2, ![128, 128]⟩
abbrev S1x128x128 : Shape := ⟨3, ![1, 128, 128]⟩

abbrev nBuf : Space → Nat
  | .hbm => 8
  | .vmem => 8
  | .smem => 0
  | _ => 0

abbrev bufTy : (tb : Table) → Fin (tcTables nBuf tb) → BufTy
  | .hbm, ⟨0, _⟩ => ⟨S16512x512, .f32⟩
  | .hbm, ⟨1, _⟩ => ⟨S16512x512, .f32⟩
  | .hbm, ⟨2, _⟩ => ⟨S8x128x128, .f32⟩
  | .hbm, ⟨3, _⟩ => ⟨S8x128, .f32⟩
  | .hbm, ⟨4, _⟩ => ⟨S128x8, .f32⟩
  | .hbm, ⟨5, _⟩ => ⟨S128x8x64, .f32⟩
  | .hbm, ⟨6, _⟩ => ⟨S128x512, .f32⟩
  | .hbm, ⟨7, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S8x128x128, .f32⟩
  | .local _ .vmem, ⟨5, _⟩ => ⟨S128x512, .f32⟩
  | .local _ .vmem, ⟨6, _⟩ => ⟨S512x512, .bf16⟩
  | .local _ .vmem, ⟨7, _⟩ => ⟨S512x512, .bf16⟩
  | _, _ => ⟨S16512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S16512x512 : Shape := ⟨2, ![16512, 512]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S16384x512 : Shape := ⟨2, ![16384, 512]⟩
abbrev S8x16x128x8x64 : Shape := ⟨5, ![8, 16, 128, 8, 64]⟩
abbrev S8x8x16x64x128 : Shape := ⟨5, ![8, 8, 16, 64, 128]⟩
abbrev S128x8 : Shape := ⟨2, ![128, 8]⟩
abbrev S1x1x128x8x1 : Shape := ⟨5, ![1, 1, 128, 8, 1]⟩

abbrev nBuf : Space → Nat
  | .hbm => 30
  | .vmem => 0
  | .smem => 0
  | _ => 0

abbrev bufTy : (tb : Table) → Fin (tcTables nBuf tb) → BufTy
  | .hbm, ⟨0, _⟩ => ⟨S16512x512, .f32⟩
  | .hbm, ⟨1, _⟩ => ⟨S16512x512, .f32⟩
  | .hbm, ⟨2, _⟩ => ⟨S8x128x128, .f32⟩
  | .hbm, ⟨3, _⟩ => ⟨S8x128, .f32⟩
  | .hbm, ⟨4, _⟩ => ⟨S_, .f32⟩
  | .hbm, ⟨5, _⟩ => ⟨S128x128, .f32⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S_, .f32⟩
  | .hbm, ⟨13, _⟩ => ⟨S128x128, .f32⟩
  | .hbm, ⟨14, _⟩ => ⟨S128x128, .f32⟩
  | .hbm, ⟨15, _⟩ => ⟨S1x128x128, .f32⟩
  | .hbm, ⟨16, _⟩ => ⟨S8x128x128, .f32⟩
  | .hbm, ⟨17, _⟩ => ⟨S8x128x128, .f32⟩
  | .hbm, ⟨18, _⟩ => ⟨S16384x512, .f32⟩
  | .hbm, ⟨19, _⟩ => ⟨S8x16x128x8x64, .f32⟩
  | .hbm, ⟨20, _⟩ => ⟨S8x8x16x64x128, .f32⟩
  | .hbm, ⟨21, _⟩ => ⟨S8x16x128x8x64, .f32⟩
  | .hbm, ⟨22, _⟩ => ⟨S128x8, .f32⟩
  | .hbm, ⟨23, _⟩ => ⟨S1x1x128x8x1, .f32⟩
  | .hbm, ⟨24, _⟩ => ⟨S8x16x128x8x64, .f32⟩
  | .hbm, ⟨25, _⟩ => ⟨S8x16x128x8x64, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .bf16⟩
  | _, _ => ⟨S16512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]
-- ==== Kernel9.lean ====
abbrev S16512x128 : Shape := ⟨2, ![16512, 128]⟩
abbrev S32x2x64 : Shape := ⟨3, ![32, 2, 64]⟩
abbrev S32x128 : Shape := ⟨2, ![32, 128]⟩
abbrev S258x8192 : Shape := ⟨2, ![258, 8192]⟩
abbrev S256x128 : Shape := ⟨2, ![256, 128]⟩
abbrev S32x8192 : Shape := ⟨2, ![32, 8192]⟩
abbrev S1x128 : Shape := ⟨2, ![1, 128]⟩

abbrev nBuf : Space → Nat
  | .hbm => 6
  | .vmem => 7
  | .smem => 0
  | _ => 0

abbrev bufTy : (tb : Table) → Fin (tcTables nBuf tb) → BufTy
  | .hbm, ⟨0, _⟩ => ⟨S16512x128, .f32⟩
  | .hbm, ⟨1, _⟩ => ⟨S32x2x64, .f32⟩
  | .hbm, ⟨2, _⟩ => ⟨S32x128, .f32⟩
  | .hbm, ⟨3, _⟩ => ⟨S258x8192, .f32⟩
  | .hbm, ⟨4, _⟩ => ⟨S256x128, .f32⟩
  | .hbm, ⟨5, _⟩ => ⟨S256x128, .f32⟩
  | .local _ .vmem, ⟨0, _⟩ => ⟨S32x8192, .f32⟩
  | .local _ .vmem, ⟨1, _⟩ => ⟨S32x8192, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S16512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S16512x128 : Shape := ⟨2, ![16512, 128]⟩
abbrev S32x2x64 : Shape := ⟨3, ![32, 2, 64]⟩
abbrev S16384x128 : Shape := ⟨2, ![16384, 128]⟩
abbrev S8x64x32x2x64 : Shape := ⟨5, ![8, 64, 32, 2, 64]⟩
abbrev S1x1x32x2x64 : Shape := ⟨5, ![1, 1, 32, 2, 64]⟩
abbrev S_ : Shape := ⟨0, ![]⟩
abbrev S8x64x2x64 : Shape := ⟨4, ![8, 64, 2, 64]⟩
abbrev S256x2x128 : Shape := ⟨3, ![256, 2, 128]⟩
abbrev S256x1x128 : Shape := ⟨3, ![256, 1, 128]⟩
abbrev S256x128 : Shape := ⟨2, ![256, 128]⟩

abbrev nBuf : Space → Nat
  | .hbm => 17
  | .vmem => 0
  | .smem => 0
  | _ => 0

abbrev bufTy : (tb : Table) → Fin (tcTables nBuf tb) → BufTy
  | .hbm, ⟨0, _⟩ => ⟨S16512x128, .f32⟩
  | .hbm, ⟨1, _⟩ => ⟨S32x2x64, .f32⟩
  | .hbm, ⟨2, _⟩ => ⟨S16384x128, .f32⟩
  | .hbm, ⟨3, _⟩ => ⟨S8x64x32x2x64, .f32⟩
  | .hbm, ⟨4, _⟩ => ⟨S1x1x32x2x64, .f32⟩
  | .hbm, ⟨5, _⟩ => ⟨S8x64x32x2x64, .f32⟩
  | .hbm, ⟨6, _⟩ => ⟨S8x64x32x2x64, .f32⟩
  | .hbm, ⟨7, _⟩ => ⟨S_, .f32⟩
  | .hbm, ⟨8, _⟩ => ⟨S8x64x2x64, .f32⟩
  | .hbm, ⟨9, _⟩ => ⟨S_, .f32⟩
  | .hbm, ⟨10, _⟩ => ⟨S8x64x2x64, .f32⟩
  | .hbm, ⟨11, _⟩ => ⟨S8x64x2x64, .f32⟩
  | .hbm, ⟨12, _⟩ => ⟨S256x2x128, .f32⟩
  | .hbm, ⟨13, _⟩ => ⟨S256x1x128, .f32⟩
  | .hbm, ⟨14, _⟩ => ⟨S256x128, .f32⟩
  | .hbm, ⟨15, _⟩ => ⟨S256x1x128, .f32⟩
  | .hbm, ⟨16, _⟩ => ⟨S256x128, .f32⟩
  | _, _ => ⟨S16512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Proof.MlaRun.lean ====
module
public import proofs.«01_k».proof.Proof.Gen.KernelIdeal.Value
public import Idealize.ShloMosaic.Lib.Pointwise
@[expose] public section
noncomputable section
open Idealize.ShloMosaic Idealize.ShloMosaic.TcCoe Idealize.SL.Sem
open Idealize.ShloMosaic.Pipeline (Dat)
namespace Cert.Mla
open Cert.KernelIdeal Cert.KernelIdeal.Gen
variable {F : FTy → Type} [FloatOps F] [Named F]

/-- The two spellings of the zero offsets. -/
theorem hz : (![0, 0] : Fin 2 → Nat) = fun _ => 0 := funext fun a => by fin_cases a <;> rfl

/-- The grid point of sequence `b` and row block `j`. -/
def coordsOf (b : Fin 8) (j : Fin 16) : grid0.Coords := fun a => match a with
  | ⟨0, _⟩ => b
  | ⟨1, _⟩ => j

/-- The number of blocks of 256 keys a block of 128 rows reads: those up to its last row's own position. -/
theorem trips1 (i : grid0.Coords) : (k0_t1_loop i).trips = ((i 1).val * 128 + 127) / 256 + 1 := by
  have h : ∀ j : Fin 16, (k0_t1_loop (coordsOf 0 j)).trips = (j.val * 128 + 127) / 256 + 1 := by decide +kernel
  exact h (i 1)

/-- The remainder loop has no trip. -/
theorem trips2 (i : grid0.Coords) : (k0_t2_loop i).trips = 0 := by
  have h : ∀ j : Fin 16, (k0_t2_loop (coordsOf 0 j)).trips = 0 := by decide +kernel
  exact h (i 1)

/-- What the loop's state holds before the first trip. -/
theorem st2_zero (𝒱 : Variants) (c : Dev nD) (bd : Option 𝒱.V) (i : grid0.Coords) (arg2 : Memref sig .tc .vmem S128x2048 .bf16) (harg2 : arg2.IsWhole) (arg3 : Memref sig .tc .vmem S2048x256 .f32) (harg3 : arg3.IsWhole) (arg4 : Memref sig .tc .vmem S1024x512 .bf16) (harg4 : arg4.IsWhole) (arg5 : Memref sig .tc .vmem S128x512 .bf16) (harg5 : arg5.IsWhole) (v10 : FVec F S1024x256 .bf16) (v13 : IVec S128x256 32) (v14 : IVec S128x256 32) (c0 v38 c1 : BitVec 32) (X : BufTy.Contents (Elt F) arg3.view.ty) (init : FVec F S1024x1 .f32 × FVec F S1024x1 .f32 × FVec F S1024x128 .f32) (n : ℕ) (hn : n = 0) :
    st_k0_t2 𝒱 c bd i arg2 harg2 arg3 harg3 arg4 harg4 arg5 harg5 v10 v13 v14 c0 v38 c1 X init n = init := by subst hn; rfl

/-- The loop's state before trip `n`. -/
def st (c : Dev nD) (i : grid0.Coords) (arg2 : Memref sig .tc .vmem S128x2048 .bf16) (harg2 : arg2.IsWhole) (arg3 : Memref sig .tc .vmem S2048x256 .f32) (harg3 : arg3.IsWhole) (arg4 : Memref sig .tc .vmem S1024x512 .bf16) (harg4 : arg4.IsWhole) (arg5 : Memref sig .tc .vmem S128x512 .bf16) (harg5 : arg5.IsWhole) (x0 : Vec F S128x2048 .bf16) (x1 : Vec F S2048x256 .f32) (n : ℕ) : FVec F S1024x1 .f32 × FVec F S1024x1 .f32 × FVec F S1024x128 .f32 :=
  st_k0_t1 Variants.none c none i arg2 harg2 arg3 harg3 arg4 harg4 arg5 harg5 (k0_pay16 x0) (k0_pay17 i) (iota .tc S128x256 32 [1] iota_S128x256_d1_w32) 0#32 (harg3.unread x1) (k0_pay18, k0_pay19, k0_pay20) n

/-- What a grid point stores: the output block as a function of the loop's last state. -/
theorem out_A (c : Dev nD) (i : grid0.Coords) (arg2 : Memref sig .tc .vmem S128x2048 .bf16) (harg2 : arg2.IsWhole) (arg3 : Memref sig .tc .vmem S2048x256 .f32) (harg3 : arg3.IsWhole) (arg4 : Memref sig .tc .vmem S1024x512 .bf16) (harg4 : arg4.IsWhole) (arg5 : Memref sig .tc .vmem S128x512 .bf16) (harg5 : arg5.IsWhole)
    (x0 : Vec F S128x2048 .bf16) (x1 : Vec F S2048x256 .f32) (x2 : Vec F S1024x512 .bf16)  :
    out0_A_3 c i arg2 harg2 arg3 harg3 arg4 harg4 arg5 harg5 x0 x1 x2 = k0_pay15 (st c i arg2 harg2 arg3 harg3 arg4 harg4 arg5 harg5 x0 x1 (k0_t1_loop i).trips).2.1 (st c i arg2 harg2 arg3 harg3 arg4 harg4 arg5 harg5 x0 x1 (k0_t1_loop i).trips).2.2 x2 := by
  unfold out0_A_3
  rw [View.read_writes_eq_canon _ _ _ (cover0_A_3 c i arg2 harg2 arg3 harg3 arg4 harg4 arg5 harg5 x0 x1 x2)]
  unfold kernelRun0_A
  dsimp only
  sl_unfold_words
  rw [View.canon_unit_zero hz]
  simp only [View.readAt_eq_ld, harg2.read_unread, harg3.read_unread, harg4.read_unread, View.ld_unit_zero (S := S128x2048) hz, View.ld_unit_zero (S := S1024x512) hz, shapeCast_self]
  rw [st2_zero _ _ _ _ _ _ _ _ _ _ _ _ _ _ _ _ _ _ _ _ _ (trips2 i)]
  dsimp only
  unfold st
  rfl

/-- The block of 256 latent rows that trip `k` loads. -/
def kvBlock (i : grid0.Coords) (x1 : Vec F S2048x256 .f32) (k : Fin (k0_t1_loop i).trips) : Vec F S256x256 .f32 :=
  View.ld x1 (Rect.unit (s := S2048x256) (k0_off1 i k) S256x256.size (k0_off1_inb i k))

/-- One trip of the loop over key blocks, as a step of the state. -/
theorem trip (𝒱 : Variants) (c : Dev nD) (bd : Option 𝒱.V) (i : grid0.Coords) (arg2 : Memref sig .tc .vmem S128x2048 .bf16) (harg2 : arg2.IsWhole) (arg3 : Memref sig .tc .vmem S2048x256 .f32) (harg3 : arg3.IsWhole) (arg4 : Memref sig .tc .vmem S1024x512 .bf16) (harg4 : arg4.IsWhole) (arg5 : Memref sig .tc .vmem S128x512 .bf16) (harg5 : arg5.IsWhole) (v10 : FVec F S1024x256 .bf16) (v13 : IVec S128x256 32) (v14 : IVec S128x256 32) (x1 : Vec F S2048x256 .f32) (k : Fin (k0_t1_loop i).trips) (a : FVec F S1024x1 .f32 × FVec F S1024x1 .f32 × FVec F S1024x128 .f32) :
   tripR_k0_t1 𝒱 c bd i arg2 harg2 arg3 harg3 arg4 harg4 arg5 harg5 v10 v13 v14 0#32 (harg3.unread x1) k a =
    (k0_pay3 i v10 v13 v14 0#32 k a.1 (kvBlock i x1 k), k0_pay6 i v10 v13 v14 0#32 k a.1 a.2.1 (kvBlock i x1 k), k0_pay7 i v10 v13 v14 0#32 k a.1 a.2.2 (kvBlock i x1 k)) := by
  unfold tripR_k0_t1 trip_k0_t1
  dsimp only
  simp only [View.readAt_eq_ld, harg3.read_unread]
  rfl
end Cert.Mla
-- ==== Proof.SoftmaxSum.lean ====
/-
  The arithmetic of a softmax summed block by block, over the extended reals: a running maximum, the
  running sum of exponentials and the running weighted sum, each rescaled when the maximum moves, are the
  maximum and the sums of the keys seen so far; and the quotient of the two sums is the weighted sum of
  the quotients.
-/
module

public import Idealize.ShloMosaic.PureOps.Ideal
public import Idealize.ShloMosaic.Lib.Tactic

@[expose] public section

noncomputable section

namespace Cert.SoftmaxSum

open Idealize.ShloMosaic Finset

/-- Multiplying by a nonnegative factor other than infinity distributes over a finite sum, from the left. -/
theorem mul_sum_of_nonneg {ι : Type*} (c : EReal) (h0 : 0 ≤ c) (ht : c ≠ ⊤) (S : Finset ι) (f : ι → EReal) :
    c * ∑ i ∈ S, f i = ∑ i ∈ S, c * f i := by
  classical
  induction S using Finset.induction_on with
  | empty => simp
  | insert a S ha ih =>
    rw [sum_insert ha, sum_insert ha, EReal.left_distrib_of_nonneg_of_ne_top h0 ht, ih]

/-- Multiplying by a nonnegative factor other than infinity distributes over a finite sum, from the right. -/
theorem sum_mul_of_nonneg {ι : Type*} (c : EReal) (h0 : 0 ≤ c) (ht : c ≠ ⊤) (S : Finset ι) (f : ι → EReal) :
    (∑ i ∈ S, f i) * c = ∑ i ∈ S, f i * c := by
  rw [mul_comm, mul_sum_of_nonneg c h0 ht]
  exact sum_congr rfl fun i _ => mul_comm _ _

/-- An exponential is nonnegative. -/
theorem exp_nonneg (x : EReal) : 0 ≤ Ideal.exp x := by
  induction x with
  | bot => simp
  | top => simp
  | coe r => rw [Ideal.exp_coe]; exact_mod_cast (Real.exp_pos r).le

/-- An exponential of anything but infinity is not infinity. -/
theorem exp_ne_top {x : EReal} (h : x ≠ ⊤) : Ideal.exp x ≠ ⊤ := by
  induction x with
  | bot => simp
  | top => exact absurd rfl h
  | coe r => rw [Ideal.exp_coe]; exact EReal.coe_ne_top _

/-- A difference from which nothing infinite is taken and which starts below infinity stays below it. -/
theorem sub_ne_top {x m : EReal} (hx : x ≠ ⊤) (hm : m ≠ ⊥) : x - m ≠ ⊤ := by
  induction x with
  | bot => simp [EReal.bot_sub]
  | top => exact absurd rfl hx
  | coe r =>
    induction m with
    | bot => exact absurd rfl hm
    | top => simp
    | coe q => rw [← EReal.coe_sub]; exact EReal.coe_ne_top _

/-- Moving an exponential from one maximum to a later one: the rescaling factor times the old term is the new term. -/
theorem exp_rescale {s m m' : EReal} (hs : s ≤ m) (hm : m ≠ ⊤) (hb : m' ≠ ⊥) (ht : m' ≠ ⊤) :
    Ideal.exp (m - m') * Ideal.exp (s - m) = Ideal.exp (s - m') := by
  induction m' with
  | bot => exact absurd rfl hb
  | top => exact absurd rfl ht
  | coe q =>
    induction m with
    | top => exact absurd rfl hm
    | bot =>
      obtain rfl : s = ⊥ := le_bot_iff.mp hs
      simp [EReal.bot_sub]
    | coe p =>
      induction s with
      | top => exact absurd hs (by simp)
      | bot => simp [EReal.bot_sub]
      | coe r =>
        rw [← EReal.coe_sub, ← EReal.coe_sub, ← EReal.coe_sub, Ideal.exp_coe, Ideal.exp_coe, Ideal.exp_coe,
          ← EReal.coe_mul, ← Real.exp_add]
        congr 2; ring

/-- The maximum of finitely many entries, none infinite, is not infinite. -/
theorem sup_ne_top {s : ℕ → EReal} (hs : ∀ l, s l ≠ ⊤) (n : ℕ) : (range n).sup s ≠ ⊤ :=
  ne_of_lt ((Finset.sup_lt_iff (by simp)).mpr fun l _ => lt_of_le_of_ne le_top (hs l))

/-- A maximum over keys among which the first is unmasked is not −∞. -/
theorem sup_ne_bot {s : ℕ → EReal} (h0 : s 0 ≠ ⊥) {n : ℕ} (hn : 0 < n) : (range n).sup s ≠ ⊥ := fun h =>
  h0 (le_bot_iff.mp (h ▸ Finset.le_sup (f := s) (mem_range.mpr hn)))

/-- The weight of key `l` among the first `n` keys: the exponential of its score less their maximum. -/
def wt (s : ℕ → EReal) (n l : ℕ) : EReal := Ideal.exp (s l - (range n).sup s)

/-- A sum over the first `256 (k + 1)` keys is the sum over the first `256 k` and over the block of 256 after them. -/
theorem sum_block (f : ℕ → EReal) (k : ℕ) :
    ∑ l ∈ range (256 * (k + 1)), f l = ∑ l ∈ range (256 * k), f l + ∑ q : Fin 256, f (256 * k + q.val) := by
  rw [show 256 * (k + 1) = 256 * k + 256 by ring, sum_range_add, Fin.sum_univ_eq_sum_range (fun q => f (256 * k + q))]

/-- The maximum over the first `256 (k + 1)` keys is that over the first `256 k` and that of the block after them. -/
theorem sup_block (s : ℕ → EReal) (k : ℕ) :
    (range (256 * (k + 1))).sup s
      = max ((range (256 * k)).sup s) (Finset.univ.fold max ⊥ fun q : Fin 256 => s (256 * k + q.val)) := by
  show _ = max _ ((Finset.univ : Finset (Fin 256)).sup fun q => s (256 * k + q.val))
  refine le_antisymm (Finset.sup_le fun l hl => ?_) (max_le (Finset.sup_mono ?_) (Finset.sup_le fun q _ => ?_))
  · by_cases h : l < 256 * k
    · exact le_max_of_le_left (Finset.le_sup (f := s) (mem_range.mpr h))
    · have hl := mem_range.mp hl
      have hq : l - 256 * k < 256 := by omega
      refine le_max_of_le_right ?_
      have := Finset.le_sup (f := fun q : Fin 256 => s (256 * k + q.val)) (mem_univ ⟨l - 256 * k, hq⟩)
      simpa [show 256 * k + (l - 256 * k) = l by omega] using this
  · exact fun l hl => mem_range.mpr (by have := mem_range.mp hl; omega)
  · exact Finset.le_sup (f := s) (mem_range.mpr (by have := q.isLt; omega))

/-- One block's update of a running weighted sum: the old sum rescaled, plus the block's terms, is the sum over the
    keys up to the block's end, each weighted against their common maximum. -/
theorem step (s v : ℕ → EReal) (hs : ∀ l, s l ≠ ⊤) (h0 : s 0 ≠ ⊥) (k : ℕ) :
    Ideal.exp ((range (256 * k)).sup s - (range (256 * (k + 1))).sup s) * (∑ l ∈ range (256 * k), wt s (256 * k) l * v l)
        + ∑ q : Fin 256, Ideal.exp (s (256 * k + q.val) - (range (256 * (k + 1))).sup s) * v (256 * k + q.val)
      = ∑ l ∈ range (256 * (k + 1)), wt s (256 * (k + 1)) l * v l := by
  have hb := sup_ne_bot h0 (n := 256 * (k + 1)) (by omega)
  have ht := sup_ne_top hs (256 * (k + 1))
  have ht' := sup_ne_top hs (256 * k)
  rw [sum_block, mul_sum_of_nonneg _ (exp_nonneg _) (exp_ne_top (sub_ne_top ht' hb))]
  congr 1
  refine sum_congr rfl fun l hl => ?_
  rw [← mul_assoc]
  unfold wt
  rw [exp_rescale (Finset.le_sup hl) ht' hb ht]

/-- One block's update of the running sum of weights (`step` with every value one). -/
theorem step_one (s : ℕ → EReal) (hs : ∀ l, s l ≠ ⊤) (h0 : s 0 ≠ ⊥) (k : ℕ) :
    Ideal.exp ((range (256 * k)).sup s - (range (256 * (k + 1))).sup s) * (∑ l ∈ range (256 * k), wt s (256 * k) l)
        + ∑ q : Fin 256, Ideal.exp (s (256 * k + q.val) - (range (256 * (k + 1))).sup s)
      = ∑ l ∈ range (256 * (k + 1)), wt s (256 * (k + 1)) l := by
  have := step s (fun _ => 1) hs h0 k
  simpa only [mul_one] using this

/-- Keys masked to −∞ do not move the maximum. -/
theorem sup_masked {s : ℕ → EReal} {n N : ℕ} (hn : n ≤ N) (hm : ∀ l, n ≤ l → l < N → s l = ⊥) :
    (range N).sup s = (range n).sup s := by
  refine le_antisymm (Finset.sup_le fun l hl => ?_) (Finset.sup_mono (range_subset_range.mpr hn))
  by_cases h : l < n
  · exact Finset.le_sup (f := s) (mem_range.mpr h)
  · rw [hm l (by omega) (mem_range.mp hl)]; exact bot_le

/-- A sum whose terms vanish from `n` on is the sum of its first `n` terms. -/
theorem sum_masked {f : ℕ → EReal} {n N : ℕ} (hn : n ≤ N) (hm : ∀ l, n ≤ l → l < N → f l = 0) :
    ∑ l ∈ range N, f l = ∑ l ∈ range n, f l :=
  (sum_subset (range_subset_range.mpr hn) fun l hl hl' =>
    hm l (by simpa using hl') (mem_range.mp hl)).symm

/-- The total weight is neither zero nor infinite. -/
theorem total_ne {s : ℕ → EReal} (hs : ∀ l, s l ≠ ⊤) (h0 : s 0 ≠ ⊥) {n : ℕ} (hn : 0 < n) :
    0 < (∑ l ∈ range n, wt s n l) ∧ (∑ l ∈ range n, wt s n l) ≠ ⊤ := by
  have hb := sup_ne_bot h0 hn
  have ht := sup_ne_top hs n
  constructor
  · refine lt_of_lt_of_le ?_ (single_le_sum (fun l _ => exp_nonneg _) (mem_range.mpr hn))
    generalize (range n).sup s = m at hb ht
    have hs0 := hs 0
    generalize s 0 = x at h0 hs0
    induction m with
    | bot => exact absurd rfl hb
    | top => exact absurd rfl ht
    | coe q =>
      induction x with
      | bot => exact absurd rfl h0
      | top => exact absurd rfl hs0
      | coe r => rw [← EReal.coe_sub, Ideal.exp_coe]; exact_mod_cast Real.exp_pos _
  · have : ∀ S : Finset ℕ, (∑ l ∈ S, wt s n l) ≠ ⊤ := fun S => by
      classical
      induction S using Finset.induction_on with
      | empty => simp
      | insert a S ha ih =>
        rw [sum_insert ha]
        exact EReal.add_ne_top (exp_ne_top (sub_ne_top (hs a) hb)) ih
    exact this _

/-- THE SOFTMAX: with the keys from `n` on masked to −∞, the quotient of the weighted sum by the total weight over the
    first `n` keys is the sum over all `N` keys of each normalised weight times its value. -/
theorem quotient (s v : ℕ → EReal) (hs : ∀ l, s l ≠ ⊤) (h0 : s 0 ≠ ⊥) {n N : ℕ} (h1 : 0 < n) (hn : n ≤ N)
    (hm : ∀ l, n ≤ l → l < N → s l = ⊥) :
    Ideal.div (∑ l ∈ range n, wt s n l * v l) (∑ l ∈ range n, wt s n l)
      = ∑ l ∈ range N, Ideal.div (wt s N l) (∑ l ∈ range N, wt s N l) * v l := by
  have hsup := sup_masked hn hm
  have hw : ∀ l, wt s N l = wt s n l := fun l => by unfold wt; rw [hsup]
  have hz : ∀ l, n ≤ l → l < N → wt s n l = 0 := fun l h h' => by
    unfold wt; rw [hm l h h', EReal.bot_sub, Ideal.exp_bot]
  simp only [hw]
  rw [sum_masked (f := fun l => wt s n l) hn hz]
  obtain ⟨hp, hT⟩ := total_ne hs h0 h1
  generalize (∑ l ∈ range n, wt s n l) = L at hp hT
  have hne : L ≠ 0 := ne_of_gt hp
  have hinv : ∀ x : EReal, Ideal.div x L = x * L⁻¹ := fun x => by rw [Ideal.div, if_neg hne]
  simp only [hinv]
  have hi0 : 0 ≤ L⁻¹ := EReal.inv_nonneg_of_nonneg hp.le
  have hit : L⁻¹ ≠ ⊤ := by
    induction L with
    | bot => simp
    | top => simp
    | coe r => rw [← EReal.coe_inv]; exact EReal.coe_ne_top _
  rw [sum_mul_of_nonneg _ hi0 hit,
    sum_masked (f := fun l => wt s n l * L⁻¹ * v l) hn fun l h h' => by simp only [hz l h h', zero_mul]]
  exact sum_congr rfl fun l _ => by rw [mul_right_comm]

end Cert.SoftmaxSum

end
-- ==== Proof.MlaRow.lean ====
module
public import proofs.«01_k».proof.Proof.MlaRun
public import proofs.«01_k».proof.Proof.SoftmaxSum
@[expose] public section
set_option maxRecDepth 16384
noncomputable section
open Idealize.ShloMosaic Idealize.ShloMosaic.TcCoe Idealize.SL.Sem
namespace Cert.Mla
open Cert.KernelIdeal Cert.KernelIdeal.Gen Cert.SoftmaxSum Finset

/-- Eight blocks of 128 one after the other, read at row `r`: block `r / 128` at `r % 128`. -/
theorem ladder {α : Type} (f : Fin 8 → Fin 128 → α) (r : ℕ) (hr : r < 1024) :
    (if h : r < 128 then f 0 ⟨r, h⟩ else if h : r - 128 < 128 then f 1 ⟨r - 128, h⟩
      else if h : r - 128 - 128 < 128 then f 2 ⟨r - 128 - 128, h⟩
      else if h : r - 128 - 128 - 128 < 128 then f 3 ⟨r - 128 - 128 - 128, h⟩
      else if h : r - 128 - 128 - 128 - 128 < 128 then f 4 ⟨r - 128 - 128 - 128 - 128, h⟩
      else if h : r - 128 - 128 - 128 - 128 - 128 < 128 then f 5 ⟨r - 128 - 128 - 128 - 128 - 128, h⟩
      else if h : r - 128 - 128 - 128 - 128 - 128 - 128 < 128 then f 6 ⟨r - 128 - 128 - 128 - 128 - 128 - 128, h⟩
      else f 7 ⟨r - 128 - 128 - 128 - 128 - 128 - 128 - 128, by omega⟩)
    = f ⟨r / 128, by omega⟩ ⟨r % 128, by omega⟩ := by
  have key : ∀ (a b : Fin 8) (c d : Fin 128), a = b → c = d → f a c = f b d := by rintro _ _ _ _ rfl rfl; rfl
  split_ifs <;> exact key _ _ _ _ (Fin.ext (by simp only [Fin.val_ofNat]; omega)) (Fin.ext (by simp only []; omega))

/-- The mask's comparison of a key's position with a row's, as numbers. -/
theorem mask_word (a k q t : ℕ) (ha : a < 16) (hk : k < 8) (hq : q < 256) (ht : t < 128) :
    IntOp.cmpi CmpIPredicate.sle (IntOp.addi (Scalar.muli (Scf.iv 0#32 1#32 k) 256#32) (BitVec.ofNat 32 q)) (IntOp.addi (Scalar.muli (BitVec.ofNat 32 a) 128#32) (BitVec.ofNat 32 t))
      = if 256 * k + q ≤ 128 * a + t then 1#1 else 0#1 := by
  have e1 : IntOp.addi (Scalar.muli (Scf.iv 0#32 1#32 k) 256#32) (BitVec.ofNat 32 q) = BitVec.ofNat 32 (256 * k + q) := by
    apply BitVec.eq_of_toNat_eq
    simp [IntOp.addi, Scalar.muli, IntOp.muli, Scf.iv]
    omega
  have e2 : IntOp.addi (Scalar.muli (BitVec.ofNat 32 a) 128#32) (BitVec.ofNat 32 t) = BitVec.ofNat 32 (128 * a + t) := by
    apply BitVec.eq_of_toNat_eq
    simp [IntOp.addi, Scalar.muli, IntOp.muli]
    omega
  rw [e1, e2, WordCmp.cmpi_sle_ofNat (by omega) (by omega)]
  by_cases h : 256 * k + q ≤ 128 * a + t <;> simp [h]

set_option maxHeartbeats 4000000 in
/-- The stacked queries: row `r` is head `r / 128` of the block's row `r % 128`. -/
theorem pay16_apply (x0 : Vec Ideal S128x2048 .bf16) (r : Fin 1024) (c : Fin 256) :
    k0_pay16 (F := Ideal) x0 (ix2 r c) = x0 (ix2 ⟨r.val % 128, by omega⟩ ⟨256 * (r.val / 128) + c.val, by omega⟩) := by
  pointwise [k0_pay16]
  split_ifs <;> exact congrArg x0 (congrArg₂ ix2 (Fin.ext (by simp only []; omega)) (Fin.ext (by simp only []; omega)))

/-- A selection by the true bit. -/
theorem sel_one (a b : EReal) : Scalar.select 1#1 a b = a := rfl
/-- A selection by the false bit. -/
theorem sel_zero (a b : EReal) : Scalar.select 0#1 a b = b := rfl

/-- The positions of the block's rows, as words. -/
theorem pay17_apply (i : grid0.Coords) (t : Fin 128) (q : Fin 256) :
    k0_pay17 i (ix2 t q) = IntOp.addi (Scalar.muli (BitVec.ofNat 32 ↑(i 1)) 128#32) (BitVec.ofNat 32 ↑t) := by
  pointwise [k0_pay17]

/-- The lane numbers, as words. -/
theorem lane_apply (t : Fin 128) (q : Fin 256) :
    (iota .tc S128x256 32 [1] iota_S128x256_d1_w32 : IVec S128x256 32) (ix2 t q) = BitVec.ofNat 32 q.val := by
  pointwise

/-- The position in its sequence of the block's stacked row `r`. -/
def pos (i : grid0.Coords) (r : Fin 1024) : ℕ := 128 * (i 1).val + r.val % 128

/-- A row's position lies in the sequence. -/
theorem pos_lt (i : grid0.Coords) (r : Fin 1024) : pos i r < 2048 := by
  have h : (i 1).val < 16 := (i 1).isLt
  unfold pos; omega

/-- The causal score of stacked row `r` against key `l`: the product of the query with the latent row, −∞ past the row's own position. -/
def score (i : grid0.Coords) (x0 : Vec Ideal S128x2048 .bf16) (x1 : Vec Ideal S2048x256 .f32) (r : Fin 1024) (l : ℕ) : EReal :=
  if h : l ≤ pos i r then ∑ c : Fin 256, x0 (ix2 ⟨r.val % 128, by omega⟩ ⟨256 * (r.val / 128) + c.val, by omega⟩) * x1 (ix2 ⟨l, lt_of_le_of_lt h (pos_lt i r)⟩ c)
  else ⊥

/-- Column `d` of latent row `l`. -/
def value (x1 : Vec Ideal S2048x256 .f32) (d : Fin 128) (l : ℕ) : EReal :=
  if h : l < 2048 then x1 (ix2 ⟨l, h⟩ ⟨d.val, by omega⟩) else 0

/-- There are at most eight trips. -/
theorem trip_lt (i : grid0.Coords) (k : Fin (k0_t1_loop i).trips) : k.val < 8 := by
  have h1 := k.isLt
  have h : (i 1).val < 16 := (i 1).isLt
  have h2 := trips1 i
  omega

/-- The block that trip `k` loads holds latent rows `256 k …`. -/
theorem kvBlock_apply (i : grid0.Coords) (x1 : Vec Ideal S2048x256 .f32) (k : Fin (k0_t1_loop i).trips) (q c : Fin 256) :
    kvBlock i x1 k (ix2 q c) = x1 (ix2 ⟨256 * k.val + q.val, by have := trip_lt i k; omega⟩ c) := by
  unfold kvBlock
  pointwise
  have h := k0_off1_eq i k
  exact congrArg x1 (congrArg₂ ix2 (Fin.ext (by simp only []; rw [h]; rfl)) (Fin.ext (by simp only []; rw [h]; exact Nat.zero_add _)))

set_option maxHeartbeats 4000000 in
/-- The masked scores of trip `k`. -/
theorem pay2_apply (i : grid0.Coords) (x0 : Vec Ideal S128x2048 .bf16) (x1 : Vec Ideal S2048x256 .f32) (k : Fin (k0_t1_loop i).trips) (r : Fin 1024) (q : Fin 256) :
    k0_pay2 (F := Ideal) i (k0_pay16 x0) (k0_pay17 i) (iota .tc S128x256 32 [1] iota_S128x256_d1_w32) 0#32 k (kvBlock i x1 k) (ix2 r q) = score i x0 x1 r (256 * k.val + q.val) := by
  have hm : ∀ t : Fin 128, IntOp.cmpi CmpIPredicate.sle (IntOp.addi (Scalar.muli (Scf.iv 0#32 1#32 k.val) 256#32) ((iota .tc S128x256 32 [1] iota_S128x256_d1_w32 : IVec S128x256 32) (ix2 t q))) (k0_pay17 i (ix2 t q))
      = if 256 * k.val + q.val ≤ 128 * (i 1).val + t.val then 1#1 else 0#1 := by
    intro t
    rw [lane_apply, pay17_apply]
    exact mask_word _ _ _ _ (i 1).isLt (trip_lt i k) q.isLt t.isLt
  generalize hT : k0_pay17 i = T at *
  generalize hP : (iota .tc S128x256 32 [1] iota_S128x256_d1_w32 : IVec S128x256 32) = P at *
  pointwise [k0_pay2, k0_pay1]
  simp only [hm]
  have hl := ladder (fun _ t => if 256 * k.val + q.val ≤ 128 * (i 1).val + t.val then 1#1 else 0#1) r.val r.isLt
  refine (congrArg (fun w => Scalar.select w _ _) hl).trans ?_
  dsimp only
  unfold score pos
  by_cases h : 256 * k.val + q.val ≤ 128 * (i 1).val + r.val % 128
  · rw [if_pos h, dif_pos h, sel_one]
    simp only [pay16_apply, kvBlock_apply]
  · rw [if_neg h, dif_neg h, sel_zero]
    exact IdealRules.named_const.ideal_named_scalar _ _ _ _ rfl

/-- The word 0xFF800000 reads as −∞. -/
theorem ninf : Ideal.ofBits .f32 0xFF800000#32 = ⊥ := by
  simp [Ideal.ofBits, Ideal.ieee]

/-- The running maximum after trip `k`, from the trip's scores `s`. -/
theorem pay3_apply (i : grid0.Coords) (Q : FVec Ideal S1024x256 .bf16) (T P : IVec S128x256 32) (k : Fin (k0_t1_loop i).trips) (a : FVec Ideal S1024x1 .f32) (y : Vec Ideal S256x256 .f32) (r : Fin 1024)
    (s : Fin 256 → EReal) (hp : ∀ x, k0_pay2 (F := Ideal) i Q T P 0#32 k y (ix2 r x) = s x) :
    k0_pay3 (F := Ideal) i Q T P 0#32 k a y (ix2 r 0) = max (a (ix2 r 0)) (Finset.univ.fold max ⊥ s) := by
  rw [← ninf, ← funext hp]
  pointwise [k0_pay3]

/-- The running total after trip `k`, from the trip's scores `s` and the new maximum `M`. -/
theorem pay6_apply (i : grid0.Coords) (Q : FVec Ideal S1024x256 .bf16) (T P : IVec S128x256 32) (k : Fin (k0_t1_loop i).trips) (a b : FVec Ideal S1024x1 .f32) (y : Vec Ideal S256x256 .f32) (r : Fin 1024)
    (s : Fin 256 → EReal) (hp : ∀ x, k0_pay2 (F := Ideal) i Q T P 0#32 k y (ix2 r x) = s x) (M : EReal) (hM : k0_pay3 (F := Ideal) i Q T P 0#32 k a y (ix2 r 0) = M) :
    k0_pay6 (F := Ideal) i Q T P 0#32 k a b y (ix2 r 0) = Ideal.exp (a (ix2 r 0) - M) * b (ix2 r 0) + ∑ x, Ideal.exp (s x - M) := by
  rw [← hM, ← funext hp]
  pointwise [k0_pay6, k0_pay5, k0_pay4]

/-- The running weighted sum after trip `k`, from the trip's scores `s`, the new maximum `M` and the column `v` of the trip's latent rows. -/
theorem pay7_apply (i : grid0.Coords) (Q : FVec Ideal S1024x256 .bf16) (T P : IVec S128x256 32) (k : Fin (k0_t1_loop i).trips) (a : FVec Ideal S1024x1 .f32) (b : FVec Ideal S1024x128 .f32) (y : Vec Ideal S256x256 .f32) (r : Fin 1024) (d : Fin 128)
    (s : Fin 256 → EReal) (hp : ∀ x, k0_pay2 (F := Ideal) i Q T P 0#32 k y (ix2 r x) = s x) (M : EReal) (hM : k0_pay3 (F := Ideal) i Q T P 0#32 k a y (ix2 r 0) = M)
    (v : Fin 256 → EReal) (hv : ∀ x : Fin 256, y (ix2 x ⟨d.val, by omega⟩) = v x) :
    k0_pay7 (F := Ideal) i Q T P 0#32 k a b y (ix2 r d) = Ideal.exp (a (ix2 r 0) - M) * b (ix2 r d) + ∑ x : Fin 256, Ideal.exp (s x - M) * v x := by
  rw [← hM, ← funext hp, ← funext hv]
  pointwise [k0_pay7, k0_pay5, k0_pay4, k0_pay1]

/-- One trip of the loop, on its state. -/
theorem st_succ (c : Dev nD) (i : grid0.Coords) (arg2 : Memref sig .tc .vmem S128x2048 .bf16) (harg2 : arg2.IsWhole) (arg3 : Memref sig .tc .vmem S2048x256 .f32) (harg3 : arg3.IsWhole) (arg4 : Memref sig .tc .vmem S1024x512 .bf16) (harg4 : arg4.IsWhole) (arg5 : Memref sig .tc .vmem S128x512 .bf16) (harg5 : arg5.IsWhole) (x0 : Vec Ideal S128x2048 .bf16) (x1 : Vec Ideal S2048x256 .f32) (k : Fin (k0_t1_loop i).trips) :
    st c i arg2 harg2 arg3 harg3 arg4 harg4 arg5 harg5 x0 x1 (k.val + 1) = (k0_pay3 (F := Ideal) i (k0_pay16 x0) (k0_pay17 i) (iota .tc S128x256 32 [1] iota_S128x256_d1_w32) 0#32 k (st c i arg2 harg2 arg3 harg3 arg4 harg4 arg5 harg5 x0 x1 k.val).1 (kvBlock i x1 k), k0_pay6 (F := Ideal) i (k0_pay16 x0) (k0_pay17 i) (iota .tc S128x256 32 [1] iota_S128x256_d1_w32) 0#32 k (st c i arg2 harg2 arg3 harg3 arg4 harg4 arg5 harg5 x0 x1 k.val).1 (st c i arg2 harg2 arg3 harg3 arg4 harg4 arg5 harg5 x0 x1 k.val).2.1 (kvBlock i x1 k), k0_pay7 (F := Ideal) i (k0_pay16 x0) (k0_pay17 i) (iota .tc S128x256 32 [1] iota_S128x256_d1_w32) 0#32 k (st c i arg2 harg2 arg3 harg3 arg4 harg4 arg5 harg5 x0 x1 k.val).1 (st c i arg2 harg2 arg3 harg3 arg4 harg4 arg5 harg5 x0 x1 k.val).2.2 (kvBlock i x1 k)) := by
  unfold st
  rw [st_k0_t1_succ, trip]

/-- Before trip `n` the loop carries, in row `r`, the greatest score of the first `256 n` keys, the total of their weights and the weighted sums of their latent rows. -/
theorem state_apply (c : Dev nD) (i : grid0.Coords) (arg2 : Memref sig .tc .vmem S128x2048 .bf16) (harg2 : arg2.IsWhole) (arg3 : Memref sig .tc .vmem S2048x256 .f32) (harg3 : arg3.IsWhole) (arg4 : Memref sig .tc .vmem S1024x512 .bf16) (harg4 : arg4.IsWhole) (arg5 : Memref sig .tc .vmem S128x512 .bf16) (harg5 : arg5.IsWhole) (x0 : Vec Ideal S128x2048 .bf16) (x1 : Vec Ideal S2048x256 .f32)
    (r : Fin 1024) (hs : ∀ l, score i x0 x1 r l ≠ ⊤) (h0 : score i x0 x1 r 0 ≠ ⊥) (n : ℕ) (hn : n ≤ (k0_t1_loop i).trips) :
    (st c i arg2 harg2 arg3 harg3 arg4 harg4 arg5 harg5 x0 x1 n).1 (ix2 r 0) = (range (256 * n)).sup (score i x0 x1 r)
    ∧ (st c i arg2 harg2 arg3 harg3 arg4 harg4 arg5 harg5 x0 x1 n).2.1 (ix2 r 0) = ∑ l ∈ range (256 * n), wt (score i x0 x1 r) (256 * n) l
    ∧ ∀ d : Fin 128, (st c i arg2 harg2 arg3 harg3 arg4 harg4 arg5 harg5 x0 x1 n).2.2 (ix2 r d) = ∑ l ∈ range (256 * n), wt (score i x0 x1 r) (256 * n) l * value x1 d l := by
  induction n with
  | zero =>
    unfold st
    rw [st_k0_t1_zero]
    refine ⟨?_, ?_, fun d => ?_⟩
    · exact IdealRules.named_const.ideal_named_scalar _ _ _ _ rfl
    · simp only [Nat.mul_zero, range_zero, sum_empty]
      pointwise [k0_pay19]
    · simp only [Nat.mul_zero, range_zero, sum_empty]
      pointwise [k0_pay20]
  | succ n ih =>
    obtain ⟨h1, h2, h3⟩ := ih (by omega)
    have e := st_succ c i arg2 harg2 arg3 harg3 arg4 harg4 arg5 harg5 x0 x1 ⟨n, hn⟩
    dsimp only at e
    have hp : ∀ x : Fin 256, k0_pay2 (F := Ideal) i (k0_pay16 x0) (k0_pay17 i) (iota .tc S128x256 32 [1] iota_S128x256_d1_w32) 0#32 ⟨n, hn⟩ (kvBlock i x1 ⟨n, hn⟩) (ix2 r x) = score i x0 x1 r (256 * n + x.val) :=
      pay2_apply i x0 x1 ⟨n, hn⟩ r
    have hM := pay3_apply i (k0_pay16 x0) (k0_pay17 i) (iota .tc S128x256 32 [1] iota_S128x256_d1_w32) ⟨n, hn⟩ (st c i arg2 harg2 arg3 harg3 arg4 harg4 arg5 harg5 x0 x1 n).1 (kvBlock i x1 ⟨n, hn⟩) r _ hp
    rw [h1, ← sup_block] at hM
    rw [e]
    refine ⟨hM, ?_, fun d => ?_⟩
    · rw [← step_one _ hs h0, ← h1, ← h2]
      exact pay6_apply _ _ _ _ _ _ _ _ _ _ hp _ hM
    · rw [← step _ _ hs h0, ← h1, ← h3]
      exact pay7_apply _ _ _ _ _ _ _ _ _ _ _ hp _ hM _ (fun x => by rw [kvBlock_apply, value, dif_pos])
end Cert.Mla
-- ==== Proof.MlaArray.lean ====
module
public import proofs.«01_k».proof.Proof.MlaRow
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
namespace Cert.Mla
open Cert.KernelIdeal Cert.KernelIdeal.Gen Cert.SoftmaxSum Finset

variable (m : (ℓ : Loc nD τ sig) → Buf (Elt Ideal) ℓ)

set_option maxHeartbeats 4000000 in
/-- The projection the launch reads is block diagonal: head `x / 128`'s rows reach only that head's 64 columns. -/
theorem w_apply (c : Dev nD) (x : Fin 1024) (j : Fin 512) :
    (V m c main_v10 : Vec Ideal S1024x512 .bf16) (ix2 x j) = if x.val / 128 = j.val / 64 then (m ((c : Thread nD τ).loc main_arg2) : Vec Ideal S128x8x64 .f32) (ix3 ⟨x.val % 128, by omega⟩ ⟨x.val / 128, by omega⟩ ⟨j.val % 64, by omega⟩) else (0 : EReal) := by
  dsimp only [V]
  simp only [hostOps0, hostOps0_1, hostOps0_2, List.flatten_cons, List.flatten_nil, List.append_nil, List.cons_append, List.nil_append]
  entry_read
  simp only [StableHlo.TRef.ofBuf_toBuf, StableHlo.TRef.ofBuf, StableHlo.TRef.toBuf, cast_eq]
  pointwise
  have ez : (FloatOps.sitofp (F := Ideal) .f32 0#32 : EReal) = 0 := by
    show (((0#32 : BitVec 32).toInt : ℝ) : EReal) = 0
    simp
  have ea : IntOp.addi (BitVec.ofNat 32 (x.val / 128)) 0#32 = BitVec.ofNat 32 (x.val / 128) := by
    simp [IntOp.addi]
  rw [ez, ea, WordCmp.cmpi_eq_ofNat (by omega) (by omega)]
  by_cases h : x.val / 128 = j.val / 64
  · simp only [h, decide_true, if_true]
    rfl
  · simp only [h, decide_false, if_false]
    rfl

/-- The blocks of the four windows at every point, and the point's row block. -/
theorem index0 : ∀ t : Fin cfg0.N, win0_0.index t = ![t.val, 0] ∧ win0_1.index t = ![t.val / 16, 0] ∧ win0_2.index t = ![0, 0] ∧ win0_3.index t = ![t.val, 0] ∧ (grid0.coords t 1).val = t.val % 16 := by
  decide +kernel

/-- The query block of point `t` is rows `128 t …` of the queries. -/
theorem q_apply (c : Dev nD) (t : Fin cfg0.N) (y : Fin 128) (z : Fin 2048) :
    (iblk m c 0 t : Vec Ideal S128x2048 .bf16) (ix2 y z) = (m ((c : Thread nD τ).loc main_arg0) : Vec Ideal S16512x2048 .bf16) (ix2 ⟨128 * t.val + y.val, by have h : t.val < 128 := t.isLt; omega⟩ z) := by
  have h := (index0 t).1
  blk_ext [iblk, V, h]

/-- The latent block of point `t` is the rows of sequence `t / 16`. -/
theorem lat_apply (c : Dev nD) (t : Fin cfg0.N) (y : Fin 2048) (z : Fin 256) :
    (X0_1 m c t : Vec Ideal S2048x256 .f32) (ix2 y z) = (m ((c : Thread nD τ).loc main_arg1) : Vec Ideal S16512x256 .f32) (ix2 ⟨2048 * (t.val / 16) + y.val, by have h : t.val < 128 := t.isLt; omega⟩ z) := by
  have h := (index0 t).2.1
  unfold X0_1 Pipeline.Window.fill
  rw [dif_pos (moved0_1 t _)]
  blk_ext [iblk, V, h]

/-- The block of the up-projection a grid point reads is the whole array. -/
theorem wblk_apply (c : Dev nD) (t : Fin cfg0.N) (x : Fin 1024) (j : Fin 512) :
    (iblk m c 2 t : Vec Ideal S1024x512 .bf16) (ix2 x j) = (V m c main_v10 : Vec Ideal S1024x512 .bf16) (ix2 x j) := by
  have h := (index0 t).2.2.1
  blk_ext [iblk, h]

set_option maxHeartbeats 4000000 in
/-- The block's result from the loop's last state: the quotients of each head, through the projection. -/
theorem pay15_apply (l : FVec Ideal S1024x1 .f32) (b : FVec Ideal S1024x128 .f32) (w : Vec Ideal S1024x512 .bf16) (t : Fin 128) (j : Fin 512) :
    k0_pay15 (F := Ideal) l b w (ix2 t j) = ∑ x : Fin 1024, Ideal.div (b (ix2 ⟨128 * (x.val / 128) + t.val, by omega⟩ ⟨x.val % 128, by omega⟩)) (l (ix2 ⟨128 * (x.val / 128) + t.val, by omega⟩ 0)) * w (ix2 x j) := by
  pointwise [k0_pay15]
  refine Finset.sum_congr rfl fun x _ => congrArg (· * w (ix2 x j)) ?_
  have key : ∀ (a a' : Fin 1024) (d d' : Fin 128), a = a' → d = d' → Ideal.div (b (ix2 a d)) (l (ix2 a 0)) = Ideal.div (b (ix2 a' d')) (l (ix2 a' 0)) := by
    rintro _ _ _ _ rfl rfl; rfl
  split_ifs <;> exact key _ _ _ _ (Fin.ext (by simp only []; omega)) (Fin.ext (by simp only []; omega))

/-- A sum over the 1024 stacked columns against a block-diagonal factor is the sum over one block of 128. -/
theorem sum_diag (A : Fin 1024 → EReal) (W : Fin 128 → Fin 8 → EReal) (h : Fin 8) :
    ∑ x : Fin 1024, A x * (if x.val / 128 = h.val then W ⟨x.val % 128, by omega⟩ ⟨x.val / 128, by omega⟩ else 0)
      = ∑ d : Fin 128, A ⟨128 * h.val + d.val, by omega⟩ * W d h := by
  symm
  refine Finset.sum_of_injOn (fun d : Fin 128 => (⟨128 * h.val + d.val, by omega⟩ : Fin 1024)) ?_ (fun _ _ => Finset.mem_coe.mpr (Finset.mem_univ _)) ?_ ?_
  · intro a _ b _ hab
    have := Fin.val_eq_of_eq hab
    exact Fin.ext (by simp only [] at this; omega)
  · intro x _ hx
    rw [if_neg, mul_zero]
    intro hx'
    exact hx ⟨⟨x.val % 128, by omega⟩, Finset.mem_coe.mpr (Finset.mem_univ _), Fin.ext (by simp only []; omega)⟩
  · intro d _
    have e1 : (128 * h.val + d.val) / 128 = h.val := by omega
    have e2 : (128 * h.val + d.val) % 128 = d.val := by omega
    simp only [e1, e2, if_true]

/-- The score of query row `n` and head `h` against key `l` of its sequence: their product, −∞ for a later key. -/
def scoreOf (qc : Vec Ideal S16512x2048 .bf16) (lat : Vec Ideal S16512x256 .f32) (n : Fin 16384) (h : Fin 8) (l : ℕ) : EReal :=
  if hl : l ≤ n.val % 2048 then ∑ c : Fin 256, qc (ix2 ⟨n.val, by omega⟩ ⟨256 * h.val + c.val, by omega⟩) * lat (ix2 ⟨2048 * (n.val / 2048) + l, by omega⟩ c)
  else ⊥

/-- Column `d` of latent row `l` of query row `n`'s sequence. -/
def latOf (lat : Vec Ideal S16512x256 .f32) (n : Fin 16384) (d : Fin 128) (l : ℕ) : EReal :=
  if hl : l < 2048 then lat (ix2 ⟨2048 * (n.val / 2048) + l, by omega⟩ ⟨d.val, by omega⟩) else 0

/-- The softmax weight of key `l` among 2048 keys of scores `s`. -/
def prob (s : ℕ → EReal) (l : ℕ) : EReal := Ideal.div (wt s 2048 l) (∑ l ∈ range 2048, wt s 2048 l)

/-- The attention's result at row `n` and column `j`: the softmax-weighted latents through head `j / 64`'s projection. -/
def attn (qc : Vec Ideal S16512x2048 .bf16) (lat : Vec Ideal S16512x256 .f32) (wuv : Vec Ideal S128x8x64 .f32) (n : Fin 16384) (j : Fin 512) : EReal :=
  ∑ d : Fin 128, (∑ l ∈ range 2048, prob (scoreOf qc lat n ⟨j.val / 64, by omega⟩) l * latOf lat n d l) * wuv (ix3 d ⟨j.val / 64, by omega⟩ ⟨j.val % 64, by omega⟩)

/-- After its last trip the loop's quotient in row `r` is the softmax-weighted sum over all 2048 keys. -/
theorem ratio (c : Dev nD) (i : grid0.Coords) (arg2 : Memref sig .tc .vmem S128x2048 .bf16) (harg2 : arg2.IsWhole) (arg3 : Memref sig .tc .vmem S2048x256 .f32) (harg3 : arg3.IsWhole) (arg4 : Memref sig .tc .vmem S1024x512 .bf16) (harg4 : arg4.IsWhole) (arg5 : Memref sig .tc .vmem S128x512 .bf16) (harg5 : arg5.IsWhole) (x0 : Vec Ideal S128x2048 .bf16) (x1 : Vec Ideal S2048x256 .f32)
    (r : Fin 1024) (hs : ∀ l, score i x0 x1 r l ≠ ⊤) (h0 : score i x0 x1 r 0 ≠ ⊥) (d : Fin 128) :
    Ideal.div ((st c i arg2 harg2 arg3 harg3 arg4 harg4 arg5 harg5 x0 x1 (k0_t1_loop i).trips).2.2 (ix2 r d)) ((st c i arg2 harg2 arg3 harg3 arg4 harg4 arg5 harg5 x0 x1 (k0_t1_loop i).trips).2.1 (ix2 r 0))
      = ∑ l ∈ range 2048, prob (score i x0 x1 r) l * value x1 d l := by
  obtain ⟨-, h2, h3⟩ := state_apply c i arg2 harg2 arg3 harg3 arg4 harg4 arg5 harg5 x0 x1 r hs h0 _ le_rfl
  rw [h2, h3 d]
  have ht := trips1 i
  have hi : (i 1).val < 16 := (i 1).isLt
  refine quotient _ _ hs h0 (by omega) (by omega) fun l hl _ => ?_
  unfold score
  rw [dif_neg]
  unfold pos
  omega

/-- What point `t` leaves at its block's row `y` and column `j` is the attention of array row `128 t + y`. -/
theorem point (c : Dev nD) (t : Fin cfg0.N) (qc : Vec Ideal S16512x2048 .bf16) (lat : Vec Ideal S16512x256 .f32) (wuv : Vec Ideal S128x8x64 .f32)
    (hq : m ((c : Thread nD τ).loc main_arg0) = qc) (hl : m ((c : Thread nD τ).loc main_arg1) = lat) (hw : m ((c : Thread nD τ).loc main_arg2) = wuv)
    (hs : ∀ n h l, scoreOf qc lat n h l ≠ ⊤) (h0 : ∀ n h, scoreOf qc lat n h 0 ≠ ⊥) (y : Fin 128) (j : Fin 512) :
    (outsAt0 m c t : Vec Ideal S128x512 .bf16) (ix2 y j) = attn qc lat wuv ⟨128 * t.val + y.val, by have h : t.val < 128 := t.isLt; omega⟩ j := by
  have ht : t.val < 128 := t.isLt
  have hc := (index0 t).2.2.2.2
  have hsc : ∀ r : Fin 1024, ∀ hy : r.val % 128 = y.val, score (grid0.coords t) (iblk m c 0 t) (X0_1 m c t) r = scoreOf qc lat ⟨128 * t.val + y.val, by omega⟩ ⟨r.val / 128, by omega⟩ := by
    intro r hy
    funext l
    have hp : pos (grid0.coords t) r = (128 * t.val + y.val) % 2048 := by unfold pos; rw [hc]; omega
    unfold score scoreOf
    by_cases h : l ≤ (128 * t.val + y.val) % 2048
    · rw [dif_pos (by rw [hp]; exact h), dif_pos h]
      refine Finset.sum_congr rfl fun k _ => congrArg₂ (· * ·) ?_ ?_
      · refine (q_apply m c t _ _).trans ?_
        rw [hq]
        exact congrArg qc (congrArg₂ ix2 (Fin.ext (by simp only []; omega)) rfl)
      · refine (lat_apply m c t _ _).trans ?_
        rw [hl]
        exact congrArg lat (congrArg₂ ix2 (Fin.ext (by simp only []; omega)) rfl)
    · rw [dif_neg (by rw [hp]; exact h), dif_neg h]
  have hv : ∀ d, value (X0_1 m c t) d = latOf lat ⟨128 * t.val + y.val, by omega⟩ d := by
    intro d
    funext l
    unfold value latOf
    by_cases h : l < 2048
    · rw [dif_pos h, dif_pos h]
      refine (lat_apply m c t _ _).trans ?_
      rw [hl]
      exact congrArg lat (congrArg₂ ix2 (Fin.ext (by simp only []; omega)) rfl)
    · rw [dif_neg h, dif_neg h]
  unfold outsAt0
  rw [out_A]
  refine (pay15_apply _ _ _ y j).trans ?_
  unfold attn
  refine Eq.trans (Finset.sum_congr rfl fun x _ => congrArg₂ (· * ·) ((ratio _ _ _ _ _ _ _ _ _ _ _ _ _ ?_ ?_ _).trans (by rw [hsc _ (by simp only []; omega), hv])) ((wblk_apply m c t x j).trans (w_apply m c x j))) ?_
  · rw [hsc _ (by simp only []; omega)]; exact hs _ _
  · rw [hsc _ (by simp only []; omega)]; exact h0 _ _
  · rw [hw]
    refine (sum_diag (fun x => ∑ l ∈ range 2048, prob (scoreOf qc lat ⟨128 * t.val + y.val, by omega⟩ ⟨(128 * (x.val / 128) + y.val) / 128, by omega⟩) l * latOf lat ⟨128 * t.val + y.val, by omega⟩ ⟨x.val % 128, by omega⟩ l) (fun d h => wuv (ix3 d h ⟨j.val % 64, by omega⟩)) ⟨j.val / 64, by omega⟩).trans ?_
    refine Finset.sum_congr rfl fun d _ => congrArg (· * _) ?_
    have e1 : (128 * ((128 * (j.val / 64) + d.val) / 128) + y.val) / 128 = j.val / 64 := by omega
    have e2 : (128 * (j.val / 64) + d.val) % 128 = d.val := by omega
    simp only [e1, e2]

/-- The launch's result array, at every index, is the attention of the arguments. -/
theorem array (c : Dev nD) (qc : Vec Ideal S16512x2048 .bf16) (lat : Vec Ideal S16512x256 .f32) (wuv : Vec Ideal S128x8x64 .f32)
    (hq : m ((c : Thread nD τ).loc main_arg0) = qc) (hl : m ((c : Thread nD τ).loc main_arg1) = lat) (hw : m ((c : Thread nD τ).loc main_arg2) = wuv)
    (hs : ∀ n h l, scoreOf qc lat n h l ≠ ⊤) (h0 : ∀ n h, scoreOf qc lat n h 0 ≠ ⊥) :
    (dats m 0 c).arrAt 3 cfg0.N = (fun i => attn qc lat wuv (i 0) (i 1) : Vec Ideal S16384x512 .bf16) := by
  refine (dats m 0 c).arrAt_eq_of_covers 3 _ (by decide +kernel) fun t hf y => ?_
  have h := (index0 t).2.2.2.1
  blk_simp
  rw [after0_3]
  have e := point m c t qc lat wuv hq hl hw hs h0 (y 0) (y 1)
  refine Eq.trans (congrArg (outsAt0 m c t) ?_) (e.trans ?_)
  · funext a; fin_cases a <;> rfl
  · refine congrArg₂ (attn qc lat wuv) (Fin.ext ?_) (Fin.ext ?_)
    · blk_simp [h]
      exact congrArg (· + _) (Nat.mul_comm _ _)
    · blk_simp [h]
end Cert.Mla
-- ==== Proof.MlaRef.lean ====
module
public import proofs.«01_k».proof.Proof.MlaArray
public import proofs.«01_k».proof.Proof.Gen.ReferenceIdeal.Read
@[expose] public section
set_option maxRecDepth 16384
noncomputable section
open Idealize.ShloMosaic Idealize.ShloMosaic.TcCoe Idealize.SL.Sem
namespace Cert.MlaRef
open Cert.ReferenceIdeal Cert.ReferenceIdeal.Gen Cert.ReferenceIdeal.Read Cert.SoftmaxSum Finset

variable (qc : Vec Ideal S16512x2048 .bf16) (lat : Vec Ideal S16512x256 .f32) (wuv : Vec Ideal S128x8x64 .f32)

/-- The array row of position `t` of sequence `b`. -/
def row (b : Fin 8) (t : Fin 2048) : Fin 16384 := ⟨2048 * b.val + t.val, by omega⟩

/-- The queries by sequence, position and head. -/
theorem v2_apply (b : Fin 8) (t : Fin 2048) (h : Fin 8) (c : Fin 256) :
    val_main_v2 (F := Ideal) qc (ix4 b t h c) = qc (ix2 ⟨2048 * b.val + t.val, by omega⟩ ⟨256 * h.val + c.val, by omega⟩) := by
  pointwise [val_main_v2, val_main_v1, val_main_v0]
  exact congrArg qc (congrArg₂ ix2 (Fin.ext (by simp only []; omega)) (Fin.ext (by simp only []; omega)))

/-- The latents by sequence and position. -/
theorem v4_apply (b : Fin 8) (l : Fin 2048) (c : Fin 256) :
    val_main_v4 (F := Ideal) lat (ix3 b l c) = lat (ix2 ⟨2048 * b.val + l.val, by omega⟩ c) := by
  pointwise [val_main_v4, val_main_v3]
  exact congrArg lat (congrArg₂ ix2 (Fin.ext (by simp only []; omega)) rfl)

/-- The product of a latent row with a query. -/
theorem v6_apply (b : Fin 8) (l t : Fin 2048) (h : Fin 8) :
    val_main_v6 (F := Ideal) qc lat (ix4 b l t h) = ∑ k : Fin 256, val_main_v4 (F := Ideal) lat (ix3 b l k) * val_main_v2 (F := Ideal) qc (ix4 b t h k) := by
  rw [val_main_v6_apply]
  refine Finset.sum_congr rfl fun k _ => congrArg₂ (· * ·) (congrArg _ ?_) (congrArg _ ?_) <;>
    (funext a; fin_cases a <;> rfl)

/-- The masked scores. -/
theorem v13_apply (b h : Fin 8) (t l : Fin 2048) :
    val_main_v13 (F := Ideal) qc lat (ix4 b h t l) = Mla.scoreOf qc lat (row b t) h l.val := by
  have e7 : val_main_v7 (F := Ideal) qc lat (ix4 b h t l) = ∑ k : Fin 256, val_main_v4 (F := Ideal) lat (ix3 b l k) * val_main_v2 (F := Ideal) qc (ix4 b t h k) := by
    rw [← v6_apply]
    unfold val_main_v7
    generalize val_main_v6 (F := Ideal) qc lat = y
    pointwise
  unfold val_main_v13
  generalize val_main_v7 (F := Ideal) qc lat = y at *
  pointwise [val_main_v12, val_main_call0_v1, val_main_call0_v2, val_main_call0_v0, val_main_cst, val_main_v11, val_main_v10, val_main_v9, val_main_v8, val_main_v5]
  rw [WordCmp.cmpi_sle_ofNat (by omega) (by omega), e7]
  have hr : (row b t).val % 2048 = t.val := by show (2048 * b.val + t.val) % 2048 = _; omega
  have hr' : (row b t).val / 2048 = b.val := by show (2048 * b.val + t.val) / 2048 = _; omega
  unfold Mla.scoreOf
  by_cases hl : l.val ≤ t.val
  · rw [dif_pos (by rw [hr]; exact hl)]
    simp only [hl, decide_true]
    refine (Mla.sel_one _ _).trans ?_
    refine Finset.sum_congr rfl fun k _ => ?_
    rw [v2_apply, v4_apply, mul_comm]
    refine congrArg₂ (· * ·) (congrArg qc (congrArg₂ ix2 (Fin.ext rfl) rfl)) (congrArg lat (congrArg₂ ix2 (Fin.ext ?_) rfl))
    simp only [hr']
  · rw [dif_neg (by rw [hr]; exact hl)]
    simp only [hl, decide_false]
    exact Mla.ninf

/-- The greatest score over all keys, read as a fold, is the greatest of the first 2048. -/
theorem fold_eq (s : ℕ → EReal) : Finset.univ.fold max ⊥ (fun l : Fin 2048 => s l.val) = (range 2048).sup s := by
  show (Finset.univ : Finset (Fin 2048)).sup (fun l => s l.val) = _
  refine le_antisymm (Finset.sup_le fun l _ => Finset.le_sup (f := s) (mem_range.mpr l.isLt)) (Finset.sup_le fun l hl => ?_)
  exact Finset.le_sup (f := fun l : Fin 2048 => s l.val) (Finset.mem_univ ⟨l, mem_range.mp hl⟩)

/-- The row maximum. -/
theorem v14_apply (b h : Fin 8) (t : Fin 2048) :
    val_main_v14 (F := Ideal) qc lat (ix3 b h t) = (range 2048).sup (Mla.scoreOf qc lat (row b t) h) := by
  rw [← fold_eq, ← Mla.ninf]
  have e := v13_apply qc lat b h t
  unfold val_main_v14
  generalize val_main_v13 (F := Ideal) qc lat = y at *
  rw [← funext e]
  pointwise [val_main_cst_0]

/-- The weights before division. -/
theorem v20_apply (b h : Fin 8) (t l : Fin 2048) :
    val_main_v20 (F := Ideal) qc lat (ix4 b h t l) = wt (Mla.scoreOf qc lat (row b t) h) 2048 l.val := by
  have e := v13_apply qc lat b h t l
  have e' := v14_apply qc lat b h t
  have e16 : val_main_v18 (F := Ideal) qc lat (ix4 b h t l) = val_main_v16 (F := Ideal) qc lat (ix3 b h t) := by
    rw [val_main_v18_apply, val_main_v17_apply]
    exact congrArg _ (by funext a; fin_cases a <;> rfl)
  rw [val_main_v20_apply, val_main_v19_apply, e16, val_main_v16_apply, e, e', val_main_v15_apply, val_main_cst_1_apply]
  simp only [Ideal.maximumf_def, Ideal.subf_def, Ideal.ofBits_def, Mla.ninf, max_eq_right bot_le]
  rfl

/-- The total weight of a row. -/
theorem v21_apply (b h : Fin 8) (t : Fin 2048) :
    val_main_v21 (F := Ideal) qc lat (ix3 b h t) = ∑ l ∈ range 2048, wt (Mla.scoreOf qc lat (row b t) h) 2048 l := by
  rw [val_main_v21_apply, ← Fin.sum_univ_eq_sum_range]
  have hz : (val_main_cst_2 (F := Ideal)) (Shape.Idx.first h_S_) = 0 := by rw [val_main_cst_2_apply]; simp [Ideal.ofBits, Ideal.ieee]
  rw [hz, zero_add]
  refine Finset.sum_congr rfl fun k _ => ?_
  rw [← v20_apply]
  exact congrArg _ (by funext a; fin_cases a <;> rfl)

/-- The softmax weights. -/
theorem v24_apply (b h : Fin 8) (t l : Fin 2048) :
    val_main_v24 (F := Ideal) qc lat (ix4 b h t l) = Mla.prob (Mla.scoreOf qc lat (row b t) h) l.val := by
  have e := v20_apply qc lat b h t l
  have e' := v21_apply qc lat b h t
  have e23 : val_main_v23 (F := Ideal) qc lat (ix4 b h t l) = val_main_v21 (F := Ideal) qc lat (ix3 b h t) := by
    rw [val_main_v23_apply, val_main_v22_apply]
    exact congrArg _ (by funext a; fin_cases a <;> rfl)
  rw [val_main_v24_apply, e23, e, e']
  rfl

/-- The weighted latents. -/
theorem v25_apply (b : Fin 8) (c : Fin 256) (h : Fin 8) (t : Fin 2048) :
    val_main_v25 (F := Ideal) qc lat (ix4 b c h t) = ∑ l : Fin 2048, lat (ix2 ⟨2048 * b.val + l.val, by omega⟩ c) * Mla.prob (Mla.scoreOf qc lat (row b t) h) l.val := by
  rw [val_main_v25_apply]
  refine Finset.sum_congr rfl fun l _ => ?_
  refine (congrArg₂ (· * ·) (congrArg _ ?_) (congrArg _ ?_)).trans (congrArg₂ (· * ·) (v4_apply lat b l c) (v24_apply qc lat b h t l)) <;> (funext a; fin_cases a <;> rfl)

/-- The reference's result at an index is the attention of the arguments there. -/
theorem v31_apply (n : Fin 16384) (j : Fin 512) :
    val_main_v31 (F := Ideal) qc lat wuv (ix2 n j) = Mla.attn qc lat wuv n j := by
  have e : val_main_v31 (F := Ideal) qc lat wuv (ix2 n j) = val_main_v28 (F := Ideal) qc lat wuv (ix4 ⟨j.val / 64, by omega⟩ ⟨j.val % 64, by omega⟩ ⟨n.val / 2048, by omega⟩ ⟨n.val % 2048, by omega⟩) := by
    unfold val_main_v31 val_main_v30 val_main_v29
    generalize val_main_v28 (F := Ideal) qc lat wuv = y
    pointwise
  have e27 : ∀ k : Fin 128, val_main_v27 (F := Ideal) qc lat (ix4 ⟨n.val / 2048, by omega⟩ ⟨n.val % 2048, by omega⟩ ⟨j.val / 64, by omega⟩ k) = val_main_v25 (F := Ideal) qc lat (ix4 ⟨n.val / 2048, by omega⟩ ⟨k.val, by omega⟩ ⟨j.val / 64, by omega⟩ ⟨n.val % 2048, by omega⟩) := by
    intro k
    unfold val_main_v27 val_main_v26
    generalize val_main_v25 (F := Ideal) qc lat = y
    pointwise
  have hrow : row ⟨n.val / 2048, by omega⟩ ⟨n.val % 2048, by omega⟩ = n := Fin.ext (by unfold row; simp only []; omega)
  rw [e, val_main_v28_apply]
  unfold Mla.attn
  refine Finset.sum_congr rfl fun k _ => ?_
  rw [mul_comm]
  refine congrArg₂ (· * ·) ?_ (congrArg wuv (by funext a; fin_cases a <;> rfl))
  refine Eq.trans (congrArg _ (by funext a; fin_cases a <;> rfl)) ((e27 k).trans ?_)
  rw [v25_apply, hrow, ← Fin.sum_univ_eq_sum_range]
  refine Finset.sum_congr rfl fun l _ => ?_
  rw [mul_comm, Mla.latOf, dif_pos l.isLt]

end Cert.MlaRef
-- ==== Proof.MlaClaim.lean ====
module
public import proofs.«01_k».proof.Defs
public import proofs.«01_k».proof.Proof.MlaRef
public import proofs.«01_k».proof.Proof.Gen.Pre_finite
public import Idealize.ShloMosaic.Lib.Claim
@[expose] public section
set_option maxRecDepth 16384
noncomputable section
open Idealize.ShloMosaic Idealize.ShloMosaic.TcCoe Idealize.SL.Sem
namespace Cert.MlaClaim
open Cert.Pre_finite Cert.Pre_finite.Gen

variable (qc : Vec Ideal S16512x2048 .bf16) (lat : Vec Ideal S16512x256 .f32) (wuv : Vec Ideal S128x8x64 .f32)

/-- The word 0x7F800000 reads as +∞. -/
theorem pinf : Ideal.ofBits .f32 2139095040#32 = ⊤ := by
  simp [Ideal.ofBits, Ideal.ieee]

/-- A value whose magnitude passes the comparison with +∞ is a real number. -/
theorem real_of_test (x : EReal) (h : BitVec.ofBool (decide (max x (-x) < Ideal.ofBits .f32 2139095040#32)) = 1#1) : x ≠ ⊤ ∧ x ≠ ⊥ := by
  rw [pinf] at h
  by_cases hx : max x (-x) < ⊤
  · exact ⟨fun e => by rw [e] at hx; simp at hx, fun e => by rw [e] at hx; simp at hx⟩
  · rw [decide_eq_false hx] at h
    exact absurd h (by decide)

/-- Under the precondition every query is a real number. -/
theorem q_real (hp : Cert.Pre_finite.fn (F := Ideal) qc lat wuv = fun _ => 1#1) (n : Fin 16512) (j : Fin 2048) :
    qc (ix2 n j) ≠ ⊤ ∧ qc (ix2 n j) ≠ ⊥ := by
  have e := congrFun hp (ix2 n ⟨j.val, by omega⟩)
  refine real_of_test _ (Eq.trans ?_ e)
  unfold Cert.Pre_finite.fn
  symm
  pointwise
  rfl

/-- Under the precondition every latent is a real number. -/
theorem lat_real (hp : Cert.Pre_finite.fn (F := Ideal) qc lat wuv = fun _ => 1#1) (n : Fin 16512) (j : Fin 256) :
    lat (ix2 n j) ≠ ⊤ ∧ lat (ix2 n j) ≠ ⊥ := by
  have e := congrFun hp (ix2 n ⟨2048 + j.val, by omega⟩)
  refine real_of_test _ (Eq.trans ?_ e)
  unfold Cert.Pre_finite.fn
  symm
  pointwise
  rfl

/-- A finite sum of products of real numbers is a real number. -/
theorem sum_real {ι : Type} (s : Finset ι) (f g : ι → EReal) (hf : ∀ i, f i ≠ ⊤ ∧ f i ≠ ⊥) (hg : ∀ i, g i ≠ ⊤ ∧ g i ≠ ⊥) :
    ∑ i ∈ s, f i * g i ≠ ⊤ ∧ ∑ i ∈ s, f i * g i ≠ ⊥ := by
  classical
  suffices h : ∃ x : ℝ, ∑ i ∈ s, f i * g i = x by
    obtain ⟨x, e⟩ := h
    rw [e]
    exact ⟨EReal.coe_ne_top _, EReal.coe_ne_bot _⟩
  induction s using Finset.induction_on with
  | empty => exact ⟨0, by simp⟩
  | insert i s hi ih =>
    obtain ⟨x, e⟩ := ih
    refine ⟨(f i).toReal * (g i).toReal + x, ?_⟩
    rw [Finset.sum_insert hi, e, EReal.coe_add, EReal.coe_mul, EReal.coe_toReal (hf i).1 (hf i).2, EReal.coe_toReal (hg i).1 (hg i).2]

/-- The scores are below +∞. -/
theorem score_top (hp : Cert.Pre_finite.fn (F := Ideal) qc lat wuv = fun _ => 1#1) (n : Fin 16384) (h : Fin 8) (l : ℕ) :
    Mla.scoreOf qc lat n h l ≠ ⊤ := by
  unfold Mla.scoreOf
  split_ifs
  · exact (sum_real _ _ _ (fun c => q_real qc lat wuv hp _ _) (fun c => lat_real qc lat wuv hp _ _)).1
  · exact bot_ne_top

/-- The score of the first key is above −∞. -/
theorem score_bot (hp : Cert.Pre_finite.fn (F := Ideal) qc lat wuv = fun _ => 1#1) (n : Fin 16384) (h : Fin 8) :
    Mla.scoreOf qc lat n h 0 ≠ ⊥ := by
  unfold Mla.scoreOf
  rw [dif_pos (Nat.zero_le _)]
  exact (sum_real _ _ _ (fun c => q_real qc lat wuv hp _ _) (fun c => lat_real qc lat wuv hp _ _)).2

/-- The reference's counters: it declares no semaphore. -/
theorem ref_sem (s : MemSt Cert.ReferenceIdeal.nD Cert.ReferenceIdeal.τ Cert.ReferenceIdeal.sig (Elt Ideal)) : s.sem = fun _ => 0 :=
  funext fun s => match s with
    | (_, .reg k) => k.elim0
    | (_, .dma k) => k.elim0

/-- The reference runs, keeps its arguments and ends quiescent. -/
theorem ref_frame : Cert.quiescent_ReferenceIdeal := fun m g _ =>
  θ_run_mono (Cert.ReferenceIdeal.Value.run m g) fun r h => ⟨fun c => (h c).2, ref_sem r.2⟩

/-- The same under the precondition. -/
theorem ref_frame_pre : Cert.quiescent_ReferenceIdeal_pre_finite := fun m g _ => ref_frame m g trivial

/-- The attention call and its reference compute the same array. -/
theorem algebraic : Cert.algebraic_KernelIdeal_ReferenceIdeal_pre_finite := by
  intro m g m' g' hpre hagree
  refine ⟨fun c => (fun i => Mla.attn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (i 0) (i 1) : Vec Ideal Cert.KernelIdeal.S16384x512 .bf16), ?_, ?_⟩
  · exact θ_run_mono (Cert.KernelIdeal.Value.run_blocks m g) fun r h c =>
      ⟨(h c).1.trans (Mla.array m c _ _ _ rfl rfl rfl (score_top _ _ _ (hpre c)) (score_bot _ _ _ (hpre c))), (h c).2⟩
  · refine θ_run_mono (Cert.ReferenceIdeal.Value.run m' g') fun r h c => ⟨(h c).1.trans ?_, (h c).2⟩
    rw [Cert.ReferenceIdeal.Read.val_main_v31_eq, (hagree c).1, (hagree c).2.1, (hagree c).2.2]
    funext i
    exact (congrArg _ (by funext a; fin_cases a <;> rfl)).trans (MlaRef.v31_apply _ _ _ (i 0) (i 1))

end Cert.MlaClaim
-- ==== Proof.FfnClaim.lean ====
module
public import proofs.«01_k».proof.Defs
public import proofs.«01_k».proof.Proof.Gen.Reference2Ideal.Run
public import Idealize.ShloMosaic.Lib.Claim
@[expose] public section
noncomputable section
open Idealize.ShloMosaic Idealize.ShloMosaic.TcCoe Idealize.SL.Sem
namespace Cert.FfnClaim

/-- The feed-forward reference's counters: it declares no semaphore. -/
theorem ref_sem (s : MemSt Cert.Reference2Ideal.nD Cert.Reference2Ideal.τ Cert.Reference2Ideal.sig (Elt Ideal)) : s.sem = fun _ => 0 :=
  funext fun s => match s with
    | (_, .reg k) => k.elim0
    | (_, .dma k) => k.elim0

/-- The feed-forward reference runs, keeps its arguments and ends quiescent. -/
theorem ref_frame : Cert.quiescent_Reference2Ideal := fun m g _ =>
  θ_run_mono (Cert.Reference2Ideal.Value.run m g) fun r h => ⟨fun c => (h c).2, ref_sem r.2⟩

end Cert.FfnClaim
-- ==== Proof.FfnRun.lean ====
module
public import proofs.«01_k».proof.Proof.Gen.Kernel2Ideal.Value
public import Idealize.ShloMosaic.Lib.Pipeline.ValueKit
@[expose] public section
set_option maxRecDepth 16384
noncomputable section
open Idealize.ShloMosaic Idealize.ShloMosaic.TcCoe Idealize.SL.Sem
namespace Cert.Ffn
open Cert.Kernel2Ideal Cert.Kernel2Ideal.Gen

variable {F : FTy → Type} [FloatOps F]

/-- The two spellings of the zero offsets. -/
theorem hz : (![0, 0] : Fin 2 → Nat) = fun _ => 0 := funext fun a => by fin_cases a <;> rfl

/-- The first chunk's point leaves the normalised rows in the first scratch. -/
theorem sout0_A_0_eq (c : Dev nD) (i : grid0.Coords) (arg2 : Memref sig .tc .vmem S384x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x2048 .bf16) (harg6 : arg6.IsWhole) (arg7 : Memref sig .tc .vmem S384x2048 .f32) (harg7 : arg7.IsWhole) (arg8 : Memref sig .tc .vmem S384x2048 .bf16) (harg8 : arg8.IsWhole) (arg9 : Memref sig .tc .vmem S384x2048 .f32) (harg9 : arg9.IsWhole) (hc0 : cond0_0 i) (hc1 : ¬cond0_1 i)
    (x0 : Vec F S384x2048 .f32) (x1 : Vec F S1x2048 .f32) (x2 : Vec F S2048x1024 .bf16) (x3 : Vec F S2048x1024 .bf16) (x4 : Vec F S1024x2048 .bf16) :
    sout0_A_0 c i arg2 harg2 arg3 harg3 arg4 harg4 arg5 harg5 arg6 harg6 arg7 harg7 arg8 harg8 arg9 harg9 hc0 hc1 x0 x1 x2 x3 x4 = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  have h0 : ∀ a : Fin 2, (![0, 0] : Fin 2 → Nat) a = 0 := by decide
  refine (View.canon_cons_unit_lit' _ _ _ h0).trans ?_
  simp only [View.readAt_eq_ld, harg2.read_unread, harg3.read_unread, harg4.read_unread, harg5.read_unread, harg6.read_unread, harg8.read_unread, harg9.read_unread, View.ld_unit_zero (S := S384x2048) hz, View.ld_unit_zero (S := S2048x1024) hz, View.ld_unit_zero (S := S1024x2048) hz, View.ld_unit_zero (S := S1x2048) hz, shapeCast_self]
  try rw [View.readCov_cons_unit_lit' _ _ _ _ _ h0 h0]
  try rw [View.readCov_cons_unit_lit' _ _ _ _ _ h0 h0]

/-- The first chunk's point leaves the first chunk's product in the second scratch. -/
theorem sout0_A_1_eq (c : Dev nD) (i : grid0.Coords) (arg2 : Memref sig .tc .vmem S384x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x2048 .bf16) (harg6 : arg6.IsWhole) (arg7 : Memref sig .tc .vmem S384x2048 .f32) (harg7 : arg7.IsWhole) (arg8 : Memref sig .tc .vmem S384x2048 .bf16) (harg8 : arg8.IsWhole) (arg9 : Memref sig .tc .vmem S384x2048 .f32) (harg9 : arg9.IsWhole) (hc0 : cond0_0 i) (hc1 : ¬cond0_1 i)
    (x0 : Vec F S384x2048 .f32) (x1 : Vec F S1x2048 .f32) (x2 : Vec F S2048x1024 .bf16) (x3 : Vec F S2048x1024 .bf16) (x4 : Vec F S1024x2048 .bf16) :
    sout0_A_1 c i arg2 harg2 arg3 harg3 arg4 harg4 arg5 harg5 arg6 harg6 arg7 harg7 arg8 harg8 arg9 harg9 hc0 hc1 x0 x1 x2 x3 x4 = k0_pay3 (k0_pay1 x0 x1) x2 x3 k0_pay2 x4 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  have h0 : ∀ a : Fin 2, (![0, 0] : Fin 2 → Nat) a = 0 := by decide
  refine (View.canon_cons_unit_lit' _ _ _ h0).trans ?_
  simp only [View.readAt_eq_ld, harg2.read_unread, harg3.read_unread, harg4.read_unread, harg5.read_unread, harg6.read_unread, harg8.read_unread, harg9.read_unread, View.ld_unit_zero (S := S384x2048) hz, View.ld_unit_zero (S := S2048x1024) hz, View.ld_unit_zero (S := S1024x2048) hz, View.ld_unit_zero (S := S1x2048) hz, shapeCast_self]
  try rw [View.readCov_cons_unit_lit' _ _ _ _ _ h0 h0]
  try rw [View.readCov_cons_unit_lit' _ _ _ _ _ h0 h0]

/-- A middle chunk's point adds its product. -/
theorem sout0_B_1_eq (c : Dev nD) (i : grid0.Coords) (arg2 : Memref sig .tc .vmem S384x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x2048 .bf16) (harg6 : arg6.IsWhole) (arg7 : Memref sig .tc .vmem S384x2048 .f32) (harg7 : arg7.IsWhole) (arg8 : Memref sig .tc .vmem S384x2048 .bf16) (harg8 : arg8.IsWhole) (arg9 : Memref sig .tc .vmem S384x2048 .f32) (harg9 : arg9.IsWhole) (hc0 : ¬cond0_0 i) (hc1 : ¬cond0_1 i)
    (x0 : Vec F S384x2048 .f32) (x1 : Vec F S1x2048 .f32) (x2 : Vec F S2048x1024 .bf16) (x3 : Vec F S2048x1024 .bf16) (x4 : Vec F S1024x2048 .bf16) (xs0 : Vec F S384x2048 .bf16) (xs1 : Vec F S384x2048 .f32) :
    sout0_B_1 c i arg2 harg2 arg3 harg3 arg4 harg4 arg5 harg5 arg6 harg6 arg7 harg7 arg8 harg8 arg9 harg9 hc0 hc1 x0 x1 x2 x3 x4 xs0 xs1 = k0_pay3 xs0 x2 x3 xs1 x4 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  have h0 : ∀ a : Fin 2, (![0, 0] : Fin 2 → Nat) a = 0 := by decide
  refine (View.canon_cons_unit_lit' _ _ _ h0).trans ?_
  simp only [View.readAt_eq_ld, harg2.read_unread, harg3.read_unread, harg4.read_unread, harg5.read_unread, harg6.read_unread, harg8.read_unread, harg9.read_unread, View.ld_unit_zero (S := S384x2048) hz, View.ld_unit_zero (S := S2048x1024) hz, View.ld_unit_zero (S := S1024x2048) hz, View.ld_unit_zero (S := S1x2048) hz, shapeCast_self]
  try rw [View.readCov_cons_unit_lit' _ _ _ _ _ h0 h0]
  try rw [View.readCov_cons_unit_lit' _ _ _ _ _ h0 h0]

/-- The last chunk's point adds its product. -/
theorem sout0_C_1_eq (c : Dev nD) (i : grid0.Coords) (arg2 : Memref sig .tc .vmem S384x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x2048 .bf16) (harg6 : arg6.IsWhole) (arg7 : Memref sig .tc .vmem S384x2048 .f32) (harg7 : arg7.IsWhole) (arg8 : Memref sig .tc .vmem S384x2048 .bf16) (harg8 : arg8.IsWhole) (arg9 : Memref sig .tc .vmem S384x2048 .f32) (harg9 : arg9.IsWhole) (hc0 : ¬cond0_0 i) (hc1 : cond0_1 i)
    (x0 : Vec F S384x2048 .f32) (x1 : Vec F S1x2048 .f32) (x2 : Vec F S2048x1024 .bf16) (x3 : Vec F S2048x1024 .bf16) (x4 : Vec F S1024x2048 .bf16) (xs0 : Vec F S384x2048 .bf16) (xs1 : Vec F S384x2048 .f32) :
    sout0_C_1 c i arg2 harg2 arg3 harg3 arg4 harg4 arg5 harg5 arg6 harg6 arg7 harg7 arg8 harg8 arg9 harg9 hc0 hc1 x0 x1 x2 x3 x4 xs0 xs1 = k0_pay3 xs0 x2 x3 xs1 x4 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  have h0 : ∀ a : Fin 2, (![0, 0] : Fin 2 → Nat) a = 0 := by decide
  refine (View.canon_cons_unit_lit' _ _ _ h0).trans ?_
  simp only [View.readAt_eq_ld, harg2.read_unread, harg3.read_unread, harg4.read_unread, harg5.read_unread, harg6.read_unread, harg8.read_unread, harg9.read_unread, View.ld_unit_zero (S := S384x2048) hz, View.ld_unit_zero (S := S2048x1024) hz, View.ld_unit_zero (S := S1024x2048) hz, View.ld_unit_zero (S := S1x2048) hz, shapeCast_self]
  try rw [View.readCov_cons_unit_lit' _ _ _ _ _ h0 h0]
  try rw [View.readCov_cons_unit_lit' _ _ _ _ _ h0 h0]

/-- The last chunk's point stores the rows with half the total added. -/
theorem out0_C_5_eq (c : Dev nD) (i : grid0.Coords) (arg2 : Memref sig .tc .vmem S384x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S1024x2048 .bf16) (harg6 : arg6.IsWhole) (arg7 : Memref sig .tc .vmem S384x2048 .f32) (harg7 : arg7.IsWhole) (arg8 : Memref sig .tc .vmem S384x2048 .bf16) (harg8 : arg8.IsWhole) (arg9 : Memref sig .tc .vmem S384x2048 .f32) (harg9 : arg9.IsWhole) (hc0 : ¬cond0_0 i) (hc1 : cond0_1 i)
    (x0 : Vec F S384x2048 .f32) (x1 : Vec F S1x2048 .f32) (x2 : Vec F S2048x1024 .bf16) (x3 : Vec F S2048x1024 .bf16) (x4 : Vec F S1024x2048 .bf16) (xs0 : Vec F S384x2048 .bf16) (xs1 : Vec F S384x2048 .f32) :
    out0_C_5 c i arg2 harg2 arg3 harg3 arg4 harg4 arg5 harg5 arg6 harg6 arg7 harg7 arg8 harg8 arg9 harg9 hc0 hc1 x0 x1 x2 x3 x4 xs0 xs1 = k0_pay4 x0 (k0_pay3 xs0 x2 x3 xs1 x4) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  have h0 : ∀ a : Fin 2, (![0, 0] : Fin 2 → Nat) a = 0 := by decide
  refine (View.canon_cons_unit_lit' _ _ _ h0).trans ?_
  simp only [View.readAt_eq_ld, harg2.read_unread, harg3.read_unread, harg4.read_unread, harg5.read_unread, harg6.read_unread, harg8.read_unread, harg9.read_unread, View.ld_unit_zero (S := S384x2048) hz, View.ld_unit_zero (S := S2048x1024) hz, View.ld_unit_zero (S := S1024x2048) hz, View.ld_unit_zero (S := S1x2048) hz, shapeCast_self]
  try rw [View.readCov_cons_unit_lit' _ _ _ _ _ h0 h0]
  try rw [View.readCov_cons_unit_lit' _ _ _ _ _ h0 h0]

end Cert.Ffn
-- ==== Proof.FfnArray.lean ====
module
public import proofs.«01_k».proof.Proof.FfnRun
public import Idealize.ShloMosaic.Lib.Claim
@[expose] public section
set_option maxRecDepth 16384
noncomputable section
open Idealize.ShloMosaic Idealize.ShloMosaic.TcCoe Idealize.SL.Sem
namespace Cert.Ffn
open Cert.Kernel2Ideal Cert.Kernel2Ideal.Gen Finset

/-! ## The mathematics -/

/-- The normalised row `n`: each entry over the root mean square of the row, times the gain. -/
def rms (x : Vec Ideal S16512x2048 .f32) (g : Vec Ideal S2048 .f32) (n : Fin 16512) (d : Fin 2048) : EReal :=
  x (ix2 n d) * Ideal.rsqrt (Ideal.div (∑ k : Fin 2048, x (ix2 n k) * x (ix2 n k)) (Ideal.ofBits FTy.f32 0x45000000#32) + Ideal.ofBits FTy.f32 0x358637BD#32) * g (ix1 d)

/-- Row `n` of the first product, at column `q` of the doubled hidden width. -/
def gu (x : Vec Ideal S16512x2048 .f32) (g : Vec Ideal S2048 .f32) (w : Vec Ideal S2048x8192 .f32) (n : Fin 16512) (q : Fin 8192) : EReal :=
  ∑ d : Fin 2048, rms x g n d * w (ix2 d q)

/-- Hidden column `q`'s share of the result at `(n, j)`. -/
def term (x : Vec Ideal S16512x2048 .f32) (g : Vec Ideal S2048 .f32) (w : Vec Ideal S2048x8192 .f32) (w' : Vec Ideal S4096x2048 .f32) (n : Fin 16512) (j : Fin 2048) (q : ℕ) : EReal :=
  if hq : q < 4096 then gu x g w n ⟨q, by omega⟩ * Ideal.logistic (gu x g w n ⟨q, by omega⟩) * gu x g w n ⟨q + 4096, by omega⟩ * w' (ix2 ⟨q, hq⟩ j) else 0

/-- The half feed-forward at `(n, j)`. -/
def ffn (x : Vec Ideal S16512x2048 .f32) (g : Vec Ideal S2048 .f32) (w : Vec Ideal S2048x8192 .f32) (w' : Vec Ideal S4096x2048 .f32) (n : Fin 16512) (j : Fin 2048) : EReal :=
  x (ix2 n j) + Ideal.ofBits FTy.f32 0x3F000000#32 * ∑ q ∈ range 4096, term x g w w' n j q

/-! ## The payloads -/

/-- The normalised block. -/
theorem pay1_apply (x : Vec Ideal S384x2048 .f32) (g : Vec Ideal S1x2048 .f32) (r : Fin 384) (j : Fin 2048) :
    k0_pay1 (F := Ideal) x g (ix2 r j) = x (ix2 r j) * Ideal.rsqrt (Ideal.div (∑ k : Fin 2048, x (ix2 r k) * x (ix2 r k)) (Ideal.ofBits FTy.f32 0x45000000#32) + Ideal.ofBits FTy.f32 0x358637BD#32) * g (ix2 0 j) := by
  pointwise [k0_pay1]

/-- The accumulator's first contents. -/
theorem pay2_apply (r : Fin 384) (j : Fin 2048) : k0_pay2 (F := Ideal) (ix2 r j) = 0 := by
  pointwise [k0_pay2]

/-- One chunk's step of the accumulator. -/
theorem pay3_apply (h : Vec Ideal S384x2048 .bf16) (wg wu : Vec Ideal S2048x1024 .bf16) (a : Vec Ideal S384x2048 .f32) (wo : Vec Ideal S1024x2048 .bf16) (r : Fin 384) (j : Fin 2048) :
    k0_pay3 (F := Ideal) h wg wu a wo (ix2 r j) = a (ix2 r j) + ∑ q : Fin 1024, ((∑ d : Fin 2048, h (ix2 r d) * wg (ix2 d q)) * Ideal.logistic (∑ d : Fin 2048, h (ix2 r d) * wg (ix2 d q)) * ∑ d : Fin 2048, h (ix2 r d) * wu (ix2 d q)) * wo (ix2 q j) := by
  pointwise [k0_pay3]

/-- The result block. -/
theorem pay4_apply (x a : Vec Ideal S384x2048 .f32) (r : Fin 384) (j : Fin 2048) :
    k0_pay4 (F := Ideal) x a (ix2 r j) = x (ix2 r j) + Ideal.ofBits FTy.f32 0x3F000000#32 * a (ix2 r j) := by
  pointwise [k0_pay4]

/-! ## The blocks -/

variable (m : (ℓ : Loc nD τ sig) → Buf (Elt Ideal) ℓ)

/-- The blocks of the six windows at every point. -/
theorem index0 : ∀ t : Fin cfg0.N, win0_0.index t = ![t.val / 4, 0] ∧ win0_1.index t = ![0, 0] ∧ win0_2.index t = ![0, t.val % 4] ∧ win0_3.index t = ![0, t.val % 4 + 4] ∧ win0_4.index t = ![t.val % 4, 0] ∧ win0_5.index t = ![t.val / 4, 0] := by
  decide +kernel

/-- There are 172 points. -/
theorem t_lt (t : Fin cfg0.N) : t.val < 172 := lt_of_lt_of_eq t.isLt N_0

/-- The array row of row `r` of point `t`'s block. -/
def row (t : Fin cfg0.N) (r : Fin 384) : Fin 16512 := ⟨384 * (t.val / 4) + r.val, by have := t_lt t; omega⟩

/-- Point `t`'s rows. -/
theorem x_apply (c : Dev nD) (t : Fin cfg0.N) (r : Fin 384) (d : Fin 2048) :
    (iblk m c 0 t : Vec Ideal S384x2048 .f32) (ix2 r d) = (m ((c : Thread nD τ).loc main_arg0) : Vec Ideal S16512x2048 .f32) (ix2 (row t r) d) := by
  have h := (index0 t).1
  unfold row
  blk_ext [iblk, V, h]

/-- The gain. -/
theorem g_apply (c : Dev nD) (t : Fin cfg0.N) (d : Fin 2048) :
    (iblk m c 1 t : Vec Ideal S1x2048 .f32) (ix2 0 d) = (m ((c : Thread nD τ).loc main_arg1) : Vec Ideal S2048 .f32) (ix1 d) := by
  have h := (index0 t).2.1
  have e : (V m c main_v2 : Vec Ideal S1x2048 .f32) (ix2 0 d) = (m ((c : Thread nD τ).loc main_arg1) : Vec Ideal S2048 .f32) (ix1 d) := by
    entry_read
    pointwise
  rw [← e]
  blk_ext [iblk, h]

/-- The gate's chunk of the first matrix. -/
theorem wg_apply (c : Dev nD) (t : Fin cfg0.N) (d : Fin 2048) (q : Fin 1024) :
    (iblk m c 2 t : Vec Ideal S2048x1024 .bf16) (ix2 d q) = (m ((c : Thread nD τ).loc main_arg2) : Vec Ideal S2048x8192 .f32) (ix2 d ⟨1024 * (t.val % 4) + q.val, by omega⟩) := by
  have h := (index0 t).2.2.1
  have e : (V m c main_v0 : Vec Ideal S2048x8192 .bf16) (ix2 d ⟨1024 * (t.val % 4) + q.val, by omega⟩) = (m ((c : Thread nD τ).loc main_arg2) : Vec Ideal S2048x8192 .f32) (ix2 d ⟨1024 * (t.val % 4) + q.val, by omega⟩) := by
    entry_read
    pointwise
  rw [← e]
  blk_ext [iblk, h]

/-- The other half's chunk of the first matrix. -/
theorem wu_apply (c : Dev nD) (t : Fin cfg0.N) (d : Fin 2048) (q : Fin 1024) :
    (iblk m c 3 t : Vec Ideal S2048x1024 .bf16) (ix2 d q) = (m ((c : Thread nD τ).loc main_arg2) : Vec Ideal S2048x8192 .f32) (ix2 d ⟨1024 * (t.val % 4) + q.val + 4096, by omega⟩) := by
  have h := (index0 t).2.2.2.1
  have e : (V m c main_v0 : Vec Ideal S2048x8192 .bf16) (ix2 d ⟨1024 * (t.val % 4) + q.val + 4096, by omega⟩) = (m ((c : Thread nD τ).loc main_arg2) : Vec Ideal S2048x8192 .f32) (ix2 d ⟨1024 * (t.val % 4) + q.val + 4096, by omega⟩) := by
    entry_read
    pointwise
  rw [← e]
  blk_ext [iblk, h]

/-- The chunk of the second matrix. -/
theorem wo_apply (c : Dev nD) (t : Fin cfg0.N) (q : Fin 1024) (j : Fin 2048) :
    (iblk m c 4 t : Vec Ideal S1024x2048 .bf16) (ix2 q j) = (m ((c : Thread nD τ).loc main_arg3) : Vec Ideal S4096x2048 .f32) (ix2 ⟨1024 * (t.val % 4) + q.val, by omega⟩ j) := by
  have h := (index0 t).2.2.2.2.1
  have e : (V m c main_v1 : Vec Ideal S4096x2048 .bf16) (ix2 ⟨1024 * (t.val % 4) + q.val, by omega⟩ j) = (m ((c : Thread nD τ).loc main_arg3) : Vec Ideal S4096x2048 .f32) (ix2 ⟨1024 * (t.val % 4) + q.val, by omega⟩ j) := by
    entry_read
    pointwise
  rw [← e]
  blk_ext [iblk, h]

/-! ## The carried scratches -/

variable (c : Dev nD) (x : Vec Ideal S16512x2048 .f32) (g : Vec Ideal S2048 .f32) (w : Vec Ideal S2048x8192 .f32) (w' : Vec Ideal S4096x2048 .f32)
  (hx : m ((c : Thread nD τ).loc main_arg0) = x) (hg : m ((c : Thread nD τ).loc main_arg1) = g) (hw : m ((c : Thread nD τ).loc main_arg2) = w) (hw' : m ((c : Thread nD τ).loc main_arg3) = w')
include hx hg

/-- A first chunk's point leaves the normalised rows. -/
theorem h_start (t : Fin cfg0.N) (r : Fin 384) (d : Fin 2048) :
    k0_pay1 (F := Ideal) (iblk m c 0 t) (iblk m c 1 t) (ix2 r d) = rms x g (row t r) d := by
  rw [pay1_apply]
  simp only [x_apply m c t, g_apply m c t, hx, hg]
  rfl

/-- The first scratch holds the normalised rows of the point's block. -/
theorem h_apply (n : ℕ) (hn : n < cfg0.N) (r : Fin 384) (d : Fin 2048) :
    (outsAt0 m c n hn).2.1 (ix2 r d) = rms x g (row ⟨n, hn⟩ r) d := by
  induction n with
  | zero =>
    rw [outsAt0_A m c ⟨0, hn⟩ (by simp) (by simp)]
    dsimp only
    rw [sout0_A_0_eq]
    exact h_start m c x g hx hg _ r d
  | succ n ih =>
    by_cases h0 : (n + 1) % 4 = 0
    · rw [outsAt0_A m c ⟨n + 1, hn⟩ h0 (by simp only []; omega)]
      dsimp only
      rw [sout0_A_0_eq]
      exact h_start m c x g hx hg _ r d
    · have hr : row ⟨n, by omega⟩ r = row ⟨n + 1, hn⟩ r := Fin.ext (by unfold row; simp only []; omega)
      have e := ih (by omega)
      rw [hr] at e
      by_cases h1 : (n + 1) % 4 = 3
      · rw [outsAt0_C m c ⟨n + 1, hn⟩ h0 h1]
        exact e
      · rw [outsAt0_B m c ⟨n + 1, hn⟩ h0 h1]
        exact e

include hw hw'

/-- One chunk's step adds that chunk's hidden columns. -/
theorem step (t : Fin cfg0.N) (h : Vec Ideal S384x2048 .bf16) (hh : ∀ r d, h (ix2 r d) = rms x g (row t r) d) (a : Vec Ideal S384x2048 .f32) (r : Fin 384) (j : Fin 2048)
    (ha : a (ix2 r j) = ∑ q ∈ range (1024 * (t.val % 4)), term x g w w' (row t r) j q) :
    k0_pay3 (F := Ideal) h (iblk m c 2 t) (iblk m c 3 t) a (iblk m c 4 t) (ix2 r j) = ∑ q ∈ range (1024 * (t.val % 4) + 1024), term x g w w' (row t r) j q := by
  rw [pay3_apply, ha, Finset.sum_range_add, ← Fin.sum_univ_eq_sum_range (fun k => term x g w w' (row t r) j (1024 * (t.val % 4) + k))]
  refine congrArg (_ + ·) (Finset.sum_congr rfl fun q _ => ?_)
  simp only [hh, wg_apply m c t, wu_apply m c t, wo_apply m c t, hw, hw']
  rw [term, dif_pos (by omega)]
  rfl

/-- The second scratch holds the sum over the hidden columns up to the point's chunk. -/
theorem acc_apply (n : ℕ) (hn : n < cfg0.N) (r : Fin 384) (j : Fin 2048) :
    (outsAt0 m c n hn).2.2 (ix2 r j) = ∑ q ∈ range (1024 * (n % 4) + 1024), term x g w w' (row ⟨n, hn⟩ r) j q := by
  have start : ∀ t : Fin cfg0.N, t.val % 4 = 0 → k0_pay3 (F := Ideal) (k0_pay1 (F := Ideal) (iblk m c 0 t) (iblk m c 1 t)) (iblk m c 2 t) (iblk m c 3 t) (k0_pay2 (F := Ideal)) (iblk m c 4 t) (ix2 r j) = ∑ q ∈ range (1024 * (t.val % 4) + 1024), term x g w w' (row t r) j q := by
    intro t h0
    refine step m c x g w w' hx hg hw hw' t _ (h_start m c x g hx hg t) _ r j ?_
    rw [pay2_apply, h0]
    rfl
  induction n with
  | zero =>
    rw [outsAt0_A m c ⟨0, hn⟩ (by simp) (by simp)]
    dsimp only
    rw [sout0_A_1_eq]
    exact start ⟨0, hn⟩ rfl
  | succ n ih =>
    by_cases h0 : (n + 1) % 4 = 0
    · rw [outsAt0_A m c ⟨n + 1, hn⟩ h0 (by simp only []; omega)]
      dsimp only
      rw [sout0_A_1_eq]
      exact start ⟨n + 1, hn⟩ h0
    · have hr : ∀ r, row ⟨n, by omega⟩ r = row ⟨n + 1, hn⟩ r := fun r => Fin.ext (by unfold row; simp only []; omega)
      have e := ih (by omega)
      have eh := h_apply m c x g hx hg n (by omega)
      rw [hr, show 1024 * (n % 4) + 1024 = 1024 * ((n + 1) % 4) by omega] at e
      have e' := step m c x g w w' hx hg hw hw' ⟨n + 1, hn⟩ (outsAt0 m c n (by omega)).2.1 (fun r d => (eh r d).trans (by rw [hr])) (outsAt0 m c n (by omega)).2.2 r j e
      by_cases h1 : (n + 1) % 4 = 3
      · rw [outsAt0_C m c ⟨n + 1, hn⟩ h0 h1]
        dsimp only
        rw [sout0_C_1_eq]
        exact e'
      · rw [outsAt0_B m c ⟨n + 1, hn⟩ h0 h1]
        dsimp only
        rw [sout0_B_1_eq]
        exact e'

/-- What a last chunk's point stores. -/
theorem out_apply (t : Fin cfg0.N) (h1 : t.val % 4 = 3) (r : Fin 384) (j : Fin 2048) :
    (outsAt0 m c t.val t.isLt).1 (ix2 r j) = ffn x g w w' (row t r) j := by
  have e := acc_apply m c x g w w' hx hg hw hw' t.val t.isLt r j
  rw [outsAt0_C m c t (by omega) h1] at e ⊢
  dsimp only at e ⊢
  rw [sout0_C_1_eq] at e
  rw [out0_C_5_eq, pay4_apply, e, x_apply m c t, hx, h1]
  rfl

/-- The launch's result array, at every index, is the half feed-forward of the arguments. -/
theorem array : (dats m 0 c).arrAt 5 cfg0.N = (fun i => ffn x g w w' (i 0) (i 1) : Vec Ideal S16512x2048 .f32) := by
  refine (dats m 0 c).arrAt_eq_of_covers 5 _ (by decide +kernel) fun t hf y => ?_
  have h := (index0 t).2.2.2.2.2
  blk_simp
  rw [after0_5]
  have e := out_apply m c x g w w' hx hg hw hw' t ((flush0_5 t).mp hf) (y 0) (y 1)
  refine Eq.trans (congrArg (outsAt0 m c t.val t.isLt).1 ?_) (e.trans ?_)
  · funext a; fin_cases a <;> rfl
  · refine congrArg₂ (ffn x g w w') (Fin.ext ?_) (Fin.ext ?_)
    · unfold row
      blk_simp [h]
      exact congrArg (· + _) (Nat.mul_comm _ _)
    · blk_simp [h]
end Cert.Ffn
-- ==== Proof.FfnRef.lean ====
module
public import proofs.«01_k».proof.Proof.FfnArray
public import proofs.«01_k».proof.Proof.Gen.Reference2Ideal.Read
@[expose] public section
set_option maxRecDepth 16384
noncomputable section
open Idealize.ShloMosaic Idealize.ShloMosaic.TcCoe Idealize.SL.Sem
namespace Cert.FfnRef
open Cert.Reference2Ideal Cert.Reference2Ideal.Gen Cert.Reference2Ideal.Read Finset

variable (x : Vec Ideal S16512x2048 .f32) (g : Vec Ideal S2048 .f32) (w : Vec Ideal S2048x8192 .f32) (w' : Vec Ideal S4096x2048 .f32)

/-- The word of 1 reads as 1. -/
theorem one_word : Ideal.ofBits .f32 0x3F800000#32 = 1 := by
  simp [Ideal.ofBits, Ideal.ieee]
  rw [← EReal.coe_mul]
  norm_num

/-- The row sums of squares. -/
theorem v1_apply (n : Fin 16512) : val_main_v1 (F := Ideal) x (ix1 n) = ∑ k : Fin 2048, x (ix2 n k) * x (ix2 n k) := by
  rw [val_main_v1_apply]
  have hz : (val_main_cst (F := Ideal)) (Shape.Idx.first h_S_) = 0 := by rw [val_main_cst_apply]; simp [Ideal.ofBits, Ideal.ieee]
  rw [hz, zero_add]
  refine Finset.sum_congr rfl fun k _ => ?_
  rw [val_main_v0_apply]
  refine congrArg₂ (· * ·) (congrArg x ?_) (congrArg x ?_) <;> (funext a; fin_cases a <;> rfl)

/-- The reciprocal root of a row's mean square, at every entry of the row. -/
theorem v8_apply (n : Fin 16512) (d : Fin 2048) :
    val_main_v8 (F := Ideal) x (ix2 n d) = Ideal.rsqrt (Ideal.div (∑ k : Fin 2048, x (ix2 n k) * x (ix2 n k)) (Ideal.ofBits FTy.f32 0x45000000#32) + Ideal.ofBits FTy.f32 0x358637BD#32) := by
  rw [val_main_v8_apply, val_main_v7_apply, val_main_v6_apply, val_main_v4_apply, val_main_v2_apply, val_main_v5_apply, val_main_v3_apply, val_main_cst_0_apply, val_main_cst_1_apply, ← v1_apply]
  show Ideal.rsqrt (Ideal.div (val_main_v1 (F := Ideal) x _) _ + _) = _
  refine congrArg Ideal.rsqrt (congrArg₂ (· + ·) (congrArg₂ Ideal.div (congrArg _ ?_) rfl) rfl)
  funext a; fin_cases a; rfl

/-- The normalised rows. -/
theorem v12_apply (n : Fin 16512) (d : Fin 2048) : val_main_v12 (F := Ideal) x g (ix2 n d) = Ffn.rms x g n d := by
  rw [val_main_v12_apply, val_main_v9_apply, v8_apply, val_main_v11_apply, val_main_v10_apply]
  unfold Ffn.rms
  refine congrArg₂ (· * ·) rfl (congrArg g ?_)
  funext a; fin_cases a; rfl

/-- The first product. -/
theorem v13_apply (n : Fin 16512) (q : Fin 8192) : val_main_v13 (F := Ideal) x g w (ix2 n q) = Ffn.gu x g w n q := by
  rw [val_main_v13_apply]
  unfold Ffn.gu
  refine Finset.sum_congr rfl fun d _ => ?_
  rw [← v12_apply]
  refine congrArg₂ (· * ·) (congrArg _ ?_) (congrArg w ?_) <;> (funext a; fin_cases a <;> rfl)

/-- The hidden activations. -/
theorem v17_apply (n : Fin 16512) (q : Fin 4096) :
    val_main_v17 (F := Ideal) x g w (ix2 n q) = Ffn.gu x g w n ⟨q.val, by omega⟩ * Ideal.logistic (Ffn.gu x g w n ⟨q.val, by omega⟩) * Ffn.gu x g w n ⟨q.val + 4096, by omega⟩ := by
  have e14 : val_main_v14 (F := Ideal) x g w (ix2 n q) = Ffn.gu x g w n ⟨q.val, by omega⟩ := by
    rw [val_main_v14_apply, ← v13_apply]
    exact congrArg _ (by funext a; fin_cases a <;> rfl)
  have e16 : val_main_v16 (F := Ideal) x g w (ix2 n q) = Ffn.gu x g w n ⟨q.val + 4096, by omega⟩ := by
    rw [val_main_v16_apply, ← v13_apply]
    exact congrArg _ (by funext a; fin_cases a <;> first | rfl | exact Fin.ext (Nat.add_comm _ _))
  rw [val_main_v17_apply, val_main_v15_apply, e14, e16, val_main_call0_v5_apply, val_main_call0_v4_apply, val_main_call0_v3_apply, val_main_call0_v2_apply, val_main_call0_v1_apply, val_main_call0_v0_apply, e14, val_main_call0_cst_apply, val_main_call0_cst_0_apply]
  refine congrArg₂ (· * ·) (congrArg₂ (· * ·) rfl ?_) rfl
  show Ideal.div (Ideal.ofBits .f32 0x3F800000#32) (Ideal.ofBits .f32 0x3F800000#32 + Ideal.exp (-_)) = _
  rw [one_word]
  rfl

/-- The reference's result at an index is the half feed-forward of the arguments there. -/
theorem v21_apply (n : Fin 16512) (j : Fin 2048) : val_main_v21 (F := Ideal) x g w w' (ix2 n j) = Ffn.ffn x g w w' n j := by
  have e18 : val_main_v18 (F := Ideal) x g w w' (ix2 n j) = ∑ q ∈ range 4096, Ffn.term x g w w' n j q := by
    rw [val_main_v18_apply, ← Fin.sum_univ_eq_sum_range]
    refine Finset.sum_congr rfl fun q _ => ?_
    rw [Ffn.term, dif_pos q.isLt, ← v17_apply]
    refine congrArg₂ (· * ·) (congrArg _ ?_) (congrArg w' ?_) <;> (funext a; fin_cases a <;> rfl)
  rw [val_main_v21_apply, val_main_v20_apply, e18, val_main_v19_apply, val_main_cst_2_apply]
  rfl

end Cert.FfnRef
-- ==== Proof.FfnClaim2.lean ====
module
public import proofs.«01_k».proof.Proof.FfnClaim
public import proofs.«01_k».proof.Proof.FfnRef
@[expose] public section
noncomputable section
open Idealize.ShloMosaic Idealize.ShloMosaic.TcCoe Idealize.SL.Sem
namespace Cert.FfnClaim

/-- The feed-forward call and its reference compute the same array. -/
theorem algebraic : Cert.algebraic_Kernel2Ideal_Reference2Ideal := by
  intro m g m' g' hpre hagree
  refine ⟨fun c => (fun i => Ffn.ffn (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (i 0) (i 1) : Vec Ideal Cert.Kernel2Ideal.S16512x2048 .f32), ?_, ?_⟩
  · exact θ_run_mono (Cert.Kernel2Ideal.Value.run_blocks m g) fun r h c => ⟨(h c).1.trans (Ffn.array m c _ _ _ _ rfl rfl rfl rfl), (h c).2⟩
  · refine θ_run_mono (Cert.Reference2Ideal.Value.run m' g') fun r h c => ⟨(h c).1.trans ?_, (h c).2⟩
    rw [Cert.Reference2Ideal.Read.val_main_v21_eq, (hagree c).1, (hagree c).2.1, (hagree c).2.2.1, (hagree c).2.2.2]
    funext i
    exact (congrArg _ (by funext a; fin_cases a <;> rfl)).trans (FfnRef.v21_apply _ _ _ _ (i 0) (i 1))

end Cert.FfnClaim
-- ==== Proof.MergeRunIdeal.lean ====
/- The merge kernel's body, case by case: what one grid point leaves in the staged output and in the two scratch
   buffers, as plain functions of what it found there (`Kernel3Ideal`). -/
module

public import proofs.«01_k».proof.Proof.Gen.Kernel3Ideal.Frame
public import proofs.«01_k».proof.Proof.Gen.Kernel3Ideal.Skeleton
public import Idealize.ShloMosaic.Lib.VecWindow
public import Idealize.ShloMosaic.Lib.Claim

@[expose] public section

set_option maxRecDepth 16384

noncomputable section

namespace Cert.Proof.MergeRunIdeal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The propositions the body's triples are stated in. -/
abbrev SP (F : FTy → Type) : Type := sProp (MT nD τ sig Unit (Elt F) ℕ (UR sig nD τ) ℕ)

/-- The body's first branch is taken: a row block's first point. -/
abbrev isFirst (i : grid0.Coords) : Prop := (Scalar.cmpi .ne (Scalar.extui (Scalar.cmpi .eq (BitVec.ofNat 32 (i 1).val) 0#32)) 0#32) = 1#1

/-- The body's second branch is taken: a row block's last point. -/
abbrev isLast (i : grid0.Coords) : Prop := k0_cond2 i = 1#1

/-- The half of the accumulator a point works on is the parity of its second coordinate. -/
theorem off_eq (i : grid0.Coords) : k0_off1 i = ![(i 1).val % 2, 0, 0] := by
  have h : (i 1).val < 8 := (i 1).isLt
  unfold k0_off1
  generalize (i 1).val = n at h ⊢
  rcases (by omega : n = 0 ∨ n = 1 ∨ n = 2 ∨ n = 3 ∨ n = 4 ∨ n = 5 ∨ n = 6 ∨ n = 7) with rfl | rfl | rfl | rfl | rfl | rfl | rfl | rfl <;> rfl

/-- A row block's first point works on the first half. -/
theorem off_first (i : grid0.Coords) (hc : isFirst i) : k0_off1 i = ![0, 0, 0] := by
  have h : (i 1).val < 8 := (i 1).isLt
  unfold isFirst at hc
  unfold k0_off1
  generalize (i 1).val = n at h hc ⊢
  rcases (by omega : n = 0 ∨ n = 1 ∨ n = 2 ∨ n = 3 ∨ n = 4 ∨ n = 5 ∨ n = 6 ∨ n = 7) with rfl | rfl | rfl | rfl | rfl | rfl | rfl | rfl <;> first | rfl | exact absurd hc (by decide)

/-- A row block's last point works on the second half. -/
theorem off_last (i : grid0.Coords) (hc : isLast i) : k0_off1 i = ![1, 0, 0] := by
  have h : (i 1).val < 8 := (i 1).isLt
  unfold isLast k0_cond2 at hc
  unfold k0_off1
  generalize (i 1).val = n at h hc ⊢
  rcases (by omega : n = 0 ∨ n = 1 ∨ n = 2 ∨ n = 3 ∨ n = 4 ∨ n = 5 ∨ n = 6 ∨ n = 7) with rfl | rfl | rfl | rfl | rfl | rfl | rfl | rfl <;> first | rfl | exact absurd hc (by decide)

/-- Equal arguments give the same gated product. -/
theorem pay4_congr {a a' : Vec F S384x2048 .bf16} {b b' : Vec F S2048x1024 .bf16} {d d' : Vec F S1x384x1024 .f32} {e e' : Vec F S1x384x512 .bf16} {f f' : Vec F S1x512x1024 .bf16}
    (h1 : a = a') (h2 : b = b') (h3 : d = d') (h4 : e = e') (h5 : f = f') : k0_pay4 a b d e f = k0_pay4 a' b' d' e' f' := by
  subst h1 h2 h3 h4 h5; rfl

/-- Equal arguments give the same output block. -/
theorem pay1_congr {a a' : Vec F S1x384x1024 .f32} {b b' : Vec F S1024x2048 .bf16} {d d' : Vec F S1x384x1024 .f32} {e e' : Vec F S1024x2048 .bf16} {f f' : Vec F S384x2048 .f32}
    (h1 : a = a') (h2 : b = b') (h3 : d = d') (h4 : e = e') (h5 : f = f') : k0_pay1 a b d e f = k0_pay1 a' b' d' e' f' := by
  subst h1 h2 h3 h4 h5; rfl

/-- The window just written, read at equal offsets, is what was written. -/
theorem window_put_eq {α : Type} {s : Shape} (x : s.Idx → α) {off off' size : Fin s.rank → ℕ} (h : off' = off) (inb : ∀ a, off a + size a ≤ s.size a) (w : ((a : Fin s.rank) → Fin (size a)) → α) :
    VecWindow.window (VecWindow.put x off' size w) off size inb = w := by
  subst h; exact VecWindow.window_put_same x _ size inb w

/-- The accumulator after a point: the half this point works on replaced by its old contents plus the gated product. -/
def step (i : grid0.Coords) (h : Vec F S384x2048 .bf16) (a : Vec F S2x384x1024 .f32) (x2 : Vec F S1x384x512 .bf16) (x3 : Vec F S2048x1024 .bf16) (x4 : Vec F S1x512x1024 .bf16) : Vec F S2x384x1024 .f32 :=
  VecWindow.put a (k0_off1 i) S1x384x1024.size (k0_pay4 h x3 (VecWindow.window a (k0_off1 i) S1x384x1024.size (k0_off1_inb i)) x2 x4)

/-- The output block after the last point of a row block, from the accumulator, the output weight and the rows. -/
def fin (a : Vec F S2x384x1024 .f32) (x5 : Vec F S2048x2048 .bf16) (x0 : Vec F S384x2048 .f32) : Vec F S384x2048 .f32 :=
  k0_pay1 (VecWindow.window a ![0, 0, 0] S1x384x1024.size inb_S2x384x1024_S1x384x1024_0_0_0)
    (VecWindow.window x5 ![0, 0] S1024x2048.size inb_S2048x2048_S1024x2048_0_0)
    (VecWindow.window a ![1, 0, 0] S1x384x1024.size inb_S2x384x1024_S1x384x1024_1_0_0)
    (VecWindow.window x5 ![1024, 0] S1024x2048.size inb_S2048x2048_S1024x2048_1024_0) x0

set_option maxHeartbeats 2000000 in
/-- A row block's first point: the normalised rows are stored, the accumulator cleared, then the first gated product put in. -/
theorem runA (c : Dev nD) (i : grid0.Coords) (arg2 : Memref sig .tc .vmem S384x2048 .f32) (harg2 : arg2.IsWhole) (arg3 : Memref sig .tc .vmem S1x2048 .f32) (harg3 : arg3.IsWhole) (arg4 : Memref sig .tc .vmem S1x384x512 .bf16) (harg4 : arg4.IsWhole) (arg5 : Memref sig .tc .vmem S2048x1024 .bf16) (harg5 : arg5.IsWhole) (arg6 : Memref sig .tc .vmem S1x512x1024 .bf16) (harg6 : arg6.IsWhole) (arg7 : Memref sig .tc .vmem S2048x2048 .bf16) (harg7 : arg7.IsWhole) (arg8 : Memref sig .tc .vmem S384x2048 .f32) (harg8 : arg8.IsWhole) (arg9 : Memref sig .tc .vmem S384x2048 .bf16) (harg9 : arg9.IsWhole) (arg10 : Memref sig .tc .vmem S2x384x1024 .f32) (harg10 : arg10.IsWhole) (hc0 : isFirst i) (hc1 : ¬isLast i)
    (x0 : Vec F S384x2048 .f32) (x1 : Vec F S1x2048 .f32) (x2 : Vec F S1x384x512 .bf16) (x3 : Vec F S2048x1024 .bf16) (x4 : Vec F S1x512x1024 .bf16) (x5 : Vec F S2048x2048 .bf16) (d6 : Vec F S384x2048 .f32) (E : Set ℕ) (K : PUnit → SP F) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ (∃ d, owns (c : Thread nD τ) arg9 fullShare d) ∗ (∃ d, owns (c : Thread nD τ) arg10 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare (k0_pay2 x0 x1) ∗ owns (c : Thread nD τ) arg10 fullShare (step i (k0_pay2 x0 x1) (k0_pay3 (F := F)) x2 x3 x4)) -∗ K ⟨⟩))
      ⊢ wp frame (wpE (defs₀ (F := F)) Variants.none c none) E (cc0_merge i arg2 harg2 arg3 harg3 arg4 harg4 arg5 harg5 arg6 harg6 arg7 harg7 arg8 harg8 arg9 harg9 arg10 harg10) K := by
  simp only [cc0_merge_eq_skeleton]; unfold cc0_merge_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  letI : ClosedOff (k0_off1 i) := ⟨![0, 0, 0], off_first i hc0⟩
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr
    swap; · iexact HS0
    ipureintro
    refine (View.read_writes_full _ _ _ _ _).trans ?_
    exact congrArg₂ k0_pay2 ((View.readAt_full _ _ _).trans (harg2.read_unread _)) ((View.readAt_full _ _ _).trans (harg3.read_unread _))
  iexists _; isplitr
  swap; · iexact HS1
  ipureintro
  unfold runA.sl.v13 runA.sl.v19 runA.sl.HS1_1 runA.sl.HS0_1
  unfold step
  refine (View.read_writes_cons_put _ _ _ _ _ rfl).trans ?_
  refine congr (congrArg (fun z : Vec F S2x384x1024 .f32 => VecWindow.put z (k0_off1 i) S1x384x1024.size) (View.read_writes_full arg10.view _ _ _ _)) (pay4_congr ?_ ?_ ?_ ?_ ?_)
  · refine (View.readCov_full _ _ _ _ _).trans ?_
    exact congrArg₂ k0_pay2 ((View.readAt_full _ _ _).trans (harg2.read_unread _)) ((View.readAt_full _ _ _).trans (harg3.read_unread _))
  · exact (View.readAt_full _ _ _).trans (harg5.read_unread _)
  · exact (View.readAt_unit _ _ _ rfl (k0_off1_inb i)).trans (congrArg (fun z => VecWindow.window z _ _ _) (View.read_writes_full _ _ _ _ _))
  · exact (View.readAt_full _ _ _).trans (harg4.read_unread _)
  · exact (View.readAt_full _ _ _).trans (harg6.read_unread _)

set_option maxHeartbeats 2000000 in
/-- A point in the middle of a row block: one gated product more in the accumulator. -/
theorem runB (c : Dev nD) (i : grid0.Coords) (arg2 : Memref sig .tc .vmem S384x2048 .f32) (harg2 : arg2.IsWhole) (arg3 : Memref sig .tc .vmem S1x2048 .f32) (harg3 : arg3.IsWhole) (arg4 : Memref sig .tc .vmem S1x384x512 .bf16) (harg4 : arg4.IsWhole) (arg5 : Memref sig .tc .vmem S2048x1024 .bf16) (harg5 : arg5.IsWhole) (arg6 : Memref sig .tc .vmem S1x512x1024 .bf16) (harg6 : arg6.IsWhole) (arg7 : Memref sig .tc .vmem S2048x2048 .bf16) (harg7 : arg7.IsWhole) (arg8 : Memref sig .tc .vmem S384x2048 .f32) (harg8 : arg8.IsWhole) (arg9 : Memref sig .tc .vmem S384x2048 .bf16) (harg9 : arg9.IsWhole) (arg10 : Memref sig .tc .vmem S2x384x1024 .f32) (harg10 : arg10.IsWhole) (hc0 : ¬isFirst i) (hc1 : ¬isLast i)
    (x0 : Vec F S384x2048 .f32) (x1 : Vec F S1x2048 .f32) (x2 : Vec F S1x384x512 .bf16) (x3 : Vec F S2048x1024 .bf16) (x4 : Vec F S1x512x1024 .bf16) (x5 : Vec F S2048x2048 .bf16) (d6 : Vec F S384x2048 .f32) (h : Vec F S384x2048 .bf16) (a : Vec F S2x384x1024 .f32) (E : Set ℕ) (K : PUnit → SP F) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare h ∗ owns (c : Thread nD τ) arg10 fullShare a ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare h ∗ owns (c : Thread nD τ) arg10 fullShare (step i h a x2 x3 x4)) -∗ K ⟨⟩))
      ⊢ wp frame (wpE (defs₀ (F := F)) Variants.none c none) E (cc0_merge i arg2 harg2 arg3 harg3 arg4 harg4 arg5 harg5 arg6 harg6 arg7 harg7 arg8 harg8 arg9 harg9 arg10 harg10) K := by
  simp only [cc0_merge_eq_skeleton]; unfold cc0_merge_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; · ipureintro; exact harg9.read_unread _
    iexact HS0
  iexists _; isplitr
  swap; · iexact HS1
  ipureintro
  unfold step
  refine (View.read_writes_cons_put _ _ _ _ _ rfl).trans ?_
  rw [View.writes_nil, harg10.read_unread]
  refine congrArg (VecWindow.put a (k0_off1 i) _) (pay4_congr ?_ ?_ ?_ ?_ ?_)
  · exact (View.readAt_full _ _ _).trans (harg9.read_unread _)
  · exact (View.readAt_full _ _ _).trans (harg5.read_unread _)
  · exact (View.readAt_unit _ _ _ rfl _).trans (by rw [harg10.read_unread])
  · exact (View.readAt_full _ _ _).trans (harg4.read_unread _)
  · exact (View.readAt_full _ _ _).trans (harg6.read_unread _)

set_option maxHeartbeats 2000000 in
/-- A row block's last point: the last gated product, then the output block. -/
theorem runC (c : Dev nD) (i : grid0.Coords) (arg2 : Memref sig .tc .vmem S384x2048 .f32) (harg2 : arg2.IsWhole) (arg3 : Memref sig .tc .vmem S1x2048 .f32) (harg3 : arg3.IsWhole) (arg4 : Memref sig .tc .vmem S1x384x512 .bf16) (harg4 : arg4.IsWhole) (arg5 : Memref sig .tc .vmem S2048x1024 .bf16) (harg5 : arg5.IsWhole) (arg6 : Memref sig .tc .vmem S1x512x1024 .bf16) (harg6 : arg6.IsWhole) (arg7 : Memref sig .tc .vmem S2048x2048 .bf16) (harg7 : arg7.IsWhole) (arg8 : Memref sig .tc .vmem S384x2048 .f32) (harg8 : arg8.IsWhole) (arg9 : Memref sig .tc .vmem S384x2048 .bf16) (harg9 : arg9.IsWhole) (arg10 : Memref sig .tc .vmem S2x384x1024 .f32) (harg10 : arg10.IsWhole) (hc0 : ¬isFirst i) (hc1 : isLast i)
    (x0 : Vec F S384x2048 .f32) (x1 : Vec F S1x2048 .f32) (x2 : Vec F S1x384x512 .bf16) (x3 : Vec F S2048x1024 .bf16) (x4 : Vec F S1x512x1024 .bf16) (x5 : Vec F S2048x2048 .bf16) (h : Vec F S384x2048 .bf16) (a : Vec F S2x384x1024 .f32) (E : Set ℕ) (K : PUnit → SP F) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare h ∗ owns (c : Thread nD τ) arg10 fullShare a ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fin (step i h a x2 x3 x4) x5 x0) ∗ owns (c : Thread nD τ) arg9 fullShare h ∗ owns (c : Thread nD τ) arg10 fullShare (step i h a x2 x3 x4)) -∗ K ⟨⟩))
      ⊢ wp frame (wpE (defs₀ (F := F)) Variants.none c none) E (cc0_merge i arg2 harg2 arg3 harg3 arg4 harg4 arg5 harg5 arg6 harg6 arg7 harg7 arg8 harg8 arg9 harg9 arg10 harg10) K := by
  simp only [cc0_merge_eq_skeleton]; unfold cc0_merge_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  letI : ClosedOff (k0_off1 i) := ⟨![1, 0, 0], off_last i hc1⟩
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full _ _ _ _ _).trans ?_
    unfold fin
    refine pay1_congr ?_ ?_ ?_ ?_ ?_
    · unfold runC.sl.v35
      refine (View.readAt_unit _ _ _ rfl _).trans ?_
      rw [harg10.read_unread]
      exact (VecWindow.window_put_of_disjoint a _ _ _ _ _ _ 0 (Or.inl (by rw [off_last i hc1]; decide))).symm
    · exact (View.readAt_unit _ _ _ rfl _).trans (by rw [harg7.read_unread])
    · unfold runC.sl.v41 runC.sl.HS1_1
      refine ((View.readAt_unit _ _ _ rfl inb_S2x384x1024_S1x384x1024_1_0_0).trans ((congrArg (fun z => VecWindow.window z _ _ _) (View.read_writes_cons_put _ _ _ _ _ rfl)).trans (window_put_eq _ (off_last i hc1) _ _))).trans ?_
      refine Eq.trans ?_ (window_put_eq _ (off_last i hc1) _ _).symm
      refine pay4_congr ?_ ?_ ?_ ?_ ?_
      · exact (View.readAt_full _ _ _).trans (harg9.read_unread _)
      · exact (View.readAt_full _ _ _).trans (harg5.read_unread _)
      · exact (View.readAt_unit _ _ _ rfl _).trans (by rw [harg10.read_unread])
      · exact (View.readAt_full _ _ _).trans (harg4.read_unread _)
      · exact (View.readAt_full _ _ _).trans (harg6.read_unread _)
    · exact (View.readAt_unit _ _ _ rfl _).trans (by rw [harg7.read_unread])
    · exact (View.readAt_full _ _ _).trans (harg2.read_unread _)
  isplitl [HS0]
  · iexists _; isplitr; · ipureintro; exact harg9.read_unread _
    iexact HS0
  iexists _; isplitr
  swap; · iexact HS1
  ipureintro
  unfold runC.sl.HS1_1
  unfold step
  refine (View.read_writes_cons_put _ _ _ _ _ rfl).trans ?_
  rw [View.writes_nil, harg10.read_unread]
  refine congrArg (VecWindow.put a (k0_off1 i) _) (pay4_congr ?_ ?_ ?_ ?_ ?_)
  · exact (View.readAt_full _ _ _).trans (harg9.read_unread _)
  · exact (View.readAt_full _ _ _).trans (harg5.read_unread _)
  · exact (View.readAt_unit _ _ _ rfl _).trans (by rw [harg10.read_unread])
  · exact (View.readAt_full _ _ _).trans (harg4.read_unread _)
  · exact (View.readAt_full _ _ _).trans (harg6.read_unread _)

end Cert.Proof.MergeRunIdeal

end
-- ==== Proof.MergeFrameIdeal.lean ====
/- The merge kernel's frame (`Kernel3Ideal`): the contents of the scratch buffers and of the staged output after every point,
   the body's obligation at every point from its three cases, and from these the run: it terminates, with the argument
   arrays unchanged and every counter at zero. -/
module

public import proofs.«01_k».proof.Proof.MergeRunIdeal
public import Idealize.ShloMosaic.Lib.VecWindow
public import Idealize.ShloMosaic.Lib.Claim

@[expose] public section

set_option maxRecDepth 16384

noncomputable section

namespace Cert.Proof.MergeFrameIdeal

open Cert.Kernel3Ideal Cert.Kernel3Ideal.Gen Cert.Proof.MergeRunIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The branch conditions over the points, and the idle windows -/

/-- The first branch is taken at the points divisible by eight. -/
theorem hfirst : ∀ t : Fin cfg0.N, isFirst (grid0.coords t) ↔ t.val % 8 = 0 :=
  (fun t => by
    have ht : t.val < 344 := Nat.lt_of_lt_of_eq t.isLt N_0
    have e0 : (grid0.coords t 0).val = t.val / 8 % 43 := Pipeline.Grid.coords_val t 0 (by decide) rfl
    have e1 : (grid0.coords t 1).val = t.val / 1 % 8 := Pipeline.Grid.coords_val t 1 (by decide) rfl
    simp only [isFirst, e0, e1]
    word_cmp
   : ∀ t : Fin grid0.N, isFirst (grid0.coords t) ↔ t.val % 8 = 0)

/-- The second branch is taken at the points that leave seven modulo eight. -/
theorem hlast : ∀ t : Fin cfg0.N, isLast (grid0.coords t) ↔ t.val % 8 = 7 :=
  (fun t => by
    have ht : t.val < 344 := Nat.lt_of_lt_of_eq t.isLt N_0
    have e0 : (grid0.coords t 0).val = t.val / 8 % 43 := Pipeline.Grid.coords_val t 0 (by decide) rfl
    have e1 : (grid0.coords t 1).val = t.val / 1 % 8 := Pipeline.Grid.coords_val t 1 (by decide) rfl
    simp only [isLast, k0_cond2, e0, e1]
    word_cmp
   : ∀ t : Fin grid0.N, isLast (grid0.coords t) ↔ t.val % 8 = 7)

/-- Window 0 is never idle. -/
theorem live_0 : ∀ t : Fin cfg0.N, cfg0.idle 0 (grid0.coords t) = false := fun _ => rfl
/-- Window 1 is never idle. -/
theorem live_1 : ∀ t : Fin cfg0.N, cfg0.idle 1 (grid0.coords t) = false := fun _ => rfl
/-- Window 2 is never idle. -/
theorem live_2 : ∀ t : Fin cfg0.N, cfg0.idle 2 (grid0.coords t) = false := fun _ => rfl
/-- Window 3 is never idle. -/
theorem live_3 : ∀ t : Fin cfg0.N, cfg0.idle 3 (grid0.coords t) = false := fun _ => rfl
/-- Window 4 is never idle. -/
theorem live_4 : ∀ t : Fin cfg0.N, cfg0.idle 4 (grid0.coords t) = false := fun _ => rfl
/-- Window 5 is never idle. -/
theorem live_5 : ∀ t : Fin cfg0.N, cfg0.idle 5 (grid0.coords t) = false := fun _ => rfl
/-- Away from a row block's last point the output window is idle. -/
theorem idle_6 : ∀ t : Fin cfg0.N, ¬isLast (grid0.coords t) → cfg0.idle 6 (grid0.coords t) = true := by decide +kernel
/-- Away from a row block's last point the output is not written back. -/
theorem noFlush_6 : ∀ t : Fin cfg0.N, ¬isLast (grid0.coords t) → (cfg0.win 6).flush t = false := by decide +kernel
/-- At a row block's last point the output window is live. -/
theorem live_6 : ∀ t : Fin cfg0.N, isLast (grid0.coords t) → cfg0.idle 6 (grid0.coords t) = false := by decide +kernel

/-! ## The staging and scratch buffers -/

/-- Window 0's current staging buffer. -/
abbrev ms_0 (t : Fin cfg0.N) : Memref sig .tc .vmem S384x2048 .f32 := win0_0.stage (cfg0.slots t 0)
/-- It is a whole buffer. -/
abbrev hs_0 (t : Fin cfg0.N) : (ms_0 t).IsWhole := hstage0_0 ((cfg0.slots t 0).cast nbuf0_0)
/-- Window 1's current staging buffer. -/
abbrev ms_1 (t : Fin cfg0.N) : Memref sig .tc .vmem S1x2048 .f32 := win0_1.stage (cfg0.slots t 1)
/-- It is a whole buffer. -/
abbrev hs_1 (t : Fin cfg0.N) : (ms_1 t).IsWhole := hstage0_1 ((cfg0.slots t 1).cast nbuf0_1)
/-- Window 2's current staging buffer. -/
abbrev ms_2 (t : Fin cfg0.N) : Memref sig .tc .vmem S1x384x512 .bf16 := win0_2.stage (cfg0.slots t 2)
/-- It is a whole buffer. -/
abbrev hs_2 (t : Fin cfg0.N) : (ms_2 t).IsWhole := hstage0_2 ((cfg0.slots t 2).cast nbuf0_2)
/-- Window 3's current staging buffer. -/
abbrev ms_3 (t : Fin cfg0.N) : Memref sig .tc .vmem S2048x1024 .bf16 := win0_3.stage (cfg0.slots t 3)
/-- It is a whole buffer. -/
abbrev hs_3 (t : Fin cfg0.N) : (ms_3 t).IsWhole := hstage0_3 ((cfg0.slots t 3).cast nbuf0_3)
/-- Window 4's current staging buffer. -/
abbrev ms_4 (t : Fin cfg0.N) : Memref sig .tc .vmem S1x512x1024 .bf16 := win0_4.stage (cfg0.slots t 4)
/-- It is a whole buffer. -/
abbrev hs_4 (t : Fin cfg0.N) : (ms_4 t).IsWhole := hstage0_4 ((cfg0.slots t 4).cast nbuf0_4)
/-- Window 5's current staging buffer. -/
abbrev ms_5 (t : Fin cfg0.N) : Memref sig .tc .vmem S2048x2048 .bf16 := win0_5.stage (cfg0.slots t 5)
/-- It is a whole buffer. -/
abbrev hs_5 (t : Fin cfg0.N) : (ms_5 t).IsWhole := hstage0_5 ((cfg0.slots t 5).cast nbuf0_5)
/-- Window 6's current staging buffer. -/
abbrev ms_6 (t : Fin cfg0.N) : Memref sig .tc .vmem S384x2048 .f32 := win0_6.stage (cfg0.slots t 6)
/-- It is a whole buffer. -/
abbrev hs_6 (t : Fin cfg0.N) : (ms_6 t).IsWhole := hstage0_6 ((cfg0.slots t 6).cast nbuf0_6)
/-- The scratch holding the normalised rows. -/
abbrev sc_0 : Memref sig .tc .vmem S384x2048 .bf16 := Memref.whole cc0_scratch0
/-- The scratch holding the accumulator. -/
abbrev sc_1 : Memref sig .tc .vmem S2x384x1024 .f32 := Memref.whole cc0_scratch1

/-- What the region is entered with, the scratch buffers held at anything. -/
theorem PhiA_eq (c : Dev nD) :
    (Pipeline.ΦA spec0 c : SP F)
      = iprop(iprop((∃ d, owns (c : Thread nD τ) sc_0 fullShare d) ∗ (∃ d, owns (c : Thread nD τ) sc_1 fullShare d)) ∗ (∃ r, prngReg c r)) := by
  unfold Pipeline.ΦA; rw [scopedRest0_eq]; simp only [sc_0, sc_1, owns_whole]; try rfl

/-! ## What the scratch buffers hold after each point -/

/-- The two scratch buffers after a row block's first point. -/
def start (c : Dev nD) (t : Fin cfg0.N) : Vec F S384x2048 .bf16 × Vec F S2x384x1024 .f32 :=
  (k0_pay2 (iblk m c 0 t) (iblk m c 1 t),
    step (grid0.coords t) (k0_pay2 (iblk m c 0 t) (iblk m c 1 t)) (k0_pay3 (F := F)) (iblk m c 2 t) (iblk m c 3 t) (iblk m c 4 t))

/-- The two scratch buffers after a later point, from what the point before left. -/
def next (c : Dev nD) (t : Fin cfg0.N) (p : Vec F S384x2048 .bf16 × Vec F S2x384x1024 .f32) : Vec F S384x2048 .bf16 × Vec F S2x384x1024 .f32 :=
  (p.1, step (grid0.coords t) p.1 p.2 (iblk m c 2 t) (iblk m c 3 t) (iblk m c 4 t))

/-- The two scratch buffers after point `n`. -/
def carry (c : Dev nD) : (n : ℕ) → n < cfg0.N → Vec F S384x2048 .bf16 × Vec F S2x384x1024 .f32
  | 0, hn => start m c ⟨0, hn⟩
  | n + 1, hn => if (n + 1) % 8 = 0 then start m c ⟨n + 1, hn⟩ else next m c ⟨n + 1, hn⟩ (carry c n (Nat.lt_of_succ_lt hn))

/-- At a row block's first point the scratch buffers start over. -/
theorem carry_start (c : Dev nD) (t : Fin cfg0.N) (h0 : t.val % 8 = 0) : carry m c t.val t.isLt = start m c t := by
  obtain ⟨n, hn⟩ := t
  cases n with
  | zero => rfl
  | succ n => exact if_pos h0

/-- At every other point they go on from the point before. -/
theorem carry_next (c : Dev nD) (t : Fin cfg0.N) (h0 : ¬t.val % 8 = 0) :
    carry m c t.val t.isLt = next m c t (carry m c (t.val - 1) (Nat.lt_of_le_of_lt (Nat.sub_le _ _) t.isLt)) := by
  obtain ⟨n, hn⟩ := t
  cases n with
  | zero => exact absurd (Nat.zero_mod _) h0
  | succ n => exact if_neg h0

/-- The output block a point would write, from the accumulator after it. -/
def outAt (c : Dev nD) (t : Fin cfg0.N) : Vec F S384x2048 .f32 :=
  fin (carry m c t.val t.isLt).2 (iblk m c 5 t) (iblk m c 0 t)

/-- The invariant before position `n`: at first the scratch buffers at anything, later at what the point before left. -/
def PhiS (c : Dev nD) : (n : ℕ) → n ≤ cfg0.N → SP F
  | 0, _ => Pipeline.ΦA spec0 c
  | n + 1, hn => iprop(iprop(owns (c : Thread nD τ) sc_0 fullShare ((carry m c n hn).1) ∗ owns (c : Thread nD τ) sc_1 fullShare ((carry m c n hn).2)) ∗ (∃ r, prngReg c r))

/-- The invariant before the first point. -/
theorem PhiS_zero (c : Dev nD) (n : ℕ) (h : n ≤ cfg0.N) (hz : n = 0) : PhiS m c n h = Pipeline.ΦA spec0 c := by
  subst hz; rfl

/-- The invariant after point `n`. -/
theorem PhiS_succ (c : Dev nD) (n : ℕ) (hn : n < cfg0.N) :
    PhiS m c (n + 1) hn = iprop(iprop(owns (c : Thread nD τ) sc_0 fullShare ((carry m c n hn).1) ∗ owns (c : Thread nD τ) sc_1 fullShare ((carry m c n hn).2)) ∗ (∃ r, prngReg c r)) := rfl

/-- The invariant before a point that is not the first. -/
theorem PhiS_pos (c : Dev nD) (n : ℕ) (h : n ≤ cfg0.N) (hz : n ≠ 0) :
    PhiS m c n h = iprop(iprop(owns (c : Thread nD τ) sc_0 fullShare ((carry m c (n - 1) (by omega)).1) ∗ owns (c : Thread nD τ) sc_1 fullShare ((carry m c (n - 1) (by omega)).2)) ∗ (∃ r, prngReg c r)) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

/-- The proof data's arrays are what the region finds. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The body leaves window 0's block in place. -/
theorem after_0 (c : Dev nD) (t : Fin cfg0.N) : (dats m 0 c).after 0 t = iblk m c 0 t := by dsimp only [dats]
/-- The body leaves window 1's block in place. -/
theorem after_1 (c : Dev nD) (t : Fin cfg0.N) : (dats m 0 c).after 1 t = iblk m c 1 t := by dsimp only [dats]
/-- The body leaves window 2's block in place. -/
theorem after_2 (c : Dev nD) (t : Fin cfg0.N) : (dats m 0 c).after 2 t = iblk m c 2 t := by dsimp only [dats]
/-- The body leaves window 3's block in place. -/
theorem after_3 (c : Dev nD) (t : Fin cfg0.N) : (dats m 0 c).after 3 t = iblk m c 3 t := by dsimp only [dats]
/-- The body leaves window 4's block in place. -/
theorem after_4 (c : Dev nD) (t : Fin cfg0.N) : (dats m 0 c).after 4 t = iblk m c 4 t := by dsimp only [dats]
/-- The body leaves window 5's block in place. -/
theorem after_5 (c : Dev nD) (t : Fin cfg0.N) : (dats m 0 c).after 5 t = iblk m c 5 t := by dsimp only [dats]
/-- The body leaves the output block. -/
theorem after_6 (c : Dev nD) (t : Fin cfg0.N) : (dats m 0 c).after 6 t = outAt m c t := by dsimp only [dats]
/-- The body finds window 0's block. -/
theorem before_0 (c : Dev nD) (t : Fin cfg0.N) (d) : (dats m 0 c).before 0 t d = iblk m c 0 t :=
  before0_0_of m (dats m 0 c) (A_eq m c 0) (after_0 m c) t d
/-- The body finds window 1's block. -/
theorem before_1 (c : Dev nD) (t : Fin cfg0.N) (d) : (dats m 0 c).before 1 t d = iblk m c 1 t :=
  before0_1_of m (dats m 0 c) (A_eq m c 1) (after_1 m c) t d
/-- The body finds window 2's block. -/
theorem before_2 (c : Dev nD) (t : Fin cfg0.N) (d) : (dats m 0 c).before 2 t d = iblk m c 2 t :=
  before0_2_of m (dats m 0 c) (A_eq m c 2) (after_2 m c) t d
/-- The body finds window 3's block. -/
theorem before_3 (c : Dev nD) (t : Fin cfg0.N) (d) : (dats m 0 c).before 3 t d = iblk m c 3 t :=
  before0_3_of m (dats m 0 c) (A_eq m c 3) (after_3 m c) t d
/-- The body finds window 4's block. -/
theorem before_4 (c : Dev nD) (t : Fin cfg0.N) (d) : (dats m 0 c).before 4 t d = iblk m c 4 t :=
  before0_4_of m (dats m 0 c) (A_eq m c 4) (after_4 m c) t d
/-- The body finds window 5's block. -/
theorem before_5 (c : Dev nD) (t : Fin cfg0.N) (d) : (dats m 0 c).before 5 t d = iblk m c 5 t :=
  before0_5_of m (dats m 0 c) (A_eq m c 5) (after_5 m c) t d

/-! ## The body obligation, at a generic point -/

/-- What the body is called with at point `t`. -/
def bodyPre (c : Dev nD) (t : Fin cfg0.N) : SP F :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d)))

/-- What the body returns at point `t`. -/
def bodyPost (c : Dev nD) (t : Fin cfg0.N) : SP F :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point, from its three cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  have hN : t.val < 344 := lt_of_lt_of_eq t.isLt (show cfg0.N = 344 from N_0)
  rw [show (dats m 0 c).leavesExact 0 t = owns (c : Thread nD τ) (ms_0 t) fullShare ((dats m 0 c).after 0 t) from by
    unfold Dat.leavesExact; rw [live_0 t], after_0]
  rw [show (dats m 0 c).leavesExact 1 t = owns (c : Thread nD τ) (ms_1 t) fullShare ((dats m 0 c).after 1 t) from by
    unfold Dat.leavesExact; rw [live_1 t], after_1]
  rw [show (dats m 0 c).leavesExact 2 t = owns (c : Thread nD τ) (ms_2 t) fullShare ((dats m 0 c).after 2 t) from by
    unfold Dat.leavesExact; rw [live_2 t], after_2]
  rw [show (dats m 0 c).leavesExact 3 t = owns (c : Thread nD τ) (ms_3 t) fullShare ((dats m 0 c).after 3 t) from by
    unfold Dat.leavesExact; rw [live_3 t], after_3]
  rw [show (dats m 0 c).leavesExact 4 t = owns (c : Thread nD τ) (ms_4 t) fullShare ((dats m 0 c).after 4 t) from by
    unfold Dat.leavesExact; rw [live_4 t], after_4]
  rw [show (dats m 0 c).leavesExact 5 t = owns (c : Thread nD τ) (ms_5 t) fullShare ((dats m 0 c).after 5 t) from by
    unfold Dat.leavesExact; rw [live_5 t], after_5]
  by_cases h0 : t.val % 8 = 0
  · have h1 : ¬t.val % 8 = 7 := by omega
    rw [Dat.leavesExact_idle (dats m 0 c) 6 t (idle_6 t (fun h => h1 ((hlast t).mp h))) (noFlush_6 t (fun h => h1 ((hlast t).mp h)))]
    by_cases hz : t.val = 0
    · rw [PhiS_castSucc m c t, PhiS_zero m c _ _ hz, PhiA_eq]
      rw [carry_start m c t h0]
      unfold start; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (runA c (grid0.coords t) _ _ _ _ _ _ _ _ _ _ _ _ _ _ _ _ _ _ ((hfirst t).mpr h0) (fun h => h1 ((hlast t).mp h)) (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      rw [carry_start m c t h0]
      unfold start; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (runA c (grid0.coords t) _ _ _ _ _ _ _ _ _ _ _ _ _ _ _ _ _ _ ((hfirst t).mpr h0) (fun h => h1 ((hlast t).mp h)) (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h1 : t.val % 8 = 7
    · rw [show (dats m 0 c).leavesExact 6 t = owns (c : Thread nD τ) (ms_6 t) fullShare ((dats m 0 c).after 6 t) from by
        unfold Dat.leavesExact; rw [live_6 t ((hlast t).mpr h1)], after_6]
      rw [PhiS_castSucc m c t, PhiS_pos m c _ _ hz]
      unfold outAt
      rw [carry_next m c t h0]
      unfold next; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (runC c (grid0.coords t) _ _ _ _ _ _ _ _ _ _ _ _ _ _ _ _ _ _ (fun h => h0 ((hfirst t).mp h)) ((hlast t).mpr h1) (iblk m c 0 t) (iblk m c 1 t) (iblk m c 2 t) (iblk m c 3 t) (iblk m c 4 t) (iblk m c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats m 0 c) 6 t (idle_6 t (fun h => h1 ((hlast t).mp h))) (noFlush_6 t (fun h => h1 ((hlast t).mp h)))]
      rw [PhiS_castSucc m c t, PhiS_pos m c _ _ hz]
      rw [carry_next m c t h0]
      unfold next; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) _ _ _ _ _ _ _ _ _ _ _ _ _ _ _ _ _ _ (fun h => h0 ((hfirst t).mp h)) (fun h => h1 ((hlast t).mp h)) (iblk m c 0 t) (iblk m c 1 t) (iblk m c 2 t) (iblk m c 3 t) (iblk m c 4 t) (iblk m c 5 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back what the region was entered with. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 344 := N_0; omega)

/-! ## The run and the frame -/

set_option backward.isDefEq.respectTransparency.types false in
/-- The run, with every counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5)) :=
  frame_of m ρ (dats m) (A_eq m) (run_main m ρ)

/-- The frame: the argument arrays end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.MergeFrameIdeal

end
-- ==== Proof.MergeArray.lean ====
/- The merge call's result array as one function of its arguments: the gated branch products are summed branch by
   branch into the two halves of the accumulator, and the last point of a row block multiplies the sum by the output
   weight. -/
module
public import proofs.«01_k».proof.Proof.MergeFrameIdeal
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
namespace Cert.Merge
open Cert.Kernel3Ideal Cert.Kernel3Ideal.Gen Cert.Proof.MergeRunIdeal Cert.Proof.MergeFrameIdeal Finset

/-! ## The mathematics -/

/-- The normalised row `n`: each entry over the root mean square of the row, times the gain. -/
def rms (x : Vec Ideal S16512x2048 .f32) (g : Vec Ideal S2048 .f32) (n : Fin 16512) (d : Fin 2048) : EReal :=
  x (ix2 n d) * Ideal.rsqrt (Ideal.div (∑ k : Fin 2048, x (ix2 n k) * x (ix2 n k)) (Ideal.ofBits FTy.f32 0x45000000#32) + Ideal.ofBits FTy.f32 0x358637BD#32) * g (ix1 d)

/-- Row `n` of the gates' product, at column `q` of the four gates side by side. -/
def gl (x : Vec Ideal S16512x2048 .f32) (g : Vec Ideal S2048 .f32) (wg : Vec Ideal S2048x8192 .f32) (n : Fin 16512) (q : Fin 8192) : EReal :=
  ∑ d : Fin 2048, rms x g n d * wg (ix2 d q)

/-- Branch `b`'s output at row `n`, multiplied into the model's width. -/
def br (o : Vec Ideal S4x16512x512 .bf16) (wb : Vec Ideal S4x512x2048 .f32) (b : Fin 4) (n : Fin 16512) (d : Fin 2048) : EReal :=
  ∑ q : Fin 512, o (ix3 b n q) * wb (ix3 b q d)

/-- Branch `b`'s share of the merged row: its product times its gate. -/
def term (x : Vec Ideal S16512x2048 .f32) (g : Vec Ideal S2048 .f32) (o : Vec Ideal S4x16512x512 .bf16) (wg : Vec Ideal S2048x8192 .f32) (wb : Vec Ideal S4x512x2048 .f32) (n : Fin 16512) (d : Fin 2048) (b : ℕ) : EReal :=
  if hb : b < 4 then Ideal.logistic (gl x g wg n ⟨2048 * b + d.val, by omega⟩) * br o wb ⟨b, hb⟩ n d else 0

/-- The merge at `(n, j)`. -/
def merge (x : Vec Ideal S16512x2048 .f32) (g : Vec Ideal S2048 .f32) (o : Vec Ideal S4x16512x512 .bf16) (wg : Vec Ideal S2048x8192 .f32) (wb : Vec Ideal S4x512x2048 .f32) (wo : Vec Ideal S2048x2048 .f32) (n : Fin 16512) (j : Fin 2048) : EReal :=
  x (ix2 n j) + ∑ d : Fin 2048, (∑ b ∈ range 4, term x g o wg wb n d b) * wo (ix2 d j)

/-! ## The payloads -/

/-- The normalised block. -/
theorem pay2_apply (x : Vec Ideal S384x2048 .f32) (g : Vec Ideal S1x2048 .f32) (r : Fin 384) (j : Fin 2048) :
    k0_pay2 (F := Ideal) x g (ix2 r j) = x (ix2 r j) * Ideal.rsqrt (Ideal.div (∑ k : Fin 2048, x (ix2 r k) * x (ix2 r k)) (Ideal.ofBits FTy.f32 0x45000000#32) + Ideal.ofBits FTy.f32 0x358637BD#32) * g (ix2 0 j) := by
  pointwise [k0_pay2]

/-- The accumulator's first contents. -/
theorem pay3_apply (p : Fin 2) (r : Fin 384) (e : Fin 1024) : k0_pay3 (F := Ideal) (ix3 p r e) = 0 := by
  pointwise [k0_pay3]

/-- One point's step of its half of the accumulator. -/
theorem pay4_apply (h : Vec Ideal S384x2048 .bf16) (wg : Vec Ideal S2048x1024 .bf16) (a : Vec Ideal S1x384x1024 .f32) (o : Vec Ideal S1x384x512 .bf16) (wb : Vec Ideal S1x512x1024 .bf16) (r : Fin 384) (e : Fin 1024) :
    k0_pay4 (F := Ideal) h wg a o wb (ix3 0 r e) = a (ix3 0 r e) + Ideal.logistic (∑ d : Fin 2048, h (ix2 r d) * wg (ix2 d e)) * ∑ q : Fin 512, o (ix3 0 r q) * wb (ix3 0 q e) := by
  pointwise [k0_pay4]

/-- The result block. -/
theorem pay1_apply (a0 a1 : Vec Ideal S1x384x1024 .f32) (w0 w1 : Vec Ideal S1024x2048 .bf16) (x : Vec Ideal S384x2048 .f32) (r : Fin 384) (j : Fin 2048) :
    k0_pay1 (F := Ideal) a0 w0 a1 w1 x (ix2 r j) = x (ix2 r j) + (∑ e : Fin 1024, a0 (ix3 0 r e) * w0 (ix2 e j) + ∑ e : Fin 1024, a1 (ix3 0 r e) * w1 (ix2 e j)) := by
  pointwise [k0_pay1]

/-! ## The windows of the accumulator -/

/-- Half `p` of the accumulator read as a block. -/
theorem window_apply (a : Vec Ideal S2x384x1024 .f32) (off : Fin 3 → ℕ) (inb : ∀ k, off k + S1x384x1024.size k ≤ S2x384x1024.size k) (p : Fin 2) (ho : off = ![p.val, 0, 0]) (r : Fin 384) (e : Fin 1024) :
    VecWindow.window a off S1x384x1024.size inb (ix3 0 r e) = a (ix3 p r e) := by
  subst ho
  refine congrArg a (funext fun k => Fin.ext ?_)
  show ![p.val, 0, 0] k + 1 * (ix3 (0 : Fin 1) r e k).val = (ix3 p r e k).val
  fin_cases k
  · show p.val + 1 * 0 = p.val; omega
  · show 0 + 1 * r.val = r.val; omega
  · show 0 + 1 * e.val = e.val; omega

/-- The half just written reads what was written. -/
theorem put_hit (a : Vec Ideal S2x384x1024 .f32) (off : Fin 3 → ℕ) (w : Vec Ideal S1x384x1024 .f32) (p : Fin 2) (ho : off = ![p.val, 0, 0]) (r : Fin 384) (e : Fin 1024) :
    (VecWindow.put a off S1x384x1024.size w : Vec Ideal S2x384x1024 .f32) (ix3 p r e) = w (ix3 0 r e) := by
  subst ho
  unfold VecWindow.put
  rw [dif_pos (fun k => by
    fin_cases k
    · exact ⟨le_refl p.val, Nat.lt_succ_self p.val⟩
    · exact ⟨Nat.zero_le _, by show r.val < 0 + 384; omega⟩
    · exact ⟨Nat.zero_le _, by show e.val < 0 + 1024; omega⟩)]
  refine congrArg w (funext fun k => Fin.ext ?_)
  fin_cases k
  · show p.val - p.val = 0; omega
  · show r.val - 0 = r.val; omega
  · show e.val - 0 = e.val; omega

/-- The other half keeps its contents. -/
theorem put_miss (a : Vec Ideal S2x384x1024 .f32) (off : Fin 3 → ℕ) (w : Vec Ideal S1x384x1024 .f32) (p p' : Fin 2) (hp : p ≠ p') (ho : off = ![p'.val, 0, 0]) (r : Fin 384) (e : Fin 1024) :
    (VecWindow.put a off S1x384x1024.size w : Vec Ideal S2x384x1024 .f32) (ix3 p r e) = a (ix3 p r e) := by
  subst ho
  unfold VecWindow.put
  rw [dif_neg fun h => hp (Fin.ext (by
    have h0 : p'.val ≤ p.val ∧ p.val < p'.val + 1 := h 0
    omega))]

/-- A row block's point changes the half of its parity and no other. -/
theorem step_apply (i : grid0.Coords) (h : Vec Ideal S384x2048 .bf16) (a : Vec Ideal S2x384x1024 .f32) (o : Vec Ideal S1x384x512 .bf16) (wg : Vec Ideal S2048x1024 .bf16) (wb : Vec Ideal S1x512x1024 .bf16) (p : Fin 2) (r : Fin 384) (e : Fin 1024) :
    step i h a o wg wb (ix3 p r e) = if p.val = (i 1).val % 2 then a (ix3 p r e) + Ideal.logistic (∑ d : Fin 2048, h (ix2 r d) * wg (ix2 d e)) * ∑ q : Fin 512, o (ix3 0 r q) * wb (ix3 0 q e) else a (ix3 p r e) := by
  unfold step
  by_cases hp : p.val = (i 1).val % 2
  · have ho : k0_off1 i = ![p.val, 0, 0] := by rw [off_eq, hp]
    rw [if_pos hp, put_hit _ _ _ p ho, pay4_apply, window_apply a _ _ p ho]
  · rw [if_neg hp]
    exact put_miss _ _ _ p ⟨(i 1).val % 2, Nat.mod_lt _ (by decide)⟩ (fun h => hp (congrArg Fin.val h)) (off_eq i) r e

/-- The result block from the accumulator, the output weight and the rows. -/
theorem fin_apply (a : Vec Ideal S2x384x1024 .f32) (wo : Vec Ideal S2048x2048 .bf16) (x : Vec Ideal S384x2048 .f32) (r : Fin 384) (j : Fin 2048) :
    fin a wo x (ix2 r j) = x (ix2 r j) + (∑ e : Fin 1024, a (ix3 0 r e) * wo (ix2 ⟨e.val, by omega⟩ j) + ∑ e : Fin 1024, a (ix3 1 r e) * wo (ix2 ⟨1024 + e.val, by omega⟩ j)) := by
  unfold fin
  rw [pay1_apply]
  refine congrArg _ (congrArg₂ (· + ·) (Finset.sum_congr rfl fun e _ => ?_) (Finset.sum_congr rfl fun e _ => ?_))
  · refine congrArg₂ (· * ·) (window_apply a _ _ 0 rfl r e) (congrArg wo (funext fun k => Fin.ext ?_))
    fin_cases k
    · show 0 + 1 * e.val = e.val; omega
    · show 0 + 1 * j.val = j.val; omega
  · refine congrArg₂ (· * ·) (window_apply a _ _ 1 rfl r e) (congrArg wo (funext fun k => Fin.ext ?_))
    fin_cases k
    · show 1024 + 1 * e.val = 1024 + e.val; omega
    · show 0 + 1 * j.val = j.val; omega

/-! ## The blocks -/

variable (m : (ℓ : Loc nD τ sig) → Buf (Elt Ideal) ℓ)

/-- The blocks of the windows at every point. -/
theorem index0 : ∀ t : Fin cfg0.N, win0_0.index t = ![t.val / 8, 0] ∧ win0_1.index t = ![0, 0] ∧ win0_2.index t = ![t.val % 8 / 2, t.val / 8, 0] ∧ win0_3.index t = ![0, t.val % 8] ∧ win0_4.index t = ![t.val % 8 / 2, 0, t.val % 2] ∧ win0_5.index t = ![0, 0] ∧ win0_6.index t = ![t.val / 8, 0] := by
  decide +kernel

/-- There are 344 points. -/
theorem t_lt (t : Fin cfg0.N) : t.val < 344 := lt_of_lt_of_eq t.isLt N_0

/-- The array row of row `r` of point `t`'s block. -/
def row (t : Fin cfg0.N) (r : Fin 384) : Fin 16512 := ⟨384 * (t.val / 8) + r.val, by have := t_lt t; omega⟩

/-- Point `t`'s rows. -/
theorem x_apply (c : Dev nD) (t : Fin cfg0.N) (r : Fin 384) (d : Fin 2048) :
    (iblk m c 0 t : Vec Ideal S384x2048 .f32) (ix2 r d) = (m ((c : Thread nD τ).loc main_arg0) : Vec Ideal S16512x2048 .f32) (ix2 (row t r) d) := by
  have h := (index0 t).1
  unfold row
  blk_ext [iblk, V, h]

/-- The gain. -/
theorem g_apply (c : Dev nD) (t : Fin cfg0.N) (d : Fin 2048) :
    (iblk m c 1 t : Vec Ideal S1x2048 .f32) (ix2 0 d) = (m ((c : Thread nD τ).loc main_arg1) : Vec Ideal S2048 .f32) (ix1 d) := by
  have h := (index0 t).2.1
  have e : (V m c main_v3 : Vec Ideal S1x2048 .f32) (ix2 0 d) = (m ((c : Thread nD τ).loc main_arg1) : Vec Ideal S2048 .f32) (ix1 d) := by
    entry_read
    pointwise
  rw [← e]
  blk_ext [iblk, h]

/-- Point `t`'s rows of its branch's output. -/
theorem o_apply (c : Dev nD) (t : Fin cfg0.N) (r : Fin 384) (q : Fin 512) :
    (iblk m c 2 t : Vec Ideal S1x384x512 .bf16) (ix3 0 r q) = (m ((c : Thread nD τ).loc main_arg2) : Vec Ideal S4x16512x512 .bf16) (ix3 ⟨t.val % 8 / 2, by omega⟩ (row t r) q) := by
  have h := (index0 t).2.2.1
  unfold row
  blk_ext [iblk, V, h]

/-- The gate's columns of point `t`. -/
theorem wg_apply (c : Dev nD) (t : Fin cfg0.N) (d : Fin 2048) (e : Fin 1024) :
    (iblk m c 3 t : Vec Ideal S2048x1024 .bf16) (ix2 d e) = (m ((c : Thread nD τ).loc main_arg3) : Vec Ideal S2048x8192 .f32) (ix2 d ⟨1024 * (t.val % 8) + e.val, by omega⟩) := by
  have h := (index0 t).2.2.2.1
  have e' : (V m c main_v0 : Vec Ideal S2048x8192 .bf16) (ix2 d ⟨1024 * (t.val % 8) + e.val, by omega⟩) = (m ((c : Thread nD τ).loc main_arg3) : Vec Ideal S2048x8192 .f32) (ix2 d ⟨1024 * (t.val % 8) + e.val, by omega⟩) := by
    entry_read
    pointwise
  rw [← e']
  blk_ext [iblk, h]

/-- The branch weight's columns of point `t`. -/
theorem wb_apply (c : Dev nD) (t : Fin cfg0.N) (q : Fin 512) (e : Fin 1024) :
    (iblk m c 4 t : Vec Ideal S1x512x1024 .bf16) (ix3 0 q e) = (m ((c : Thread nD τ).loc main_arg4) : Vec Ideal S4x512x2048 .f32) (ix3 ⟨t.val % 8 / 2, by omega⟩ q ⟨1024 * (t.val % 2) + e.val, by omega⟩) := by
  have h := (index0 t).2.2.2.2.1
  have e' : (V m c main_v1 : Vec Ideal S4x512x2048 .bf16) (ix3 ⟨t.val % 8 / 2, by omega⟩ q ⟨1024 * (t.val % 2) + e.val, by omega⟩) = (m ((c : Thread nD τ).loc main_arg4) : Vec Ideal S4x512x2048 .f32) (ix3 ⟨t.val % 8 / 2, by omega⟩ q ⟨1024 * (t.val % 2) + e.val, by omega⟩) := by
    entry_read
    pointwise
  rw [← e']
  blk_ext [iblk, h]

/-- The output weight. -/
theorem wo_apply (c : Dev nD) (t : Fin cfg0.N) (d : Fin 2048) (j : Fin 2048) :
    (iblk m c 5 t : Vec Ideal S2048x2048 .bf16) (ix2 d j) = (m ((c : Thread nD τ).loc main_arg5) : Vec Ideal S2048x2048 .f32) (ix2 d j) := by
  have h := (index0 t).2.2.2.2.2.1
  have e' : (V m c main_v2 : Vec Ideal S2048x2048 .bf16) (ix2 d j) = (m ((c : Thread nD τ).loc main_arg5) : Vec Ideal S2048x2048 .f32) (ix2 d j) := by
    entry_read
    pointwise
  rw [← e']
  blk_ext [iblk, h]

/-- A point's second coordinate. -/
theorem coord1 (t : Fin cfg0.N) : (grid0.coords t 1).val = t.val % 8 := by
  have e1 : (grid0.coords t 1).val = t.val / 1 % 8 := Pipeline.Grid.coords_val t 1 (by decide) rfl
  rw [e1, Nat.div_one]

/-! ## The carried scratches -/

variable (c : Dev nD) (x : Vec Ideal S16512x2048 .f32) (g : Vec Ideal S2048 .f32) (o : Vec Ideal S4x16512x512 .bf16) (wg : Vec Ideal S2048x8192 .f32) (wb : Vec Ideal S4x512x2048 .f32) (wo : Vec Ideal S2048x2048 .f32)
  (hx : m ((c : Thread nD τ).loc main_arg0) = x) (hg : m ((c : Thread nD τ).loc main_arg1) = g) (ho : m ((c : Thread nD τ).loc main_arg2) = o) (hwg : m ((c : Thread nD τ).loc main_arg3) = wg) (hwb : m ((c : Thread nD τ).loc main_arg4) = wb) (hwo : m ((c : Thread nD τ).loc main_arg5) = wo)
include hx hg

/-- A row block's first point leaves the normalised rows. -/
theorem h_start (t : Fin cfg0.N) (r : Fin 384) (d : Fin 2048) :
    k0_pay2 (F := Ideal) (iblk m c 0 t) (iblk m c 1 t) (ix2 r d) = rms x g (row t r) d := by
  rw [pay2_apply]
  simp only [x_apply m c t, g_apply m c t, hx, hg]
  rfl

/-- The first scratch holds the normalised rows of the point's block. -/
theorem h_apply (n : ℕ) (hn : n < cfg0.N) (r : Fin 384) (d : Fin 2048) :
    (carry m c n hn).1 (ix2 r d) = rms x g (row ⟨n, hn⟩ r) d := by
  induction n with
  | zero =>
    rw [carry_start m c ⟨0, hn⟩ rfl]
    exact h_start m c x g hx hg _ r d
  | succ n ih =>
    by_cases h0 : (n + 1) % 8 = 0
    · rw [carry_start m c ⟨n + 1, hn⟩ h0]
      exact h_start m c x g hx hg _ r d
    · have hr : row ⟨n, by omega⟩ r = row ⟨n + 1, hn⟩ r := Fin.ext (by unfold row; simp only []; omega)
      have e := ih (by omega)
      rw [hr] at e
      rw [carry_next m c ⟨n + 1, hn⟩ h0]
      exact e

include ho hwg hwb

/-- One point's step adds its branch to its half and leaves the other half. -/
theorem step_sum (t : Fin cfg0.N) (h : Vec Ideal S384x2048 .bf16) (hh : ∀ r d, h (ix2 r d) = rms x g (row t r) d) (a : Vec Ideal S2x384x1024 .f32) (p : Fin 2) (r : Fin 384) (e : Fin 1024)
    (ha : a (ix3 p r e) = ∑ b ∈ range ((t.val % 8 + 1 - p.val) / 2), term x g o wg wb (row t r) ⟨1024 * p.val + e.val, by omega⟩ b) :
    step (grid0.coords t) h a (iblk m c 2 t) (iblk m c 3 t) (iblk m c 4 t) (ix3 p r e) = ∑ b ∈ range ((t.val % 8 + 2 - p.val) / 2), term x g o wg wb (row t r) ⟨1024 * p.val + e.val, by omega⟩ b := by
  rw [step_apply, ha, coord1]
  have hp2 := p.isLt
  by_cases hp : p.val = t.val % 8 % 2
  · rw [if_pos hp, show (t.val % 8 + 2 - p.val) / 2 = (t.val % 8 + 1 - p.val) / 2 + 1 by omega, Finset.sum_range_succ]
    refine congrArg (_ + ·) ?_
    rw [show (t.val % 8 + 1 - p.val) / 2 = t.val % 8 / 2 by omega]
    simp only [hh, o_apply m c t, wg_apply m c t, wb_apply m c t, ho, hwg, hwb]
    rw [term, dif_pos (by omega)]
    refine congrArg₂ (· * ·) (congrArg Ideal.logistic ?_) ?_
    · unfold gl
      refine Finset.sum_congr rfl fun d _ => congrArg _ (congrArg wg (congrArg (ix2 d) (Fin.ext ?_)))
      show 1024 * (t.val % 8) + e.val = 2048 * (t.val % 8 / 2) + (1024 * p.val + e.val)
      omega
    · unfold br
      refine Finset.sum_congr rfl fun q _ => congrArg _ (congrArg wb (congrArg (ix3 _ q) (Fin.ext ?_)))
      show 1024 * (t.val % 2) + e.val = 1024 * p.val + e.val
      omega
  · rw [if_neg hp, show (t.val % 8 + 2 - p.val) / 2 = (t.val % 8 + 1 - p.val) / 2 by omega]

/-- A row block's first point leaves the first branch in the first half and nothing in the second. -/
theorem acc_start (t : Fin cfg0.N) (h0 : t.val % 8 = 0) (p : Fin 2) (r : Fin 384) (e : Fin 1024) :
    (start m c t).2 (ix3 p r e) = ∑ b ∈ range ((t.val % 8 + 2 - p.val) / 2), term x g o wg wb (row t r) ⟨1024 * p.val + e.val, by omega⟩ b := by
  refine step_sum m c x g o wg wb hx hg ho hwg hwb t _ (h_start m c x g hx hg t) _ p r e ?_
  rw [pay3_apply, h0, show (0 + 1 - p.val) / 2 = 0 by omega]
  rfl

/-- The second scratch holds, in each half, the sum over the branches met so far. -/
theorem acc_apply (n : ℕ) (hn : n < cfg0.N) (p : Fin 2) (r : Fin 384) (e : Fin 1024) :
    (carry m c n hn).2 (ix3 p r e) = ∑ b ∈ range ((n % 8 + 2 - p.val) / 2), term x g o wg wb (row ⟨n, hn⟩ r) ⟨1024 * p.val + e.val, by omega⟩ b := by
  induction n with
  | zero =>
    rw [carry_start m c ⟨0, hn⟩ rfl]
    exact acc_start m c x g o wg wb hx hg ho hwg hwb ⟨0, hn⟩ rfl p r e
  | succ n ih =>
    by_cases h0 : (n + 1) % 8 = 0
    · rw [carry_start m c ⟨n + 1, hn⟩ h0]
      exact acc_start m c x g o wg wb hx hg ho hwg hwb ⟨n + 1, hn⟩ h0 p r e
    · have hr : ∀ r, row ⟨n, by omega⟩ r = row ⟨n + 1, hn⟩ r := fun r => Fin.ext (by unfold row; simp only []; omega)
      have e1 := ih (by omega)
      have eh := h_apply m c x g hx hg n (by omega)
      rw [hr, show (n % 8 + 2 - p.val) / 2 = ((n + 1) % 8 + 1 - p.val) / 2 by omega] at e1
      rw [carry_next m c ⟨n + 1, hn⟩ h0]
      exact step_sum m c x g o wg wb hx hg ho hwg hwb ⟨n + 1, hn⟩ (carry m c n (by omega)).1 (fun r d => (eh r d).trans (by rw [hr])) (carry m c n (by omega)).2 p r e e1

include hwo

/-- What a row block's last point stores. -/
theorem out_apply (t : Fin cfg0.N) (h1 : t.val % 8 = 7) (r : Fin 384) (j : Fin 2048) :
    outAt m c t (ix2 r j) = merge x g o wg wb wo (row t r) j := by
  have e := fun p r e => acc_apply m c x g o wg wb hx hg ho hwg hwb t.val t.isLt p r e
  unfold outAt merge
  rw [fin_apply, x_apply m c t, hx]
  simp only [e, wo_apply m c t, hwo, h1]
  refine congrArg _ (Eq.trans ?_ (Fin.sum_univ_add (a := 1024) (b := 1024) (fun d : Fin (1024 + 1024) => (∑ b ∈ range 4, term x g o wg wb (row t r) d b) * wo (ix2 d j))).symm)
  refine congrArg₂ (· + ·) (Finset.sum_congr rfl fun e _ => ?_) (Finset.sum_congr rfl fun e _ => ?_)
  · refine congrArg₂ (· * ·) (Finset.sum_congr rfl fun b _ => congrArg (fun d => term x g o wg wb (row t r) d b) (Fin.ext ?_)) (congrArg wo (congrArg (ix2 · j) (Fin.ext ?_)))
    · show 1024 * 0 + e.val = e.val; omega
    · rfl
  · refine congrArg₂ (· * ·) (Finset.sum_congr rfl fun b _ => congrArg (fun d => term x g o wg wb (row t r) d b) (Fin.ext ?_)) (congrArg wo (congrArg (ix2 · j) (Fin.ext ?_)))
    · show 1024 * 1 + e.val = 1024 + e.val; omega
    · rfl

/-- The launch's result array, at every index, is the merge of the arguments. -/
theorem array : (dats m 0 c).arrAt 6 cfg0.N = (fun i => merge x g o wg wb wo (i 0) (i 1) : Vec Ideal S16512x2048 .f32) := by
  refine (dats m 0 c).arrAt_eq_of_covers 6 _ (by decide +kernel) fun t hf y => ?_
  have h := (index0 t).2.2.2.2.2.2
  blk_simp
  rw [after_6]
  have e := out_apply m c x g o wg wb wo hx hg ho hwg hwb hwo t ((flush0_6 t).mp hf) (y 0) (y 1)
  refine Eq.trans (congrArg (outAt m c t) ?_) (e.trans ?_)
  · funext a; fin_cases a <;> rfl
  · refine congrArg₂ (merge x g o wg wb wo) (Fin.ext ?_) (Fin.ext ?_)
    · unfold row
      blk_simp [h]
      exact congrArg (· + _) (Nat.mul_comm _ _)
    · blk_simp [h]

omit hx hg ho hwg hwb hwo in
/-- The run, with the result array named and the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v4) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, ((h c).1 0).trans (((dats m 0 c).arrAt_in 0 rfl _).trans ((A_eq m c 0).trans (V_main_arg0 m c))),
    ((h c).2 main_arg1 (Pipeline.mem_restRefs_of main_arg1 (by decide) (by decide))).trans (V_main_arg1 m c), ((h c).1 2).trans (((dats m 0 c).arrAt_in 2 rfl _).trans ((A_eq m c 2).trans (V_main_arg2 m c))),
    ((h c).2 main_arg3 (Pipeline.mem_restRefs_of main_arg3 (by decide) (by decide))).trans (V_main_arg3 m c), ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)
end Cert.Merge
-- ==== Proof.MergeRef.lean ====
/- The merge reference's value at an index is the merge of its arguments there. -/
module
public import proofs.«01_k».proof.Proof.MergeArray
public import proofs.«01_k».proof.Proof.Gen.Reference3Ideal.Read
@[expose] public section
set_option maxRecDepth 16384
noncomputable section
open Idealize.ShloMosaic Idealize.ShloMosaic.TcCoe Idealize.SL.Sem
namespace Cert.MergeRef
open Cert.Reference3Ideal Cert.Reference3Ideal.Gen Cert.Reference3Ideal.Read Finset

variable (x : Vec Ideal S16512x2048 .f32) (g : Vec Ideal S2048 .f32) (o : Vec Ideal S4x16512x512 .bf16) (wg : Vec Ideal S2048x8192 .f32) (wb : Vec Ideal S4x512x2048 .f32) (wo : Vec Ideal S2048x2048 .f32)

/-- The word of 1 reads as 1. -/
theorem one_word : Ideal.ofBits .f32 0x3F800000#32 = 1 := by
  simp [Ideal.ofBits, Ideal.ieee]
  rw [← EReal.coe_mul]
  norm_num

/-- The row sums of squares. -/
theorem v1_apply (n : Fin 16512) : val_main_v1 (F := Ideal) x (ix1 n) = ∑ k : Fin 2048, x (ix2 n k) * x (ix2 n k) := by
  rw [val_main_v1_apply]
  have hz : (val_main_cst (F := Ideal)) (Shape.Idx.first h_S_) = 0 := by rw [val_main_cst_apply]; simp [Ideal.ofBits, Ideal.ieee]
  rw [hz, zero_add]
  refine Finset.sum_congr rfl fun k _ => ?_
  rw [val_main_v0_apply]
  refine congrArg₂ (· * ·) (congrArg x ?_) (congrArg x ?_) <;> (funext a; fin_cases a <;> rfl)

/-- The reciprocal root of a row's mean square, at every entry of the row. -/
theorem v8_apply (n : Fin 16512) (d : Fin 2048) :
    val_main_v8 (F := Ideal) x (ix2 n d) = Ideal.rsqrt (Ideal.div (∑ k : Fin 2048, x (ix2 n k) * x (ix2 n k)) (Ideal.ofBits FTy.f32 0x45000000#32) + Ideal.ofBits FTy.f32 0x358637BD#32) := by
  rw [val_main_v8_apply, val_main_v7_apply, val_main_v6_apply, val_main_v4_apply, val_main_v2_apply, val_main_v5_apply, val_main_v3_apply, val_main_cst_0_apply, val_main_cst_1_apply, ← v1_apply]
  show Ideal.rsqrt (Ideal.div (val_main_v1 (F := Ideal) x _) _ + _) = _
  refine congrArg Ideal.rsqrt (congrArg₂ (· + ·) (congrArg₂ Ideal.div (congrArg _ ?_) rfl) rfl)
  funext a; fin_cases a; rfl

/-- The normalised rows. -/
theorem v12_apply (n : Fin 16512) (d : Fin 2048) : val_main_v12 (F := Ideal) x g (ix2 n d) = Merge.rms x g n d := by
  rw [val_main_v12_apply, val_main_v9_apply, v8_apply, val_main_v11_apply, val_main_v10_apply]
  unfold Merge.rms
  refine congrArg₂ (· * ·) rfl (congrArg g ?_)
  funext a; fin_cases a; rfl

/-- The gates' product. -/
theorem v13_apply (n : Fin 16512) (q : Fin 8192) : val_main_v13 (F := Ideal) x g wg (ix2 n q) = Merge.gl x g wg n q := by
  rw [val_main_v13_apply]
  unfold Merge.gl
  refine Finset.sum_congr rfl fun d _ => ?_
  rw [← v12_apply]
  refine congrArg₂ (· * ·) (congrArg _ ?_) (congrArg wg ?_) <;> (funext a; fin_cases a <;> rfl)

/-- The gates. -/
theorem v19_apply (n : Fin 16512) (q : Fin 8192) : val_main_v19 (F := Ideal) x g wg (ix2 n q) = Ideal.logistic (Merge.gl x g wg n q) := by
  rw [val_main_v19_apply, val_main_v18_apply, val_main_v17_apply, val_main_v16_apply, val_main_v15_apply, val_main_v14_apply, v13_apply, val_main_cst_2_apply, val_main_cst_3_apply]
  show Ideal.div (Ideal.ofBits .f32 0x3F800000#32) (Ideal.ofBits .f32 0x3F800000#32 + Ideal.exp (-_)) = _
  rw [one_word]
  rfl

/-- The gates by branch. -/
theorem v20_apply (n : Fin 16512) (b : Fin 4) (d : Fin 2048) : val_main_v20 (F := Ideal) x g wg (ix3 n b d) = Ideal.logistic (Merge.gl x g wg n ⟨2048 * b.val + d.val, by omega⟩) := by
  rw [val_main_v20_apply, ← v19_apply]
  refine congrArg _ (funext fun a => Fin.ext ?_)
  have hb := b.isLt
  have hd := d.isLt
  fin_cases a
  · show ((n.val * 4 + b.val) * 2048 + d.val) / 8192 = n.val; omega
  · show ((n.val * 4 + b.val) * 2048 + d.val) % 8192 = 2048 * b.val + d.val; omega

/-- The branches' products. -/
theorem v23_apply (n : Fin 16512) (b : Fin 4) (d : Fin 2048) : val_main_v23 (F := Ideal) o wb (ix3 n b d) = Merge.br o wb b n d := by
  rw [val_main_v23_apply, val_main_v22_apply]
  unfold Merge.br
  refine Finset.sum_congr rfl fun q _ => ?_
  rw [val_main_v21_apply]
  refine (mul_comm _ _).trans (congrArg₂ (· * ·) (congrArg o ?_) (congrArg wb ?_)) <;> (funext a; fin_cases a <;> rfl)

/-- The gated sum over the branches. -/
theorem v25_apply (n : Fin 16512) (d : Fin 2048) : val_main_v25 (F := Ideal) x g o wg wb (ix2 n d) = ∑ b ∈ range 4, Merge.term x g o wg wb n d b := by
  rw [val_main_v25_apply]
  have hz : (val_main_cst_4 (F := Ideal)) (Shape.Idx.first h_S_) = 0 := by rw [val_main_cst_4_apply]; simp [Ideal.ofBits, Ideal.ieee]
  rw [hz, zero_add, ← Fin.sum_univ_eq_sum_range]
  refine Finset.sum_congr rfl fun b _ => ?_
  rw [Merge.term, dif_pos b.isLt, ← v20_apply x g wg n b d, ← v23_apply]
  rw [val_main_v24_apply]
  refine congrArg₂ (· * ·) (congrArg _ ?_) (congrArg _ ?_) <;> (funext a; fin_cases a <;> rfl)

/-- The reference's result at an index is the merge of the arguments there. -/
theorem v27_apply (n : Fin 16512) (j : Fin 2048) : val_main_v27 (F := Ideal) x g o wg wb wo (ix2 n j) = Merge.merge x g o wg wb wo n j := by
  rw [val_main_v27_apply, val_main_v26_apply]
  unfold Merge.merge
  refine congrArg (x (ix2 n j) + ·) (Finset.sum_congr rfl fun d _ => ?_)
  rw [← v25_apply]
  refine congrArg₂ (· * ·) (congrArg _ ?_) (congrArg wo ?_) <;> (funext a; fin_cases a <;> rfl)

end Cert.MergeRef
-- ==== Proof.MergeClaim.lean ====
module
public import proofs.«01_k».proof.Defs
public import proofs.«01_k».proof.Proof.MergeRef
public import proofs.«01_k».proof.Proof.Gen.Reference3Ideal.Run
public import Idealize.ShloMosaic.Lib.Claim
@[expose] public section
noncomputable section
open Idealize.ShloMosaic Idealize.ShloMosaic.TcCoe Idealize.SL.Sem
namespace Cert.MergeClaim

/-- The merge reference's counters: it declares no semaphore. -/
theorem ref_sem (s : MemSt Cert.Reference3Ideal.nD Cert.Reference3Ideal.τ Cert.Reference3Ideal.sig (Elt Ideal)) : s.sem = fun _ => 0 :=
  funext fun s => match s with
    | (_, .reg k) => k.elim0
    | (_, .dma k) => k.elim0

/-- The merge reference runs, keeps its arguments and ends quiescent. -/
theorem ref_frame : Cert.quiescent_Reference3Ideal := fun m g _ =>
  θ_run_mono (Cert.Reference3Ideal.Value.run m g) fun r h => ⟨fun c => (h c).2, ref_sem r.2⟩

/-- The merge call and its reference compute the same array. -/
theorem algebraic : Cert.algebraic_Kernel3Ideal_Reference3Ideal := by
  intro m g m' g' hpre hagree
  refine ⟨fun c => (fun i => Merge.merge (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (i 0) (i 1) : Vec Ideal Cert.Kernel3Ideal.S16512x2048 .f32), ?_, ?_⟩
  · exact θ_run_mono (Merge.run_blocks m g) fun r h c => ⟨(h c).1.trans (Merge.array m c _ _ _ _ _ _ rfl rfl rfl rfl rfl rfl), (h c).2⟩
  · refine θ_run_mono (Cert.Reference3Ideal.Value.run m' g') fun r h c => ⟨(h c).1.trans ?_, (h c).2⟩
    rw [Cert.Reference3Ideal.Read.val_main_v27_eq, (hagree c).1, (hagree c).2.1, (hagree c).2.2.1, (hagree c).2.2.2.1, (hagree c).2.2.2.2.1, (hagree c).2.2.2.2.2]
    funext i
    exact (congrArg _ (by funext a; fin_cases a <;> rfl)).trans (MergeRef.v27_apply _ _ _ _ _ _ (i 0) (i 1))

end Cert.MergeClaim
-- ==== Proof.ProjArray.lean ====
module
public import proofs.«01_k».proof.Proof.FfnArray
public import proofs.«01_k».proof.Proof.Gen.Kernel4Ideal.Value
public import Idealize.ShloMosaic.Lib.Claim
@[expose] public section
set_option maxRecDepth 16384
noncomputable section
open Idealize.ShloMosaic Idealize.ShloMosaic.TcCoe Idealize.SL.Sem
namespace Cert.Proj
open Cert.Kernel4Ideal Cert.Kernel4Ideal.Gen Finset
open Cert.Ffn (rms hz)

/-- The projection at `(n, j)`. -/
def proj (x : Vec Ideal S16512x2048 .f32) (g : Vec Ideal S2048 .f32) (w : Vec Ideal S2048x4480 .f32) (n : Fin 16512) (j : Fin 4480) : EReal :=
  ∑ d : Fin 2048, rms x g n d * w (ix2 d j)

/-- The result block. -/
theorem pay1_apply (x : Vec Ideal S384x2048 .f32) (g : Vec Ideal S1x2048 .f32) (w : Vec Ideal S2048x4480 .bf16) (r : Fin 384) (j : Fin 4480) :
    k0_pay1 (F := Ideal) x g w (ix2 r j) = ∑ d : Fin 2048, x (ix2 r d) * Ideal.rsqrt (Ideal.div (∑ k : Fin 2048, x (ix2 r k) * x (ix2 r k)) (Ideal.ofBits FTy.f32 0x45000000#32) + Ideal.ofBits FTy.f32 0x358637BD#32) * g (ix2 0 d) * w (ix2 d j) := by
  pointwise [k0_pay1]

/-- What a point stores, over the blocks it reads. -/
theorem out_eq (x : Vec Ideal S384x2048 .f32) (g : Vec Ideal S1x2048 .f32) (w : Vec Ideal S2048x4480 .bf16) :
    out0_3 (F := Ideal) x g w = k0_pay1 x g w := by
  unfold out0_3
  refine (View.canon_cons_unit_lit' _ _ _ (by decide : ∀ a : Fin 2, (![0, 0] : Fin 2 → Nat) a = 0)).trans ?_
  simp only [View.ld_unit_zero (S := S384x2048) hz, View.ld_unit_zero (S := S1x2048) hz, View.ld_unit_zero (S := S2048x4480) hz]

/-- The blocks of the four windows at every point. -/
theorem index0 : ∀ t : Fin cfg0.N, win0_0.index t = ![t.val, 0] ∧ win0_1.index t = ![0, 0] ∧ win0_2.index t = ![0, 0] ∧ win0_3.index t = ![t.val, 0] := by
  decide +kernel

variable (m : (ℓ : Loc nD τ sig) → Buf (Elt Ideal) ℓ)

/-- There are 43 points. -/
theorem t_lt (t : Fin cfg0.N) : t.val < 43 := lt_of_lt_of_eq t.isLt N_0

/-- The array row of row `r` of point `t`'s block. -/
def row (t : Fin cfg0.N) (r : Fin 384) : Fin 16512 := ⟨384 * t.val + r.val, by have := t_lt t; omega⟩

/-- Point `t`'s rows. -/
theorem x_apply (c : Dev nD) (t : Fin cfg0.N) (r : Fin 384) (d : Fin 2048) :
    (iblk m c 0 t : Vec Ideal S384x2048 .f32) (ix2 r d) = (m ((c : Thread nD τ).loc main_arg0) : Vec Ideal S16512x2048 .f32) (ix2 (row t r) d) := by
  have h := (index0 t).1
  unfold row
  blk_ext [iblk, V, h]

/-- The gain. -/
theorem g_apply (c : Dev nD) (t : Fin cfg0.N) (d : Fin 2048) :
    (iblk m c 1 t : Vec Ideal S1x2048 .f32) (ix2 0 d) = (m ((c : Thread nD τ).loc main_arg1) : Vec Ideal S2048 .f32) (ix1 d) := by
  have h := (index0 t).2.1
  have e : (V m c main_v1 : Vec Ideal S1x2048 .f32) (ix2 0 d) = (m ((c : Thread nD τ).loc main_arg1) : Vec Ideal S2048 .f32) (ix1 d) := by
    entry_read
    pointwise
  rw [← e]
  blk_ext [iblk, h]

/-- The matrix. -/
theorem w_apply (c : Dev nD) (t : Fin cfg0.N) (d : Fin 2048) (j : Fin 4480) :
    (iblk m c 2 t : Vec Ideal S2048x4480 .bf16) (ix2 d j) = (m ((c : Thread nD τ).loc main_arg2) : Vec Ideal S2048x4480 .f32) (ix2 d j) := by
  have h := (index0 t).2.2.1
  have e : (V m c main_v0 : Vec Ideal S2048x4480 .bf16) (ix2 d j) = (m ((c : Thread nD τ).loc main_arg2) : Vec Ideal S2048x4480 .f32) (ix2 d j) := by
    entry_read
    pointwise
  rw [← e]
  blk_ext [iblk, h]

variable (c : Dev nD) (x : Vec Ideal S16512x2048 .f32) (g : Vec Ideal S2048 .f32) (w : Vec Ideal S2048x4480 .f32)
  (hx : m ((c : Thread nD τ).loc main_arg0) = x) (hg : m ((c : Thread nD τ).loc main_arg1) = g) (hw : m ((c : Thread nD τ).loc main_arg2) = w)
include hx hg hw

/-- What a point stores. -/
theorem out_apply (t : Fin cfg0.N) (r : Fin 384) (j : Fin 4480) :
    out0_3 (F := Ideal) (iblk m c 0 t) (iblk m c 1 t) (iblk m c 2 t) (ix2 r j) = proj x g w (row t r) j := by
  rw [out_eq, pay1_apply]
  simp only [x_apply m c t, g_apply m c t, w_apply m c t, hx, hg, hw]
  rfl

/-- The launch's result array, at every index, is the projection of the arguments. -/
theorem array : (dats m 0 c).arrAt 3 cfg0.N = (fun i => proj x g w (i 0) (i 1) : Vec Ideal S16512x4480 .f32) := by
  refine (dats m 0 c).arrAt_eq_of_covers 3 _ (by decide +kernel) fun t hf y => ?_
  have h := (index0 t).2.2.2
  blk_simp
  rw [after0_3]
  have e := out_apply m c x g w hx hg hw t (y 0) (y 1)
  refine Eq.trans (congrArg (out0_3 (F := Ideal) (iblk m c 0 t) (iblk m c 1 t) (iblk m c 2 t)) ?_) (e.trans ?_)
  · funext a; fin_cases a <;> rfl
  · refine congrArg₂ (proj x g w) (Fin.ext ?_) (Fin.ext ?_)
    · unfold row
      blk_simp [h]
      exact congrArg (· + _) (Nat.mul_comm _ _)
    · blk_simp [h]
end Cert.Proj
-- ==== Proof.ProjRef.lean ====
module
public import proofs.«01_k».proof.Proof.ProjArray
public import proofs.«01_k».proof.Proof.Gen.Reference4Ideal.Read
@[expose] public section
set_option maxRecDepth 16384
noncomputable section
open Idealize.ShloMosaic Idealize.ShloMosaic.TcCoe Idealize.SL.Sem
namespace Cert.ProjRef
open Cert.Reference4Ideal Cert.Reference4Ideal.Gen Cert.Reference4Ideal.Read Finset

variable (x : Vec Ideal S16512x2048 .f32) (g : Vec Ideal S2048 .f32) (w : Vec Ideal S2048x4480 .f32)

/-- The row sums of squares. -/
theorem v1_apply (n : Fin 16512) : val_main_v1 (F := Ideal) x (ix1 n) = ∑ k : Fin 2048, x (ix2 n k) * x (ix2 n k) := by
  rw [val_main_v1_apply]
  have hz : (val_main_cst (F := Ideal)) (Shape.Idx.first h_S_) = 0 := by rw [val_main_cst_apply]; simp [Ideal.ofBits, Ideal.ieee]
  rw [hz, zero_add]
  refine Finset.sum_congr rfl fun k _ => ?_
  rw [val_main_v0_apply]
  refine congrArg₂ (· * ·) (congrArg x ?_) (congrArg x ?_) <;> (funext a; fin_cases a <;> rfl)

/-- The reciprocal root of a row's mean square, at every entry of the row. -/
theorem v8_apply (n : Fin 16512) (d : Fin 2048) :
    val_main_v8 (F := Ideal) x (ix2 n d) = Ideal.rsqrt (Ideal.div (∑ k : Fin 2048, x (ix2 n k) * x (ix2 n k)) (Ideal.ofBits FTy.f32 0x45000000#32) + Ideal.ofBits FTy.f32 0x358637BD#32) := by
  rw [val_main_v8_apply, val_main_v7_apply, val_main_v6_apply, val_main_v4_apply, val_main_v2_apply, val_main_v5_apply, val_main_v3_apply, val_main_cst_0_apply, val_main_cst_1_apply, ← v1_apply]
  show Ideal.rsqrt (Ideal.div (val_main_v1 (F := Ideal) x _) _ + _) = _
  refine congrArg Ideal.rsqrt (congrArg₂ (· + ·) (congrArg₂ Ideal.div (congrArg _ ?_) rfl) rfl)
  funext a; fin_cases a; rfl

/-- The normalised rows. -/
theorem v12_apply (n : Fin 16512) (d : Fin 2048) : val_main_v12 (F := Ideal) x g (ix2 n d) = Ffn.rms x g n d := by
  rw [val_main_v12_apply, val_main_v9_apply, v8_apply, val_main_v11_apply, val_main_v10_apply]
  unfold Ffn.rms
  refine congrArg₂ (· * ·) rfl (congrArg g ?_)
  funext a; fin_cases a; rfl

/-- The reference's result at an index is the projection of the arguments there. -/
theorem v13_apply (n : Fin 16512) (j : Fin 4480) : val_main_v13 (F := Ideal) x g w (ix2 n j) = Proj.proj x g w n j := by
  rw [val_main_v13_apply]
  unfold Proj.proj
  refine Finset.sum_congr rfl fun d _ => ?_
  rw [← v12_apply]
  refine congrArg₂ (· * ·) (congrArg _ ?_) (congrArg w ?_) <;> (funext a; fin_cases a <;> rfl)

end Cert.ProjRef
-- ==== Proof.ProjClaim.lean ====
module
public import proofs.«01_k».proof.Defs
public import proofs.«01_k».proof.Proof.ProjRef
public import proofs.«01_k».proof.Proof.Gen.Reference4Ideal.Run
public import Idealize.ShloMosaic.Lib.Claim
@[expose] public section
noncomputable section
open Idealize.ShloMosaic Idealize.ShloMosaic.TcCoe Idealize.SL.Sem
namespace Cert.ProjClaim

/-- The input projection reference's counters: it declares no semaphore. -/
theorem ref_sem (s : MemSt Cert.Reference4Ideal.nD Cert.Reference4Ideal.τ Cert.Reference4Ideal.sig (Elt Ideal)) : s.sem = fun _ => 0 :=
  funext fun s => match s with
    | (_, .reg k) => k.elim0
    | (_, .dma k) => k.elim0

/-- The input projection reference runs, keeps its arguments and ends quiescent. -/
theorem ref_frame : Cert.quiescent_Reference4Ideal := fun m g _ =>
  θ_run_mono (Cert.Reference4Ideal.Value.run m g) fun r h => ⟨fun c => (h c).2, ref_sem r.2⟩

/-- The input projection call and its reference compute the same array. -/
theorem algebraic : Cert.algebraic_Kernel4Ideal_Reference4Ideal := by
  intro m g m' g' hpre hagree
  refine ⟨fun c => (fun i => Proj.proj (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (i 0) (i 1) : Vec Ideal Cert.Kernel4Ideal.S16512x4480 .f32), ?_, ?_⟩
  · exact θ_run_mono (Cert.Kernel4Ideal.Value.run_blocks m g) fun r h c => ⟨(h c).1.trans (Proj.array m c _ _ _ rfl rfl rfl), (h c).2⟩
  · refine θ_run_mono (Cert.Reference4Ideal.Value.run m' g') fun r h c => ⟨(h c).1.trans ?_, (h c).2⟩
    rw [Cert.Reference4Ideal.Read.val_main_v13_eq, (hagree c).1, (hagree c).2.1, (hagree c).2.2]
    funext i
    exact (congrArg _ (by funext a; fin_cases a <;> rfl)).trans (ProjRef.v13_apply _ _ _ (i 0) (i 1))

end Cert.ProjClaim
-- ==== Proof.PleArray.lean ====
module
public import proofs.«01_k».proof.Proof.FfnArray
public import proofs.«01_k».proof.Proof.Gen.Kernel5Ideal.Value
public import Idealize.ShloMosaic.Lib.Claim
@[expose] public section
set_option maxRecDepth 16384
noncomputable section
open Idealize.ShloMosaic Idealize.ShloMosaic.TcCoe Idealize.SL.Sem
namespace Cert.Ple
open Cert.Kernel5Ideal Cert.Kernel5Ideal.Gen Finset
open Cert.Ffn (rms hz)

/-- The per-layer embedding at `(n, j)`. -/
def ple (x : Vec Ideal S16512x2048 .f32) (g : Vec Ideal S2048 .f32) (p : Vec Ideal S16512x256 .f32) (w : Vec Ideal S2048x2048 .f32) (w' : Vec Ideal S256x2048 .f32) (n : Fin 16512) (j : Fin 2048) : EReal :=
  x (ix2 n j) + Ideal.logistic (∑ d : Fin 2048, rms x g n d * w (ix2 d j)) * ∑ q : Fin 256, p (ix2 n q) * w' (ix2 q j)

/-- The result block. -/
theorem pay1_apply (x : Vec Ideal S384x2048 .f32) (g : Vec Ideal S1x2048 .f32) (w : Vec Ideal S2048x2048 .bf16) (p : Vec Ideal S384x256 .f32) (w' : Vec Ideal S256x2048 .bf16) (r : Fin 384) (j : Fin 2048) :
    k0_pay1 (F := Ideal) x g w p w' (ix2 r j) = x (ix2 r j) + Ideal.logistic (∑ d : Fin 2048, x (ix2 r d) * Ideal.rsqrt (Ideal.div (∑ k : Fin 2048, x (ix2 r k) * x (ix2 r k)) (Ideal.ofBits FTy.f32 0x45000000#32) + Ideal.ofBits FTy.f32 0x358637BD#32) * g (ix2 0 d) * w (ix2 d j)) * ∑ q : Fin 256, p (ix2 r q) * w' (ix2 q j) := by
  pointwise [k0_pay1]

/-- What a point stores, over the blocks it reads. -/
theorem out_eq (x : Vec Ideal S384x2048 .f32) (g : Vec Ideal S1x2048 .f32) (p : Vec Ideal S384x256 .f32) (w : Vec Ideal S2048x2048 .bf16) (w' : Vec Ideal S256x2048 .bf16) (gf : Vec Ideal S1x2048 .f32) :
    out0_6 (F := Ideal) x g p w w' gf = k0_pay1 x g w p w' := by
  unfold out0_6
  refine (View.canon_cons_unit_lit' _ _ _ (by decide : ∀ a : Fin 2, (![0, 0] : Fin 2 → Nat) a = 0)).trans ?_
  simp only [View.ld_unit_zero (S := S384x2048) hz, View.ld_unit_zero (S := S1x2048) hz, View.ld_unit_zero (S := S2048x2048) hz, View.ld_unit_zero (S := S384x256) hz, View.ld_unit_zero (S := S256x2048) hz]

/-- The blocks of the windows at every point. -/
theorem index0 : ∀ t : Fin cfg0.N, win0_0.index t = ![t.val, 0] ∧ win0_1.index t = ![0, 0] ∧ win0_2.index t = ![t.val, 0] ∧ win0_3.index t = ![0, 0] ∧ win0_4.index t = ![0, 0] ∧ win0_6.index t = ![t.val, 0] := by
  decide +kernel

variable (m : (ℓ : Loc nD τ sig) → Buf (Elt Ideal) ℓ)

/-- There are 43 points. -/
theorem t_lt (t : Fin cfg0.N) : t.val < 43 := lt_of_lt_of_eq t.isLt N_0

/-- The array row of row `r` of point `t`'s block. -/
def row (t : Fin cfg0.N) (r : Fin 384) : Fin 16512 := ⟨384 * t.val + r.val, by have := t_lt t; omega⟩

/-- Point `t`'s rows. -/
theorem x_apply (c : Dev nD) (t : Fin cfg0.N) (r : Fin 384) (d : Fin 2048) :
    (iblk m c 0 t : Vec Ideal S384x2048 .f32) (ix2 r d) = (m ((c : Thread nD τ).loc main_arg0) : Vec Ideal S16512x2048 .f32) (ix2 (row t r) d) := by
  have h := (index0 t).1
  unfold row
  blk_ext [iblk, V, h]

/-- The gain. -/
theorem g_apply (c : Dev nD) (t : Fin cfg0.N) (d : Fin 2048) :
    (iblk m c 1 t : Vec Ideal S1x2048 .f32) (ix2 0 d) = (m ((c : Thread nD τ).loc main_arg1) : Vec Ideal S2048 .f32) (ix1 d) := by
  have h := (index0 t).2.1
  have e : (V m c main_v2 : Vec Ideal S1x2048 .f32) (ix2 0 d) = (m ((c : Thread nD τ).loc main_arg1) : Vec Ideal S2048 .f32) (ix1 d) := by
    entry_read
    pointwise
  rw [← e]
  blk_ext [iblk, h]

/-- Point `t`'s embeddings. -/
theorem p_apply (c : Dev nD) (t : Fin cfg0.N) (r : Fin 384) (d : Fin 256) :
    (iblk m c 2 t : Vec Ideal S384x256 .f32) (ix2 r d) = (m ((c : Thread nD τ).loc main_arg2) : Vec Ideal S16512x256 .f32) (ix2 (row t r) d) := by
  have h := (index0 t).2.2.1
  unfold row
  blk_ext [iblk, V, h]

/-- The gate's matrix. -/
theorem w_apply (c : Dev nD) (t : Fin cfg0.N) (d : Fin 2048) (j : Fin 2048) :
    (iblk m c 3 t : Vec Ideal S2048x2048 .bf16) (ix2 d j) = (m ((c : Thread nD τ).loc main_arg3) : Vec Ideal S2048x2048 .f32) (ix2 d j) := by
  have h := (index0 t).2.2.2.1
  have e : (V m c main_v0 : Vec Ideal S2048x2048 .bf16) (ix2 d j) = (m ((c : Thread nD τ).loc main_arg3) : Vec Ideal S2048x2048 .f32) (ix2 d j) := by
    entry_read
    pointwise
  rw [← e]
  blk_ext [iblk, h]

/-- The embedding's matrix. -/
theorem wp_apply (c : Dev nD) (t : Fin cfg0.N) (d : Fin 256) (j : Fin 2048) :
    (iblk m c 4 t : Vec Ideal S256x2048 .bf16) (ix2 d j) = (m ((c : Thread nD τ).loc main_arg4) : Vec Ideal S256x2048 .f32) (ix2 d j) := by
  have h := (index0 t).2.2.2.2.1
  have e : (V m c main_v1 : Vec Ideal S256x2048 .bf16) (ix2 d j) = (m ((c : Thread nD τ).loc main_arg4) : Vec Ideal S256x2048 .f32) (ix2 d j) := by
    entry_read
    pointwise
  rw [← e]
  blk_ext [iblk, h]

variable (c : Dev nD) (x : Vec Ideal S16512x2048 .f32) (g : Vec Ideal S2048 .f32) (p : Vec Ideal S16512x256 .f32) (w : Vec Ideal S2048x2048 .f32) (w' : Vec Ideal S256x2048 .f32)
  (hx : m ((c : Thread nD τ).loc main_arg0) = x) (hg : m ((c : Thread nD τ).loc main_arg1) = g) (hp : m ((c : Thread nD τ).loc main_arg2) = p) (hw : m ((c : Thread nD τ).loc main_arg3) = w) (hw' : m ((c : Thread nD τ).loc main_arg4) = w')
include hx hg hp hw hw'

/-- What a point stores. -/
theorem out_apply (t : Fin cfg0.N) (r : Fin 384) (j : Fin 2048) :
    out0_6 (F := Ideal) (iblk m c 0 t) (iblk m c 1 t) (iblk m c 2 t) (iblk m c 3 t) (iblk m c 4 t) (iblk m c 5 t) (ix2 r j) = ple x g p w w' (row t r) j := by
  rw [out_eq, pay1_apply]
  simp only [x_apply m c t, g_apply m c t, p_apply m c t, w_apply m c t, wp_apply m c t, hx, hg, hp, hw, hw']
  rfl

/-- The launch's result array, at every index, is the per-layer embedding of the arguments. -/
theorem array : (dats m 0 c).arrAt 6 cfg0.N = (fun i => ple x g p w w' (i 0) (i 1) : Vec Ideal S16512x2048 .f32) := by
  refine (dats m 0 c).arrAt_eq_of_covers 6 _ (by decide +kernel) fun t hf y => ?_
  have h := (index0 t).2.2.2.2.2
  blk_simp
  rw [after0_6]
  have e := out_apply m c x g p w w' hx hg hp hw hw' t (y 0) (y 1)
  refine Eq.trans (congrArg (out0_6 (F := Ideal) (iblk m c 0 t) (iblk m c 1 t) (iblk m c 2 t) (iblk m c 3 t) (iblk m c 4 t) (iblk m c 5 t)) ?_) (e.trans ?_)
  · funext a; fin_cases a <;> rfl
  · refine congrArg₂ (ple x g p w w') (Fin.ext ?_) (Fin.ext ?_)
    · unfold row
      blk_simp [h]
      exact congrArg (· + _) (Nat.mul_comm _ _)
    · blk_simp [h]
end Cert.Ple
-- ==== Proof.PleRef.lean ====
module
public import proofs.«01_k».proof.Proof.PleArray
public import proofs.«01_k».proof.Proof.Gen.Reference5Ideal.Read
@[expose] public section
set_option maxRecDepth 16384
noncomputable section
open Idealize.ShloMosaic Idealize.ShloMosaic.TcCoe Idealize.SL.Sem
namespace Cert.PleRef
open Cert.Reference5Ideal Cert.Reference5Ideal.Gen Cert.Reference5Ideal.Read Finset

variable (x : Vec Ideal S16512x2048 .f32) (g : Vec Ideal S2048 .f32) (p : Vec Ideal S16512x256 .f32) (w : Vec Ideal S2048x2048 .f32) (w' : Vec Ideal S256x2048 .f32)

/-- The word of 1 reads as 1. -/
theorem one_word : Ideal.ofBits .f32 0x3F800000#32 = 1 := by
  simp [Ideal.ofBits, Ideal.ieee]
  rw [← EReal.coe_mul]
  norm_num

/-- The row sums of squares. -/
theorem v1_apply (n : Fin 16512) : val_main_v1 (F := Ideal) x (ix1 n) = ∑ k : Fin 2048, x (ix2 n k) * x (ix2 n k) := by
  rw [val_main_v1_apply]
  have hz : (val_main_cst (F := Ideal)) (Shape.Idx.first h_S_) = 0 := by rw [val_main_cst_apply]; simp [Ideal.ofBits, Ideal.ieee]
  rw [hz, zero_add]
  refine Finset.sum_congr rfl fun k _ => ?_
  rw [val_main_v0_apply]
  refine congrArg₂ (· * ·) (congrArg x ?_) (congrArg x ?_) <;> (funext a; fin_cases a <;> rfl)

/-- The reciprocal root of a row's mean square, at every entry of the row. -/
theorem v8_apply (n : Fin 16512) (d : Fin 2048) :
    val_main_v8 (F := Ideal) x (ix2 n d) = Ideal.rsqrt (Ideal.div (∑ k : Fin 2048, x (ix2 n k) * x (ix2 n k)) (Ideal.ofBits FTy.f32 0x45000000#32) + Ideal.ofBits FTy.f32 0x358637BD#32) := by
  rw [val_main_v8_apply, val_main_v7_apply, val_main_v6_apply, val_main_v4_apply, val_main_v2_apply, val_main_v5_apply, val_main_v3_apply, val_main_cst_0_apply, val_main_cst_1_apply, ← v1_apply]
  show Ideal.rsqrt (Ideal.div (val_main_v1 (F := Ideal) x _) _ + _) = _
  refine congrArg Ideal.rsqrt (congrArg₂ (· + ·) (congrArg₂ Ideal.div (congrArg _ ?_) rfl) rfl)
  funext a; fin_cases a; rfl

/-- The normalised rows. -/
theorem v12_apply (n : Fin 16512) (d : Fin 2048) : val_main_v12 (F := Ideal) x g (ix2 n d) = Ffn.rms x g n d := by
  rw [val_main_v12_apply, val_main_v9_apply, v8_apply, val_main_v11_apply, val_main_v10_apply]
  unfold Ffn.rms
  refine congrArg₂ (· * ·) rfl (congrArg g ?_)
  funext a; fin_cases a; rfl

/-- The gate's product. -/
theorem v13_apply (n : Fin 16512) (j : Fin 2048) : val_main_v13 (F := Ideal) x g w (ix2 n j) = ∑ d : Fin 2048, Ffn.rms x g n d * w (ix2 d j) := by
  rw [val_main_v13_apply]
  refine Finset.sum_congr rfl fun d _ => ?_
  rw [← v12_apply]
  refine congrArg₂ (· * ·) (congrArg _ ?_) (congrArg w ?_) <;> (funext a; fin_cases a <;> rfl)

/-- The gate. -/
theorem v19_apply (n : Fin 16512) (j : Fin 2048) : val_main_v19 (F := Ideal) x g w (ix2 n j) = Ideal.logistic (∑ d : Fin 2048, Ffn.rms x g n d * w (ix2 d j)) := by
  rw [val_main_v19_apply, val_main_v18_apply, val_main_v17_apply, val_main_v16_apply, val_main_v15_apply, val_main_v14_apply, v13_apply, val_main_cst_2_apply, val_main_cst_3_apply]
  show Ideal.div (Ideal.ofBits .f32 0x3F800000#32) (Ideal.ofBits .f32 0x3F800000#32 + Ideal.exp (-_)) = _
  rw [one_word]
  rfl

/-- The embedding's product. -/
theorem v20_apply (n : Fin 16512) (j : Fin 2048) : val_main_v20 (F := Ideal) p w' (ix2 n j) = ∑ q : Fin 256, p (ix2 n q) * w' (ix2 q j) := by
  rw [val_main_v20_apply]
  refine Finset.sum_congr rfl fun d _ => ?_
  refine congrArg₂ (· * ·) (congrArg p ?_) (congrArg w' ?_) <;> (funext a; fin_cases a <;> rfl)

/-- The reference's result at an index is the per-layer embedding of the arguments there. -/
theorem v22_apply (n : Fin 16512) (j : Fin 2048) : val_main_v22 (F := Ideal) x g p w w' (ix2 n j) = Ple.ple x g p w w' n j := by
  rw [val_main_v22_apply, val_main_v21_apply, v19_apply, v20_apply]
  rfl

end Cert.PleRef
-- ==== Proof.PleClaim.lean ====
module
public import proofs.«01_k».proof.Defs
public import proofs.«01_k».proof.Proof.PleRef
public import proofs.«01_k».proof.Proof.Gen.Reference5Ideal.Run
public import Idealize.ShloMosaic.Lib.Claim
@[expose] public section
noncomputable section
open Idealize.ShloMosaic Idealize.ShloMosaic.TcCoe Idealize.SL.Sem
namespace Cert.PleClaim

/-- The per-layer embedding reference's counters: it declares no semaphore. -/
theorem ref_sem (s : MemSt Cert.Reference5Ideal.nD Cert.Reference5Ideal.τ Cert.Reference5Ideal.sig (Elt Ideal)) : s.sem = fun _ => 0 :=
  funext fun s => match s with
    | (_, .reg k) => k.elim0
    | (_, .dma k) => k.elim0

/-- The per-layer embedding reference runs, keeps its arguments and ends quiescent. -/
theorem ref_frame : Cert.quiescent_Reference5Ideal := fun m g _ =>
  θ_run_mono (Cert.Reference5Ideal.Value.run m g) fun r h => ⟨fun c => (h c).2, ref_sem r.2⟩

/-- The per-layer embedding call and its reference compute the same array. -/
theorem algebraic : Cert.algebraic_Kernel5Ideal_Reference5Ideal := by
  intro m g m' g' hpre hagree
  refine ⟨fun c => (fun i => Ple.ple (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (i 0) (i 1) : Vec Ideal Cert.Kernel5Ideal.S16512x2048 .f32), ?_, ?_⟩
  · exact θ_run_mono (Cert.Kernel5Ideal.Value.run_blocks m g) fun r h c => ⟨(h c).1.trans (Ple.array m c _ _ _ _ _ rfl rfl rfl rfl rfl), (h c).2⟩
  · refine θ_run_mono (Cert.Reference5Ideal.Value.run m' g') fun r h c => ⟨(h c).1.trans ?_, (h c).2⟩
    rw [Cert.Reference5Ideal.Read.val_main_v22_eq, (hagree c).1, (hagree c).2.1, (hagree c).2.2.1, (hagree c).2.2.2.1, (hagree c).2.2.2.2.1]
    funext i
    exact (congrArg _ (by funext a; fin_cases a <;> rfl)).trans (PleRef.v22_apply _ _ _ _ _ (i 0) (i 1))

end Cert.PleClaim
-- ==== Proof.PleLastArray.lean ====
module
public import proofs.«01_k».proof.Proof.PleArray
public import proofs.«01_k».proof.Proof.Gen.Kernel6Ideal.Value
public import Idealize.ShloMosaic.Lib.Claim
@[expose] public section
set_option maxRecDepth 16384
noncomputable section
open Idealize.ShloMosaic Idealize.ShloMosaic.TcCoe Idealize.SL.Sem
namespace Cert.PleLast
open Cert.Kernel6Ideal Cert.Kernel6Ideal.Gen Finset
open Cert.Ffn (rms hz)
open Cert.Ple (ple)

/-- The per-layer embedding with the final normalisation at `(n, j)`. -/
def last (x : Vec Ideal S16512x2048 .f32) (g : Vec Ideal S2048 .f32) (p : Vec Ideal S16512x256 .f32) (w : Vec Ideal S2048x2048 .f32) (w' : Vec Ideal S256x2048 .f32) (gf : Vec Ideal S2048 .f32) (n : Fin 16512) (j : Fin 2048) : EReal :=
  rms (fun i => ple x g p w w' (i 0) (i 1)) gf n j

/-- A block's embedding before the final normalisation. -/
abbrev emb (x : Vec Ideal S384x2048 .f32) (g : Vec Ideal S1x2048 .f32) (w : Vec Ideal S2048x2048 .bf16) (p : Vec Ideal S384x256 .f32) (w' : Vec Ideal S256x2048 .bf16) (r : Fin 384) (j : Fin 2048) : EReal :=
  x (ix2 r j) + Ideal.logistic (∑ d : Fin 2048, x (ix2 r d) * Ideal.rsqrt (Ideal.div (∑ k : Fin 2048, x (ix2 r k) * x (ix2 r k)) (Ideal.ofBits FTy.f32 0x45000000#32) + Ideal.ofBits FTy.f32 0x358637BD#32) * g (ix2 0 d) * w (ix2 d j)) * ∑ q : Fin 256, p (ix2 r q) * w' (ix2 q j)

/-- The embedded block over its rows' root mean squares. -/
theorem pay3_apply (x : Vec Ideal S384x2048 .f32) (g : Vec Ideal S1x2048 .f32) (w : Vec Ideal S2048x2048 .bf16) (p : Vec Ideal S384x256 .f32) (w' : Vec Ideal S256x2048 .bf16) (r : Fin 384) (j : Fin 2048) :
    k0_pay3 (F := Ideal) x g w p w' (ix2 r j) = emb x g w p w' r j * Ideal.rsqrt (Ideal.div (∑ k : Fin 2048, emb x g w p w' r k * emb x g w p w' r k) (Ideal.ofBits FTy.f32 0x45000000#32) + Ideal.ofBits FTy.f32 0x358637BD#32) := by
  pointwise [k0_pay3]

/-- The block times the final gain. -/
theorem pay1_apply (gf : Vec Ideal S1x2048 .f32) (y : Vec Ideal S384x2048 .f32) (r : Fin 384) (j : Fin 2048) :
    k0_pay1 (F := Ideal) (k0_pay2 gf) y (ix2 r j) = y (ix2 r j) * gf (ix2 0 j) := by
  pointwise [k0_pay1, k0_pay2]

/-- What a point stores, over the blocks it reads. -/
theorem out_eq (x : Vec Ideal S384x2048 .f32) (g : Vec Ideal S1x2048 .f32) (p : Vec Ideal S384x256 .f32) (w : Vec Ideal S2048x2048 .bf16) (w' : Vec Ideal S256x2048 .bf16) (gf : Vec Ideal S1x2048 .f32) :
    out0_6 (F := Ideal) x g p w w' gf = k0_pay1 (k0_pay2 gf) (k0_pay3 x g w p w') := by
  unfold out0_6
  refine (View.canon_cons_unit_lit' _ _ _ (by decide : ∀ a : Fin 2, (![0, 0] : Fin 2 → Nat) a = 0)).trans ?_
  simp only [View.ld_unit_zero (S := S384x2048) hz, View.ld_unit_zero (S := S1x2048) hz, View.ld_unit_zero (S := S2048x2048) hz, View.ld_unit_zero (S := S384x256) hz, View.ld_unit_zero (S := S256x2048) hz]

/-- The blocks of the windows at every point. -/
theorem index0 : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![0, 0] ∧ win0_6.index t = ![t.val, 0] := by
  decide +kernel

variable (m : (ℓ : Loc nD τ sig) → Buf (Elt Ideal) ℓ)

/-- There are 43 points. -/
theorem t_lt (t : Fin cfg0.N) : t.val < 43 := lt_of_lt_of_eq t.isLt N_0

/-- The array row of row `r` of point `t`'s block. -/
def row (t : Fin cfg0.N) (r : Fin 384) : Fin 16512 := ⟨384 * t.val + r.val, by have := t_lt t; omega⟩

/-- Point `t`'s rows. -/
theorem x_apply (c : Dev nD) (t : Fin cfg0.N) (r : Fin 384) (d : Fin 2048) :
    (iblk m c 0 t : Vec Ideal S384x2048 .f32) (ix2 r d) = (m ((c : Thread nD τ).loc main_arg0) : Vec Ideal S16512x2048 .f32) (ix2 (row t r) d) := by
  have h := (index0 t).1
  unfold row
  blk_ext [iblk, V, h]

/-- The gain. -/
theorem g_apply (c : Dev nD) (t : Fin cfg0.N) (d : Fin 2048) :
    (iblk m c 1 t : Vec Ideal S1x2048 .f32) (ix2 0 d) = (m ((c : Thread nD τ).loc main_arg1) : Vec Ideal S2048 .f32) (ix1 d) := by
  have h := (index0 t).2.1
  have e : (V m c main_v2 : Vec Ideal S1x2048 .f32) (ix2 0 d) = (m ((c : Thread nD τ).loc main_arg1) : Vec Ideal S2048 .f32) (ix1 d) := by
    entry_read
    pointwise
  rw [← e]
  blk_ext [iblk, h]

/-- Point `t`'s embeddings. -/
theorem p_apply (c : Dev nD) (t : Fin cfg0.N) (r : Fin 384) (d : Fin 256) :
    (iblk m c 2 t : Vec Ideal S384x256 .f32) (ix2 r d) = (m ((c : Thread nD τ).loc main_arg2) : Vec Ideal S16512x256 .f32) (ix2 (row t r) d) := by
  have h := (index0 t).2.2.1
  unfold row
  blk_ext [iblk, V, h]

/-- The gate's matrix. -/
theorem w_apply (c : Dev nD) (t : Fin cfg0.N) (d : Fin 2048) (j : Fin 2048) :
    (iblk m c 3 t : Vec Ideal S2048x2048 .bf16) (ix2 d j) = (m ((c : Thread nD τ).loc main_arg3) : Vec Ideal S2048x2048 .f32) (ix2 d j) := by
  have h := (index0 t).2.2.2.1
  have e : (V m c main_v0 : Vec Ideal S2048x2048 .bf16) (ix2 d j) = (m ((c : Thread nD τ).loc main_arg3) : Vec Ideal S2048x2048 .f32) (ix2 d j) := by
    entry_read
    pointwise
  rw [← e]
  blk_ext [iblk, h]

/-- The embedding's matrix. -/
theorem wp_apply (c : Dev nD) (t : Fin cfg0.N) (d : Fin 256) (j : Fin 2048) :
    (iblk m c 4 t : Vec Ideal S256x2048 .bf16) (ix2 d j) = (m ((c : Thread nD τ).loc main_arg4) : Vec Ideal S256x2048 .f32) (ix2 d j) := by
  have h := (index0 t).2.2.2.2.1
  have e : (V m c main_v1 : Vec Ideal S256x2048 .bf16) (ix2 d j) = (m ((c : Thread nD τ).loc main_arg4) : Vec Ideal S256x2048 .f32) (ix2 d j) := by
    entry_read
    pointwise
  rw [← e]
  blk_ext [iblk, h]

/-- The final gain. -/
theorem gf_apply (c : Dev nD) (t : Fin cfg0.N) (d : Fin 2048) :
    (iblk m c 5 t : Vec Ideal S1x2048 .f32) (ix2 0 d) = (m ((c : Thread nD τ).loc main_arg5) : Vec Ideal S2048 .f32) (ix1 d) := by
  have h := (index0 t).2.2.2.2.2.1
  have e : (V m c main_v3 : Vec Ideal S1x2048 .f32) (ix2 0 d) = (m ((c : Thread nD τ).loc main_arg5) : Vec Ideal S2048 .f32) (ix1 d) := by
    entry_read
    pointwise
  rw [← e]
  blk_ext [iblk, h]

variable (c : Dev nD) (x : Vec Ideal S16512x2048 .f32) (g : Vec Ideal S2048 .f32) (p : Vec Ideal S16512x256 .f32) (w : Vec Ideal S2048x2048 .f32) (w' : Vec Ideal S256x2048 .f32) (gf : Vec Ideal S2048 .f32)
  (hx : m ((c : Thread nD τ).loc main_arg0) = x) (hg : m ((c : Thread nD τ).loc main_arg1) = g) (hp : m ((c : Thread nD τ).loc main_arg2) = p) (hw : m ((c : Thread nD τ).loc main_arg3) = w) (hw' : m ((c : Thread nD τ).loc main_arg4) = w') (hgf : m ((c : Thread nD τ).loc main_arg5) = gf)
include hx hg hp hw hw' hgf

/-- What a point stores. -/
theorem out_apply (t : Fin cfg0.N) (r : Fin 384) (j : Fin 2048) :
    out0_6 (F := Ideal) (iblk m c 0 t) (iblk m c 1 t) (iblk m c 2 t) (iblk m c 3 t) (iblk m c 4 t) (iblk m c 5 t) (ix2 r j) = last x g p w w' gf (row t r) j := by
  rw [out_eq, pay1_apply]
  simp only [pay3_apply, emb, x_apply m c t, g_apply m c t, p_apply m c t, w_apply m c t, wp_apply m c t, gf_apply m c t, hx, hg, hp, hw, hw', hgf]
  rfl

/-- The launch's result array, at every index, is the normalised embedding of the arguments. -/
theorem array : (dats m 0 c).arrAt 6 cfg0.N = (fun i => last x g p w w' gf (i 0) (i 1) : Vec Ideal S16512x2048 .f32) := by
  refine (dats m 0 c).arrAt_eq_of_covers 6 _ (by decide +kernel) fun t hf y => ?_
  have h := (index0 t).2.2.2.2.2.2
  blk_simp
  rw [after0_6]
  have e := out_apply m c x g p w w' gf hx hg hp hw hw' hgf t (y 0) (y 1)
  refine Eq.trans (congrArg (out0_6 (F := Ideal) (iblk m c 0 t) (iblk m c 1 t) (iblk m c 2 t) (iblk m c 3 t) (iblk m c 4 t) (iblk m c 5 t)) ?_) (e.trans ?_)
  · funext a; fin_cases a <;> rfl
  · refine congrArg₂ (last x g p w w' gf) (Fin.ext ?_) (Fin.ext ?_)
    · unfold row
      blk_simp [h]
      exact congrArg (· + _) (Nat.mul_comm _ _)
    · blk_simp [h]
end Cert.PleLast
-- ==== Proof.PleLastRef.lean ====
module
public import proofs.«01_k».proof.Proof.PleLastArray
public import proofs.«01_k».proof.Proof.Gen.Reference6Ideal.Read
@[expose] public section
set_option maxRecDepth 16384
noncomputable section
open Idealize.ShloMosaic Idealize.ShloMosaic.TcCoe Idealize.SL.Sem
namespace Cert.PleLastRef
open Cert.Reference6Ideal Cert.Reference6Ideal.Gen Cert.Reference6Ideal.Read Finset

variable (x : Vec Ideal S16512x2048 .f32) (g : Vec Ideal S2048 .f32) (p : Vec Ideal S16512x256 .f32) (w : Vec Ideal S2048x2048 .f32) (w' : Vec Ideal S256x2048 .f32) (gf : Vec Ideal S2048 .f32)

/-- The word of 1 reads as 1. -/
theorem one_word : Ideal.ofBits .f32 0x3F800000#32 = 1 := by
  simp [Ideal.ofBits, Ideal.ieee]
  rw [← EReal.coe_mul]
  norm_num

/-- The row sums of squares. -/
theorem v1_apply (n : Fin 16512) : val_main_v1 (F := Ideal) x (ix1 n) = ∑ k : Fin 2048, x (ix2 n k) * x (ix2 n k) := by
  rw [val_main_v1_apply]
  have hz : (val_main_cst (F := Ideal)) (Shape.Idx.first h_S_) = 0 := by rw [val_main_cst_apply]; simp [Ideal.ofBits, Ideal.ieee]
  rw [hz, zero_add]
  refine Finset.sum_congr rfl fun k _ => ?_
  rw [val_main_v0_apply]
  refine congrArg₂ (· * ·) (congrArg x ?_) (congrArg x ?_) <;> (funext a; fin_cases a <;> rfl)

/-- The reciprocal root of a row's mean square, at every entry of the row. -/
theorem v8_apply (n : Fin 16512) (d : Fin 2048) :
    val_main_v8 (F := Ideal) x (ix2 n d) = Ideal.rsqrt (Ideal.div (∑ k : Fin 2048, x (ix2 n k) * x (ix2 n k)) (Ideal.ofBits FTy.f32 0x45000000#32) + Ideal.ofBits FTy.f32 0x358637BD#32) := by
  rw [val_main_v8_apply, val_main_v7_apply, val_main_v6_apply, val_main_v4_apply, val_main_v2_apply, val_main_v5_apply, val_main_v3_apply, val_main_cst_0_apply, val_main_cst_1_apply, ← v1_apply]
  show Ideal.rsqrt (Ideal.div (val_main_v1 (F := Ideal) x _) _ + _) = _
  refine congrArg Ideal.rsqrt (congrArg₂ (· + ·) (congrArg₂ Ideal.div (congrArg _ ?_) rfl) rfl)
  funext a; fin_cases a; rfl

/-- The normalised rows. -/
theorem v12_apply (n : Fin 16512) (d : Fin 2048) : val_main_v12 (F := Ideal) x g (ix2 n d) = Ffn.rms x g n d := by
  rw [val_main_v12_apply, val_main_v9_apply, v8_apply, val_main_v11_apply, val_main_v10_apply]
  unfold Ffn.rms
  refine congrArg₂ (· * ·) rfl (congrArg g ?_)
  funext a; fin_cases a; rfl

/-- The gate's product. -/
theorem v13_apply (n : Fin 16512) (j : Fin 2048) : val_main_v13 (F := Ideal) x g w (ix2 n j) = ∑ d : Fin 2048, Ffn.rms x g n d * w (ix2 d j) := by
  rw [val_main_v13_apply]
  refine Finset.sum_congr rfl fun d _ => ?_
  rw [← v12_apply]
  refine congrArg₂ (· * ·) (congrArg _ ?_) (congrArg w ?_) <;> (funext a; fin_cases a <;> rfl)

/-- The gate. -/
theorem v19_apply (n : Fin 16512) (j : Fin 2048) : val_main_v19 (F := Ideal) x g w (ix2 n j) = Ideal.logistic (∑ d : Fin 2048, Ffn.rms x g n d * w (ix2 d j)) := by
  rw [val_main_v19_apply, val_main_v18_apply, val_main_v17_apply, val_main_v16_apply, val_main_v15_apply, val_main_v14_apply, v13_apply, val_main_cst_2_apply, val_main_cst_3_apply]
  show Ideal.div (Ideal.ofBits .f32 0x3F800000#32) (Ideal.ofBits .f32 0x3F800000#32 + Ideal.exp (-_)) = _
  rw [one_word]
  rfl

/-- The embedding's product. -/
theorem v20_apply (n : Fin 16512) (j : Fin 2048) : val_main_v20 (F := Ideal) p w' (ix2 n j) = ∑ q : Fin 256, p (ix2 n q) * w' (ix2 q j) := by
  rw [val_main_v20_apply]
  refine Finset.sum_congr rfl fun d _ => ?_
  refine congrArg₂ (· * ·) (congrArg p ?_) (congrArg w' ?_) <;> (funext a; fin_cases a <;> rfl)

/-- The rows before the final normalisation. -/
theorem v22_apply (n : Fin 16512) (j : Fin 2048) : val_main_v22 (F := Ideal) x g p w w' (ix2 n j) = Ple.ple x g p w w' n j := by
  rw [val_main_v22_apply, val_main_v21_apply, v19_apply, v20_apply]
  rfl

/-- The row sums of squares of the embedded rows. -/
theorem v24_apply (n : Fin 16512) : val_main_v24 (F := Ideal) x g p w w' (ix1 n) = ∑ k : Fin 2048, Ple.ple x g p w w' n k * Ple.ple x g p w w' n k := by
  rw [val_main_v24_apply]
  have hz : (val_main_cst_4 (F := Ideal)) (Shape.Idx.first h_S_) = 0 := by rw [val_main_cst_4_apply]; simp [Ideal.ofBits, Ideal.ieee]
  rw [hz, zero_add]
  refine Finset.sum_congr rfl fun k _ => ?_
  rw [val_main_v23_apply, ← v22_apply]
  refine congrArg₂ (· * ·) (congrArg _ ?_) (congrArg _ ?_) <;> (funext a; fin_cases a <;> rfl)

/-- The reciprocal root of an embedded row's mean square, at every entry of the row. -/
theorem v31_apply (n : Fin 16512) (d : Fin 2048) :
    val_main_v31 (F := Ideal) x g p w w' (ix2 n d) = Ideal.rsqrt (Ideal.div (∑ k : Fin 2048, Ple.ple x g p w w' n k * Ple.ple x g p w w' n k) (Ideal.ofBits FTy.f32 0x45000000#32) + Ideal.ofBits FTy.f32 0x358637BD#32) := by
  rw [val_main_v31_apply, val_main_v30_apply, val_main_v29_apply, val_main_v27_apply, val_main_v25_apply, val_main_v28_apply, val_main_v26_apply, val_main_cst_5_apply, val_main_cst_6_apply, ← v24_apply]
  show Ideal.rsqrt (Ideal.div (val_main_v24 (F := Ideal) x g p w w' _) _ + _) = _
  refine congrArg Ideal.rsqrt (congrArg₂ (· + ·) (congrArg₂ Ideal.div (congrArg _ ?_) rfl) rfl)
  funext a; fin_cases a; rfl

/-- The reference's result at an index is the normalised embedding of the arguments there. -/
theorem v35_apply (n : Fin 16512) (j : Fin 2048) : val_main_v35 (F := Ideal) x g p w w' gf (ix2 n j) = PleLast.last x g p w w' gf n j := by
  rw [val_main_v35_apply, val_main_v32_apply, v31_apply, v22_apply, val_main_v34_apply, val_main_v33_apply]
  unfold PleLast.last Ffn.rms
  refine congrArg₂ (· * ·) rfl (congrArg gf ?_)
  funext a; fin_cases a; rfl

end Cert.PleLastRef
-- ==== Proof.PleLastClaim.lean ====
module
public import proofs.«01_k».proof.Defs
public import proofs.«01_k».proof.Proof.PleLastRef
public import proofs.«01_k».proof.Proof.Gen.Reference6Ideal.Run
public import Idealize.ShloMosaic.Lib.Claim
@[expose] public section
noncomputable section
open Idealize.ShloMosaic Idealize.ShloMosaic.TcCoe Idealize.SL.Sem
namespace Cert.PleLastClaim

/-- The last layer's embedding reference's counters: it declares no semaphore. -/
theorem ref_sem (s : MemSt Cert.Reference6Ideal.nD Cert.Reference6Ideal.τ Cert.Reference6Ideal.sig (Elt Ideal)) : s.sem = fun _ => 0 :=
  funext fun s => match s with
    | (_, .reg k) => k.elim0
    | (_, .dma k) => k.elim0

/-- The last layer's embedding reference runs, keeps its arguments and ends quiescent. -/
theorem ref_frame : Cert.quiescent_Reference6Ideal := fun m g _ =>
  θ_run_mono (Cert.Reference6Ideal.Value.run m g) fun r h => ⟨fun c => (h c).2, ref_sem r.2⟩

/-- The last layer's embedding call and its reference compute the same array. -/
theorem algebraic : Cert.algebraic_Kernel6Ideal_Reference6Ideal := by
  intro m g m' g' hpre hagree
  refine ⟨fun c => (fun i => PleLast.last (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (i 0) (i 1) : Vec Ideal Cert.Kernel6Ideal.S16512x2048 .f32), ?_, ?_⟩
  · exact θ_run_mono (Cert.Kernel6Ideal.Value.run_blocks m g) fun r h c => ⟨(h c).1.trans (PleLast.array m c _ _ _ _ _ _ rfl rfl rfl rfl rfl rfl), (h c).2⟩
  · refine θ_run_mono (Cert.Reference6Ideal.Value.run m' g') fun r h c => ⟨(h c).1.trans ?_, (h c).2⟩
    rw [Cert.Reference6Ideal.Read.val_main_v35_eq, (hagree c).1, (hagree c).2.1, (hagree c).2.2.1, (hagree c).2.2.2.1, (hagree c).2.2.2.2.1, (hagree c).2.2.2.2.2]
    funext i
    exact (congrArg _ (by funext a; fin_cases a <;> rfl)).trans (PleLastRef.v35_apply _ _ _ _ _ _ (i 0) (i 1))

end Cert.PleLastClaim
-- ==== Proof.FoxRun.lean ====
module
public import proofs.«01_k».proof.Proof.Gen.Kernel7Ideal.Value
public import proofs.«01_k».proof.Proof.MlaArray
public import Idealize.ShloMosaic.Lib.Pointwise
@[expose] public section
noncomputable section
open Idealize.ShloMosaic Idealize.ShloMosaic.TcCoe Idealize.SL.Sem
open Idealize.ShloMosaic.Pipeline (Dat)
namespace Cert.Fox
open Cert.Kernel7Ideal Cert.Kernel7Ideal.Gen
variable {F : FTy → Type} [FloatOps F] [Named F]

/-- The grid point of sequence `b` and row block `j`. -/
def coordsOf (b : Fin 8) (j : Fin 16) : grid0.Coords := fun a => match a with
  | ⟨0, _⟩ => b
  | ⟨1, _⟩ => j

/-- The number of blocks of 256 keys a block of 128 rows reads: those up to its last row's own position. -/
theorem trips1 (i : grid0.Coords) : (k0_t1_loop i).trips = ((i 1).val * 128 + 127) / 256 + 1 := by
  have h : ∀ j : Fin 16, (k0_t1_loop (coordsOf 0 j)).trips = (j.val * 128 + 127) / 256 + 1 := by decide +kernel
  exact h (i 1)

/-- The remainder loop has no trip. -/
theorem trips2 (i : grid0.Coords) : (k0_t2_loop i).trips = 0 := by
  have h : ∀ j : Fin 16, (k0_t2_loop (coordsOf 0 j)).trips = 0 := by decide +kernel
  exact h (i 1)

/-- What the remainder loop's state holds before its first trip. -/
theorem st2_zero (𝒱 : Variants) (c : Dev nD) (bd : Option 𝒱.V) (i : grid0.Coords) (arg2 : Memref sig .tc .vmem S128x512 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S8x2048 .f32) (harg5 : arg5.IsWhole) (arg6 : Memref sig .tc .vmem S128x512 .bf16) (harg6 : arg6.IsWhole) (v13 : FVec F S1024x64 .bf16) (v23 : FVec F S1024x1 .f32) (v26 v27 : IVec S128x256 32) (v55 : BitVec 32) (X : BufTy.Contents (Elt F) arg3.view.ty) (Y : BufTy.Contents (Elt F) arg5.view.ty) (init : FVec F S1024x1 .f32 × FVec F S1024x1 .f32 × FVec F S1024x64 .f32) (n : ℕ) (hn : n = 0) :
    st_k0_t2 𝒱 c bd i arg2 harg2 arg3 harg3 arg4 harg4 arg5 harg5 arg6 harg6 v13 v23 v26 v27 v55 X Y init n = init := by subst hn; rfl

/-- The positions of a block's lanes, as words. -/
abbrev lanes : IVec S128x256 32 := iota .tc S128x256 32 [1] iota_S128x256_d1_w32

/-- The loop's state before trip `n`. -/
def st (c : Dev nD) (i : grid0.Coords) (arg2 : Memref sig .tc .vmem S128x512 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S8x2048 .f32) (harg5 : arg5.IsWhole) (arg6 : Memref sig .tc .vmem S128x512 .bf16) (harg6 : arg6.IsWhole) (x0 : Vec F S128x512 .f32) (x1 : Vec F S2048x128 .f32) (x2 : Vec F S128x128 .f32) (x3 : Vec F S8x2048 .f32) (n : ℕ) : FVec F S1024x1 .f32 × FVec F S1024x1 .f32 × FVec F S1024x64 .f32 :=
  st_k0_t1 Variants.none c none i arg2 harg2 arg3 harg3 arg4 harg4 arg5 harg5 arg6 harg6 (k0_pay35 x0) (k0_pay36 x2) (k0_pay37 i) lanes (harg3.unread x1) (harg5.unread x3) (k0_pay1, k0_pay2, k0_pay3) n

/-- What a grid point stores: the output block as a function of the loop's last state. -/
theorem out_A (c : Dev nD) (i : grid0.Coords) (arg2 : Memref sig .tc .vmem S128x512 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S8x2048 .f32) (harg5 : arg5.IsWhole) (arg6 : Memref sig .tc .vmem S128x512 .bf16) (harg6 : arg6.IsWhole)
    (x0 : Vec F S128x512 .f32) (x1 : Vec F S2048x128 .f32) (x2 : Vec F S128x128 .f32) (x3 : Vec F S8x2048 .f32) :
    out0_A_4 c i arg2 harg2 arg3 harg3 arg4 harg4 arg5 harg5 arg6 harg6 x0 x1 x2 x3 = k0_pay16 (st c i arg2 harg2 arg3 harg3 arg4 harg4 arg5 harg5 arg6 harg6 x0 x1 x2 x3 (k0_t1_loop i).trips).2.1 (st c i arg2 harg2 arg3 harg3 arg4 harg4 arg5 harg5 arg6 harg6 x0 x1 x2 x3 (k0_t1_loop i).trips).2.2 := by
  unfold out0_A_4
  rw [View.read_writes_eq_canon _ _ _ (cover0_A_4 c i arg2 harg2 arg3 harg3 arg4 harg4 arg5 harg5 arg6 harg6 x0 x1 x2 x3)]
  unfold kernelRun0_A
  dsimp only
  sl_unfold_words
  rw [View.canon_unit_zero Mla.hz]
  simp only [View.readAt_eq_ld, harg2.read_unread, harg3.read_unread, harg4.read_unread, harg5.read_unread, View.ld_unit_zero (S := S128x512) Mla.hz, View.ld_unit_zero (S := S128x128) Mla.hz, shapeCast_self]
  rw [st2_zero _ _ _ _ _ _ _ _ _ _ _ _ _ _ _ _ _ _ _ _ _ _ _ (trips2 i)]
  dsimp only
  unfold st
  rfl

/-- The block of 256 key and value rows that trip `k` loads. -/
def kvBlock (i : grid0.Coords) (x1 : Vec F S2048x128 .f32) (k : Fin (k0_t1_loop i).trips) : Vec F S256x128 .f32 :=
  View.ld x1 (Rect.unit (s := S2048x128) (k0_off1 i k) S256x128.size (k0_off1_inb i k))

/-- The block of 256 columns of the keys' running log gates that trip `k` loads. -/
def ckBlock (i : grid0.Coords) (x3 : Vec F S8x2048 .f32) (k : Fin (k0_t1_loop i).trips) : Vec F S8x256 .f32 :=
  View.ld x3 (Rect.unit (s := S8x2048) (k0_off2 i k) S8x256.size (k0_off2_inb i k))

/-- The masked scores of trip `k`, gates included. -/
def scores (i : grid0.Coords) (Q : FVec F S1024x64 .bf16) (C : FVec F S1024x1 .f32) (T P : IVec S128x256 32) (k : Fin (k0_t1_loop i).trips) (kv : Vec F S256x128 .f32) (ck : Vec F S8x256 .f32) : FVec F S1024x256 .f32 :=
  k0_pay4 C (k0_pay17 Q kv) ck (k0_pay18 i T P 0#32 1#32 k) (k0_pay19 i Q T P 0#32 1#32 k kv ck) (k0_pay20 i Q T P 0#32 1#32 k kv ck) (k0_pay21 i Q T P 0#32 1#32 k kv ck) (k0_pay22 i Q T P 0#32 1#32 k kv ck) (k0_pay23 i Q T P 0#32 1#32 k kv ck) (k0_pay24 i Q T P 0#32 1#32 k kv ck) (k0_pay25 Q kv)

/-- The running maximum after trip `k`. -/
def newMax (i : grid0.Coords) (Q : FVec F S1024x64 .bf16) (C : FVec F S1024x1 .f32) (T P : IVec S128x256 32) (k : Fin (k0_t1_loop i).trips) (kv : Vec F S256x128 .f32) (ck : Vec F S8x256 .f32) (a : FVec F S1024x1 .f32) : FVec F S1024x1 .f32 :=
  k0_pay5 C a (k0_pay17 Q kv) ck (k0_pay18 i T P 0#32 1#32 k) (k0_pay19 i Q T P 0#32 1#32 k kv ck) (k0_pay20 i Q T P 0#32 1#32 k kv ck) (k0_pay21 i Q T P 0#32 1#32 k kv ck) (k0_pay22 i Q T P 0#32 1#32 k kv ck) (k0_pay23 i Q T P 0#32 1#32 k kv ck) (k0_pay24 i Q T P 0#32 1#32 k kv ck) (k0_pay25 Q kv)

/-- The running total after trip `k`. -/
def newSum (i : grid0.Coords) (Q : FVec F S1024x64 .bf16) (C : FVec F S1024x1 .f32) (T P : IVec S128x256 32) (k : Fin (k0_t1_loop i).trips) (kv : Vec F S256x128 .f32) (ck : Vec F S8x256 .f32) (a b : FVec F S1024x1 .f32) : FVec F S1024x1 .f32 :=
  k0_pay8 C a b (k0_pay17 Q kv) ck (k0_pay18 i T P 0#32 1#32 k) (k0_pay19 i Q T P 0#32 1#32 k kv ck) (k0_pay20 i Q T P 0#32 1#32 k kv ck) (k0_pay21 i Q T P 0#32 1#32 k kv ck) (k0_pay22 i Q T P 0#32 1#32 k kv ck) (k0_pay23 i Q T P 0#32 1#32 k kv ck) (k0_pay24 i Q T P 0#32 1#32 k kv ck) (k0_pay25 Q kv)

/-- The running weighted sum after trip `k`. -/
def newAcc (i : grid0.Coords) (Q : FVec F S1024x64 .bf16) (C : FVec F S1024x1 .f32) (T P : IVec S128x256 32) (k : Fin (k0_t1_loop i).trips) (kv : Vec F S256x128 .f32) (ck : Vec F S8x256 .f32) (a : FVec F S1024x1 .f32) (b : FVec F S1024x64 .f32) : FVec F S1024x64 .f32 :=
  k0_pay9 C a b kv (k0_pay17 Q kv) ck (k0_pay18 i T P 0#32 1#32 k) (k0_pay19 i Q T P 0#32 1#32 k kv ck) (k0_pay20 i Q T P 0#32 1#32 k kv ck) (k0_pay21 i Q T P 0#32 1#32 k kv ck) (k0_pay22 i Q T P 0#32 1#32 k kv ck) (k0_pay23 i Q T P 0#32 1#32 k kv ck) (k0_pay24 i Q T P 0#32 1#32 k kv ck) (k0_pay25 Q kv)

/-- One trip of the loop over key blocks, as a step of the state. -/
theorem trip (𝒱 : Variants) (c : Dev nD) (bd : Option 𝒱.V) (i : grid0.Coords) (arg2 : Memref sig .tc .vmem S128x512 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S8x2048 .f32) (harg5 : arg5.IsWhole) (arg6 : Memref sig .tc .vmem S128x512 .bf16) (harg6 : arg6.IsWhole) (Q : FVec F S1024x64 .bf16) (C : FVec F S1024x1 .f32) (T P : IVec S128x256 32) (x1 : Vec F S2048x128 .f32) (x3 : Vec F S8x2048 .f32) (k : Fin (k0_t1_loop i).trips) (a : FVec F S1024x1 .f32 × FVec F S1024x1 .f32 × FVec F S1024x64 .f32) :
   tripR_k0_t1 𝒱 c bd i arg2 harg2 arg3 harg3 arg4 harg4 arg5 harg5 arg6 harg6 Q C T P (harg3.unread x1) (harg5.unread x3) k a =
    (newMax i Q C T P k (kvBlock i x1 k) (ckBlock i x3 k) a.1, newSum i Q C T P k (kvBlock i x1 k) (ckBlock i x3 k) a.1 a.2.1, newAcc i Q C T P k (kvBlock i x1 k) (ckBlock i x3 k) a.1 a.2.2) := by
  unfold tripR_k0_t1 trip_k0_t1
  dsimp only
  sl_unfold_words
  simp only [View.readAt_eq_ld, harg3.read_unread, harg5.read_unread]
  rfl
end Cert.Fox
-- ==== Proof.FoxRow.lean ====
module
public import proofs.«01_k».proof.Proof.FoxRun
public import proofs.«01_k».proof.Proof.SoftmaxSum
@[expose] public section
set_option maxRecDepth 16384
noncomputable section
open Idealize.ShloMosaic Idealize.ShloMosaic.TcCoe Idealize.SL.Sem
namespace Cert.Fox
open Cert.Kernel7Ideal Cert.Kernel7Ideal.Gen Cert.SoftmaxSum Finset

/-- The scale of the scores, one eighth. -/
def scale : EReal := Ideal.ofBits .f32 0x3E000000#32

set_option maxHeartbeats 4000000 in
/-- The stacked queries: row `r` is head `r / 128` of the block's row `r % 128`, scaled. -/
theorem pay35_apply (x0 : Vec Ideal S128x512 .f32) (r : Fin 1024) (c : Fin 64) :
    k0_pay35 (F := Ideal) x0 (ix2 r c) = x0 (ix2 ⟨r.val % 128, by omega⟩ ⟨64 * (r.val / 128) + c.val, by omega⟩) * scale := by
  pointwise [k0_pay35]
  unfold scale
  split_ifs <;> exact congrArg (· * _) (congrArg x0 (congrArg₂ ix2 (Fin.ext (by simp only []; omega)) (Fin.ext (by simp only []; omega))))

set_option maxHeartbeats 4000000 in
/-- The stacked running log gates of the rows: row `r` is column `r / 128` of the block's row `r % 128`. -/
theorem pay36_apply (x2 : Vec Ideal S128x128 .f32) (r : Fin 1024) :
    k0_pay36 (F := Ideal) x2 (ix2 r 0) = x2 (ix2 ⟨r.val % 128, by omega⟩ ⟨r.val / 128, by omega⟩) := by
  pointwise [k0_pay36]
  split_ifs <;> exact congrArg x2 (congrArg₂ ix2 (Fin.ext (by first | rfl | omega | (simp only [Fin.val_zero]; omega) | (simp only [Fin.val_one]; omega) | (simp only []; omega))) (Fin.ext (by first | rfl | omega | (simp only [Fin.val_zero]; omega) | (simp only [Fin.val_one]; omega) | (simp only []; omega))))

/-- The positions of the block's rows, as words. -/
theorem pay37_apply (i : grid0.Coords) (t : Fin 128) (q : Fin 256) :
    k0_pay37 i (ix2 t q) = IntOp.addi (Scalar.muli (BitVec.ofNat 32 ↑(i 1)) 128#32) (BitVec.ofNat 32 ↑t) := by
  pointwise [k0_pay37]

/-- The lane numbers, as words. -/
theorem lane_apply (t : Fin 128) (q : Fin 256) : lanes (ix2 t q) = BitVec.ofNat 32 q.val := by
  unfold lanes
  pointwise

/-- The products of the stacked queries with a key block. -/
theorem pay17_apply (Q : FVec Ideal S1024x64 .bf16) (kv : Vec Ideal S256x128 .f32) (r : Fin 1024) (q : Fin 256) :
    k0_pay17 (F := Ideal) Q kv (ix2 r q) = ∑ c : Fin 64, Q (ix2 r c) * kv (ix2 q ⟨c.val, by omega⟩) := by
  pointwise [k0_pay17]

/-- There are at most eight trips. -/
theorem trip_lt (i : grid0.Coords) (k : Fin (k0_t1_loop i).trips) : k.val < 8 := by
  have h1 := k.isLt
  have h : (i 1).val < 16 := (i 1).isLt
  have h2 := trips1 i
  omega

/-- The mask of trip `k`. -/
theorem pay18_apply (i : grid0.Coords) (k : Fin (k0_t1_loop i).trips) (t : Fin 128) (q : Fin 256) :
    k0_pay18 i (k0_pay37 i) lanes 0#32 1#32 k (ix2 t q) = if 256 * k.val + q.val ≤ 128 * (i 1).val + t.val then 1#1 else 0#1 := by
  rw [← Mla.mask_word _ _ _ _ (i 1).isLt (trip_lt i k) q.isLt t.isLt, ← pay37_apply i t q, ← lane_apply t q]
  generalize k0_pay37 i = T
  generalize lanes = P
  pointwise [k0_pay18]

set_option maxHeartbeats 4000000 in
/-- The masked scores, from the products and the mask. -/
theorem scores_raw (i : grid0.Coords) (Q : FVec Ideal S1024x64 .bf16) (C : FVec Ideal S1024x1 .f32) (T P : IVec S128x256 32) (k : Fin (k0_t1_loop i).trips) (kv : Vec Ideal S256x128 .f32) (ck : Vec Ideal S8x256 .f32) (r : Fin 1024) (q : Fin 256) :
    scores i Q C T P k kv ck (ix2 r q) = Scalar.select (k0_pay18 i T P 0#32 1#32 k (ix2 ⟨r.val % 128, by omega⟩ q)) (k0_pay17 (F := Ideal) Q kv (ix2 r q) - ck (ix2 ⟨r.val / 128, by omega⟩ q)) (⊥ : EReal) + C (ix2 r 0) := by
  unfold scores k0_pay19 k0_pay20 k0_pay21 k0_pay22 k0_pay23 k0_pay24 k0_pay25
  generalize k0_pay17 (F := Ideal) Q kv = S
  generalize k0_pay18 i T P 0#32 1#32 k = M
  have hb : (Named.named Cert.Kernel7Ideal.κ "mask" 0xF149F2CA#32 : Ideal .f32) = (⊥ : EReal) := IdealRules.named_const.ideal_named_scalar _ _ _ _ rfl
  rw [← hb]
  pointwise [k0_pay4]
  have key : ∀ (t t' : Fin 128) (a a' : Fin 1024) (h h' : Fin 8) (n : EReal), t = t' → a = a' → h = h' → Scalar.select (M (ix2 t q)) (S (ix2 a q) - ck (ix2 h q)) n = Scalar.select (M (ix2 t' q)) (S (ix2 a' q) - ck (ix2 h' q)) n := by
    rintro _ _ _ _ _ _ _ rfl rfl rfl; rfl
  refine congrArg (· + C (ix2 r 0)) ?_
  split_ifs <;> exact key _ _ _ _ _ _ _ (Fin.ext (by first | rfl | omega | (simp only [Fin.val_zero]; omega) | (simp only [Fin.val_one]; omega) | (simp only []; omega))) (Fin.ext (by first | rfl | omega | (simp only [Fin.val_zero]; omega) | (simp only [Fin.val_one]; omega) | (simp only []; omega))) (Fin.ext (by first | rfl | omega | (simp only [Fin.val_zero]; omega) | (simp only [Fin.val_one]; omega) | (simp only []; omega)))

/-- The position in its sequence of the block's stacked row `r`. -/
def pos (i : grid0.Coords) (r : Fin 1024) : ℕ := 128 * (i 1).val + r.val % 128

/-- A row's position lies in the sequence. -/
theorem pos_lt (i : grid0.Coords) (r : Fin 1024) : pos i r < 2048 := by
  have h : (i 1).val < 16 := (i 1).isLt
  unfold pos; omega

/-- The causal score of stacked row `r` against key `l`: the scaled product of the query with the key, less the key's running log gate and plus the row's, −∞ past the row's own position. -/
def score (i : grid0.Coords) (x0 : Vec Ideal S128x512 .f32) (x1 : Vec Ideal S2048x128 .f32) (x2 : Vec Ideal S128x128 .f32) (x3 : Vec Ideal S8x2048 .f32) (r : Fin 1024) (l : ℕ) : EReal :=
  if h : l ≤ pos i r then (∑ c : Fin 64, x0 (ix2 ⟨r.val % 128, by omega⟩ ⟨64 * (r.val / 128) + c.val, by omega⟩) * scale * x1 (ix2 ⟨l, lt_of_le_of_lt h (pos_lt i r)⟩ ⟨c.val, by omega⟩)) - x3 (ix2 ⟨r.val / 128, by omega⟩ ⟨l, lt_of_le_of_lt h (pos_lt i r)⟩) + x2 (ix2 ⟨r.val % 128, by omega⟩ ⟨r.val / 128, by omega⟩)
  else ⊥

/-- Column `d` of value row `l`. -/
def value (x1 : Vec Ideal S2048x128 .f32) (d : Fin 64) (l : ℕ) : EReal :=
  if h : l < 2048 then x1 (ix2 ⟨l, h⟩ ⟨64 + d.val, by omega⟩) else 0

/-- The block that trip `k` loads holds key and value rows `256 k …`. -/
theorem kvBlock_apply (i : grid0.Coords) (x1 : Vec Ideal S2048x128 .f32) (k : Fin (k0_t1_loop i).trips) (q : Fin 256) (c : Fin 128) :
    kvBlock i x1 k (ix2 q c) = x1 (ix2 ⟨256 * k.val + q.val, by have := trip_lt i k; omega⟩ c) := by
  unfold kvBlock
  pointwise
  have h := k0_off1_eq i k
  exact congrArg x1 (congrArg₂ ix2 (Fin.ext (by simp only []; rw [h]; rfl)) (Fin.ext (by simp only []; rw [h]; exact Nat.zero_add _)))

/-- The block that trip `k` loads holds columns `256 k …` of the keys' running log gates. -/
theorem ckBlock_apply (i : grid0.Coords) (x3 : Vec Ideal S8x2048 .f32) (k : Fin (k0_t1_loop i).trips) (h : Fin 8) (q : Fin 256) :
    ckBlock i x3 k (ix2 h q) = x3 (ix2 h ⟨256 * k.val + q.val, by have := trip_lt i k; omega⟩) := by
  unfold ckBlock
  pointwise
  have e := k0_off2_eq i k
  exact congrArg x3 (congrArg₂ ix2 (Fin.ext (by simp only []; rw [e]; exact Nat.zero_add _)) (Fin.ext (by simp only []; rw [e]; rfl)))

/-- The masked scores of trip `k`. -/
theorem scores_apply (i : grid0.Coords) (x0 : Vec Ideal S128x512 .f32) (x1 : Vec Ideal S2048x128 .f32) (x2 : Vec Ideal S128x128 .f32) (x3 : Vec Ideal S8x2048 .f32) (k : Fin (k0_t1_loop i).trips) (r : Fin 1024) (q : Fin 256) :
    scores i (k0_pay35 x0) (k0_pay36 x2) (k0_pay37 i) lanes k (kvBlock i x1 k) (ckBlock i x3 k) (ix2 r q) = score i x0 x1 x2 x3 r (256 * k.val + q.val) := by
  rw [scores_raw, pay18_apply, pay17_apply, pay36_apply, ckBlock_apply]
  unfold score pos
  by_cases h : 256 * k.val + q.val ≤ 128 * (i 1).val + r.val % 128
  · rw [if_pos h, dif_pos h, Mla.sel_one]
    simp only [pay35_apply, kvBlock_apply]
  · rw [if_neg h, dif_neg h, Mla.sel_zero]
    exact EReal.bot_add _

/-- The running maximum after trip `k`, from the trip's scores `s`. -/
theorem newMax_apply (i : grid0.Coords) (Q : FVec Ideal S1024x64 .bf16) (C : FVec Ideal S1024x1 .f32) (T P : IVec S128x256 32) (k : Fin (k0_t1_loop i).trips) (kv : Vec Ideal S256x128 .f32) (ck : Vec Ideal S8x256 .f32) (a : FVec Ideal S1024x1 .f32) (r : Fin 1024)
    (s : Fin 256 → EReal) (hp : ∀ x, scores i Q C T P k kv ck (ix2 r x) = s x) :
    newMax i Q C T P k kv ck a (ix2 r 0) = max (a (ix2 r 0)) (Finset.univ.fold max ⊥ s) := by
  rw [← Mla.ninf, ← funext hp]
  unfold newMax scores
  pointwise [k0_pay5]

/-- The running total after trip `k`, from the trip's scores `s` and the new maximum `M`. -/
theorem newSum_apply (i : grid0.Coords) (Q : FVec Ideal S1024x64 .bf16) (C : FVec Ideal S1024x1 .f32) (T P : IVec S128x256 32) (k : Fin (k0_t1_loop i).trips) (kv : Vec Ideal S256x128 .f32) (ck : Vec Ideal S8x256 .f32) (a b : FVec Ideal S1024x1 .f32) (r : Fin 1024)
    (s : Fin 256 → EReal) (hp : ∀ x, scores i Q C T P k kv ck (ix2 r x) = s x) (M : EReal) (hM : newMax i Q C T P k kv ck a (ix2 r 0) = M) :
    newSum i Q C T P k kv ck a b (ix2 r 0) = Ideal.exp (a (ix2 r 0) - M) * b (ix2 r 0) + ∑ x, Ideal.exp (s x - M) := by
  rw [← hM, ← funext hp]
  unfold newMax newSum scores
  pointwise [k0_pay8, k0_pay7, k0_pay6]

/-- The running weighted sum after trip `k`, from the trip's scores `s`, the new maximum `M` and the column `v` of the trip's value rows. -/
theorem newAcc_apply (i : grid0.Coords) (Q : FVec Ideal S1024x64 .bf16) (C : FVec Ideal S1024x1 .f32) (T P : IVec S128x256 32) (k : Fin (k0_t1_loop i).trips) (kv : Vec Ideal S256x128 .f32) (ck : Vec Ideal S8x256 .f32) (a : FVec Ideal S1024x1 .f32) (b : FVec Ideal S1024x64 .f32) (r : Fin 1024) (d : Fin 64)
    (s : Fin 256 → EReal) (hp : ∀ x, scores i Q C T P k kv ck (ix2 r x) = s x) (M : EReal) (hM : newMax i Q C T P k kv ck a (ix2 r 0) = M)
    (v : Fin 256 → EReal) (hv : ∀ x : Fin 256, kv (ix2 x ⟨64 + d.val, by omega⟩) = v x) :
    newAcc i Q C T P k kv ck a b (ix2 r d) = Ideal.exp (a (ix2 r 0) - M) * b (ix2 r d) + ∑ x : Fin 256, Ideal.exp (s x - M) * v x := by
  rw [← hM, ← funext hp, ← funext hv]
  unfold newMax newAcc scores
  pointwise [k0_pay9, k0_pay7, k0_pay6]

/-- One trip of the loop, on its state. -/
theorem st_succ (c : Dev nD) (i : grid0.Coords) (arg2 : Memref sig .tc .vmem S128x512 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S8x2048 .f32) (harg5 : arg5.IsWhole) (arg6 : Memref sig .tc .vmem S128x512 .bf16) (harg6 : arg6.IsWhole) (x0 : Vec Ideal S128x512 .f32) (x1 : Vec Ideal S2048x128 .f32) (x2 : Vec Ideal S128x128 .f32) (x3 : Vec Ideal S8x2048 .f32) (k : Fin (k0_t1_loop i).trips) :
    st c i arg2 harg2 arg3 harg3 arg4 harg4 arg5 harg5 arg6 harg6 x0 x1 x2 x3 (k.val + 1) = (newMax i (k0_pay35 x0) (k0_pay36 x2) (k0_pay37 i) lanes k (kvBlock i x1 k) (ckBlock i x3 k) (st c i arg2 harg2 arg3 harg3 arg4 harg4 arg5 harg5 arg6 harg6 x0 x1 x2 x3 k.val).1,
      newSum i (k0_pay35 x0) (k0_pay36 x2) (k0_pay37 i) lanes k (kvBlock i x1 k) (ckBlock i x3 k) (st c i arg2 harg2 arg3 harg3 arg4 harg4 arg5 harg5 arg6 harg6 x0 x1 x2 x3 k.val).1 (st c i arg2 harg2 arg3 harg3 arg4 harg4 arg5 harg5 arg6 harg6 x0 x1 x2 x3 k.val).2.1,
      newAcc i (k0_pay35 x0) (k0_pay36 x2) (k0_pay37 i) lanes k (kvBlock i x1 k) (ckBlock i x3 k) (st c i arg2 harg2 arg3 harg3 arg4 harg4 arg5 harg5 arg6 harg6 x0 x1 x2 x3 k.val).1 (st c i arg2 harg2 arg3 harg3 arg4 harg4 arg5 harg5 arg6 harg6 x0 x1 x2 x3 k.val).2.2) := by
  unfold st
  rw [st_k0_t1_succ, trip]

/-- Before trip `n` the loop carries, in row `r`, the greatest score of the first `256 n` keys, the total of their weights and the weighted sums of their values. -/
theorem state_apply (c : Dev nD) (i : grid0.Coords) (arg2 : Memref sig .tc .vmem S128x512 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S8x2048 .f32) (harg5 : arg5.IsWhole) (arg6 : Memref sig .tc .vmem S128x512 .bf16) (harg6 : arg6.IsWhole) (x0 : Vec Ideal S128x512 .f32) (x1 : Vec Ideal S2048x128 .f32) (x2 : Vec Ideal S128x128 .f32) (x3 : Vec Ideal S8x2048 .f32)
    (r : Fin 1024) (hs : ∀ l, score i x0 x1 x2 x3 r l ≠ ⊤) (h0 : score i x0 x1 x2 x3 r 0 ≠ ⊥) (n : ℕ) (hn : n ≤ (k0_t1_loop i).trips) :
    (st c i arg2 harg2 arg3 harg3 arg4 harg4 arg5 harg5 arg6 harg6 x0 x1 x2 x3 n).1 (ix2 r 0) = (range (256 * n)).sup (score i x0 x1 x2 x3 r)
    ∧ (st c i arg2 harg2 arg3 harg3 arg4 harg4 arg5 harg5 arg6 harg6 x0 x1 x2 x3 n).2.1 (ix2 r 0) = ∑ l ∈ range (256 * n), wt (score i x0 x1 x2 x3 r) (256 * n) l
    ∧ ∀ d : Fin 64, (st c i arg2 harg2 arg3 harg3 arg4 harg4 arg5 harg5 arg6 harg6 x0 x1 x2 x3 n).2.2 (ix2 r d) = ∑ l ∈ range (256 * n), wt (score i x0 x1 x2 x3 r) (256 * n) l * value x1 d l := by
  induction n with
  | zero =>
    unfold st
    rw [st_k0_t1_zero]
    refine ⟨?_, ?_, fun d => ?_⟩
    · exact IdealRules.named_const.ideal_named_scalar _ _ _ _ rfl
    · simp only [Nat.mul_zero, range_zero, sum_empty]
      pointwise [k0_pay2]
    · simp only [Nat.mul_zero, range_zero, sum_empty]
      pointwise [k0_pay3]
  | succ n ih =>
    obtain ⟨h1, h2, h3⟩ := ih (by omega)
    have e := st_succ c i arg2 harg2 arg3 harg3 arg4 harg4 arg5 harg5 arg6 harg6 x0 x1 x2 x3 ⟨n, hn⟩
    dsimp only at e
    have hp : ∀ x : Fin 256, scores i (k0_pay35 x0) (k0_pay36 x2) (k0_pay37 i) lanes ⟨n, hn⟩ (kvBlock i x1 ⟨n, hn⟩) (ckBlock i x3 ⟨n, hn⟩) (ix2 r x) = score i x0 x1 x2 x3 r (256 * n + x.val) :=
      scores_apply i x0 x1 x2 x3 ⟨n, hn⟩ r
    have hM := newMax_apply i (k0_pay35 x0) (k0_pay36 x2) (k0_pay37 i) lanes ⟨n, hn⟩ (kvBlock i x1 ⟨n, hn⟩) (ckBlock i x3 ⟨n, hn⟩) (st c i arg2 harg2 arg3 harg3 arg4 harg4 arg5 harg5 arg6 harg6 x0 x1 x2 x3 n).1 r _ hp
    rw [h1, ← sup_block] at hM
    rw [e]
    refine ⟨hM, ?_, fun d => ?_⟩
    · rw [← step_one _ hs h0, ← h1, ← h2]
      exact newSum_apply _ _ _ _ _ _ _ _ _ _ _ _ hp _ hM
    · rw [← step _ _ hs h0, ← h1, ← h3]
      exact newAcc_apply _ _ _ _ _ _ _ _ _ _ _ _ _ hp _ hM _ (fun x => by rw [kvBlock_apply, value, dif_pos])
end Cert.Fox
-- ==== Proof.FoxArray.lean ====
module
public import proofs.«01_k».proof.Proof.FoxRow
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
namespace Cert.Fox
open Cert.Kernel7Ideal Cert.Kernel7Ideal.Gen Cert.SoftmaxSum Finset

variable (m : (ℓ : Loc nD τ sig) → Buf (Elt Ideal) ℓ)

/-- The blocks of the five windows at every point, and the point's row block. -/
theorem index0 : ∀ t : Fin cfg0.N, win0_0.index t = ![t.val, 5] ∧ win0_1.index t = ![t.val / 16, 33] ∧ win0_2.index t = ![t.val, 0] ∧ win0_3.index t = ![t.val / 16, 0] ∧ win0_4.index t = ![t.val, 0] ∧ (grid0.coords t 1).val = t.val % 16 := by
  decide +kernel

/-- The query block of point `t` is rows `128 t …` of the queries' columns. -/
theorem q_apply (c : Dev nD) (t : Fin cfg0.N) (y : Fin 128) (z : Fin 512) :
    (X0_0 m c t : Vec Ideal S128x512 .f32) (ix2 y z) = (m ((c : Thread nD τ).loc main_arg0) : Vec Ideal S16512x4480 .f32) (ix2 ⟨128 * t.val + y.val, by have h : t.val < 128 := t.isLt; omega⟩ ⟨2560 + z.val, by omega⟩) := by
  have h := (index0 t).1
  unfold X0_0 Pipeline.Window.fill
  rw [dif_pos (moved0_0 t _)]
  blk_ext [iblk, V, h]

/-- The key and value block of point `t` is the rows of sequence `t / 16` of their columns. -/
theorem kv_apply (c : Dev nD) (t : Fin cfg0.N) (y : Fin 2048) (z : Fin 128) :
    (X0_1 m c t : Vec Ideal S2048x128 .f32) (ix2 y z) = (m ((c : Thread nD τ).loc main_arg0) : Vec Ideal S16512x4480 .f32) (ix2 ⟨2048 * (t.val / 16) + y.val, by have h : t.val < 128 := t.isLt; omega⟩ ⟨4224 + z.val, by omega⟩) := by
  have h := (index0 t).2.1
  unfold X0_1 Pipeline.Window.fill
  rw [dif_pos (moved0_1 t _)]
  blk_ext [iblk, V, h]

/-- The block of the rows' running log gates of point `t`. -/
theorem cc_apply (c : Dev nD) (t : Fin cfg0.N) (y : Fin 128) (z : Fin 128) :
    (iblk m c 2 t : Vec Ideal S128x128 .f32) (ix2 y z) = (m ((c : Thread nD τ).loc main_arg1) : Vec Ideal S16384x128 .f32) (ix2 ⟨128 * t.val + y.val, by have h : t.val < 128 := t.isLt; omega⟩ z) := by
  have h := (index0 t).2.2.1
  blk_ext [iblk, V, h]

/-- The block of the keys' running log gates of point `t`. -/
theorem cr_apply (c : Dev nD) (t : Fin cfg0.N) (y : Fin 8) (z : Fin 2048) :
    (iblk m c 3 t : Vec Ideal S8x2048 .f32) (ix2 y z) = (m ((c : Thread nD τ).loc main_arg2) : Vec Ideal S64x2048 .f32) (ix2 ⟨8 * (t.val / 16) + y.val, by have h : t.val < 128 := t.isLt; omega⟩ z) := by
  have h := (index0 t).2.2.2.1
  blk_ext [iblk, V, h]

set_option maxHeartbeats 4000000 in
/-- The block's result from the loop's last state: the quotients, head beside head. -/
theorem pay16_apply (l : FVec Ideal S1024x1 .f32) (b : FVec Ideal S1024x64 .f32) (t : Fin 128) (j : Fin 512) :
    k0_pay16 (F := Ideal) l b (ix2 t j) = Ideal.div (b (ix2 ⟨128 * (j.val / 64) + t.val, by omega⟩ ⟨j.val % 64, by omega⟩)) (l (ix2 ⟨128 * (j.val / 64) + t.val, by omega⟩ 0)) := by
  pointwise [k0_pay16]
  have key : ∀ (a a' : Fin 1024) (d d' : Fin 64), a = a' → d = d' → Ideal.div (b (ix2 a d)) (l (ix2 a 0)) = Ideal.div (b (ix2 a' d')) (l (ix2 a' 0)) := by
    rintro _ _ _ _ rfl rfl; rfl
  split_ifs <;> exact key _ _ _ _ (Fin.ext (by simp only []; omega)) (Fin.ext (by simp only []; omega))

/-- The score of row `n` and head `h` against key `l` of its sequence: the scaled product of the query with the key, less the key's running log gate and plus the row's, −∞ for a later key. -/
def scoreOf (z : Vec Ideal S16512x4480 .f32) (cc : Vec Ideal S16384x128 .f32) (cr : Vec Ideal S64x2048 .f32) (n : Fin 16384) (h : Fin 8) (l : ℕ) : EReal :=
  if hl : l ≤ n.val % 2048 then (∑ c : Fin 64, z (ix2 ⟨n.val, by omega⟩ ⟨2560 + (64 * h.val + c.val), by omega⟩) * scale * z (ix2 ⟨2048 * (n.val / 2048) + l, by omega⟩ ⟨4224 + c.val, by omega⟩)) - cr (ix2 ⟨8 * (n.val / 2048) + h.val, by omega⟩ ⟨l, by omega⟩) + cc (ix2 n ⟨h.val, by omega⟩)
  else ⊥

/-- Column `d` of value row `l` of row `n`'s sequence. -/
def valOf (z : Vec Ideal S16512x4480 .f32) (n : Fin 16384) (d : Fin 64) (l : ℕ) : EReal :=
  if hl : l < 2048 then z (ix2 ⟨2048 * (n.val / 2048) + l, by omega⟩ ⟨4224 + (64 + d.val), by omega⟩) else 0

/-- The forgetting attention's result at row `n` and column `j`: the softmax-weighted values of head `j / 64`. -/
def attn (z : Vec Ideal S16512x4480 .f32) (cc : Vec Ideal S16384x128 .f32) (cr : Vec Ideal S64x2048 .f32) (n : Fin 16384) (j : Fin 512) : EReal :=
  ∑ l ∈ range 2048, Mla.prob (scoreOf z cc cr n ⟨j.val / 64, by omega⟩) l * valOf z n ⟨j.val % 64, by omega⟩ l

/-- After its last trip the loop's quotient in row `r` is the softmax-weighted sum over all 2048 keys. -/
theorem ratio (c : Dev nD) (i : grid0.Coords) (arg2 : Memref sig .tc .vmem S128x512 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S8x2048 .f32) (harg5 : arg5.IsWhole) (arg6 : Memref sig .tc .vmem S128x512 .bf16) (harg6 : arg6.IsWhole) (x0 : Vec Ideal S128x512 .f32) (x1 : Vec Ideal S2048x128 .f32) (x2 : Vec Ideal S128x128 .f32) (x3 : Vec Ideal S8x2048 .f32)
    (r : Fin 1024) (hs : ∀ l, score i x0 x1 x2 x3 r l ≠ ⊤) (h0 : score i x0 x1 x2 x3 r 0 ≠ ⊥) (d : Fin 64) :
    Ideal.div ((st c i arg2 harg2 arg3 harg3 arg4 harg4 arg5 harg5 arg6 harg6 x0 x1 x2 x3 (k0_t1_loop i).trips).2.2 (ix2 r d)) ((st c i arg2 harg2 arg3 harg3 arg4 harg4 arg5 harg5 arg6 harg6 x0 x1 x2 x3 (k0_t1_loop i).trips).2.1 (ix2 r 0))
      = ∑ l ∈ range 2048, Mla.prob (score i x0 x1 x2 x3 r) l * value x1 d l := by
  obtain ⟨-, h2, h3⟩ := state_apply c i arg2 harg2 arg3 harg3 arg4 harg4 arg5 harg5 arg6 harg6 x0 x1 x2 x3 r hs h0 _ le_rfl
  rw [h2, h3 d]
  have ht := trips1 i
  have hi : (i 1).val < 16 := (i 1).isLt
  refine quotient _ _ hs h0 (by omega) (by omega) fun l hl _ => ?_
  unfold score
  rw [dif_neg]
  unfold pos
  omega

/-- What point `t` leaves at its block's row `y` and column `j` is the attention of array row `128 t + y`. -/
theorem point (c : Dev nD) (t : Fin cfg0.N) (z : Vec Ideal S16512x4480 .f32) (cc : Vec Ideal S16384x128 .f32) (cr : Vec Ideal S64x2048 .f32)
    (hq : m ((c : Thread nD τ).loc main_arg0) = z) (hl : m ((c : Thread nD τ).loc main_arg1) = cc) (hw : m ((c : Thread nD τ).loc main_arg2) = cr)
    (hs : ∀ n h l, scoreOf z cc cr n h l ≠ ⊤) (h0 : ∀ n h, scoreOf z cc cr n h 0 ≠ ⊥) (y : Fin 128) (j : Fin 512) :
    (outsAt0 m c t : Vec Ideal S128x512 .bf16) (ix2 y j) = attn z cc cr ⟨128 * t.val + y.val, by have h : t.val < 128 := t.isLt; omega⟩ j := by
  have ht : t.val < 128 := t.isLt
  have hc := (index0 t).2.2.2.2.2
  have hsc : score (grid0.coords t) (X0_0 m c t) (X0_1 m c t) (iblk m c 2 t) (iblk m c 3 t) ⟨128 * (j.val / 64) + y.val, by omega⟩ = scoreOf z cc cr ⟨128 * t.val + y.val, by omega⟩ ⟨j.val / 64, by omega⟩ := by
    funext l
    have hp : pos (grid0.coords t) ⟨128 * (j.val / 64) + y.val, by omega⟩ = (128 * t.val + y.val) % 2048 := by unfold pos; rw [hc]; simp only []; omega
    unfold score scoreOf
    by_cases h : l ≤ (128 * t.val + y.val) % 2048
    · rw [dif_pos (by rw [hp]; exact h), dif_pos h]
      refine congrArg₂ (· + ·) (congrArg₂ (· - ·) (Finset.sum_congr rfl fun k _ => congrArg₂ (· * ·) (congrArg (· * scale) ?_) ?_) ?_) ?_
      · refine (q_apply m c t _ _).trans ?_
        rw [hq]
        exact congrArg z (congrArg₂ ix2 (Fin.ext (by simp only []; omega)) (Fin.ext (by simp only []; omega)))
      · refine (kv_apply m c t _ _).trans ?_
        rw [hq]
        exact congrArg z (congrArg₂ ix2 (Fin.ext (by simp only []; omega)) rfl)
      · refine (cr_apply m c t _ _).trans ?_
        rw [hw]
        exact congrArg cr (congrArg₂ ix2 (Fin.ext (by simp only []; omega)) rfl)
      · refine (cc_apply m c t _ _).trans ?_
        rw [hl]
        exact congrArg cc (congrArg₂ ix2 (Fin.ext (by simp only []; omega)) (Fin.ext (by simp only []; omega)))
    · rw [dif_neg (by rw [hp]; exact h), dif_neg h]
  have hv : ∀ d, value (X0_1 m c t) d = valOf z ⟨128 * t.val + y.val, by omega⟩ d := by
    intro d
    funext l
    unfold value valOf
    by_cases h : l < 2048
    · rw [dif_pos h, dif_pos h]
      refine (kv_apply m c t _ _).trans ?_
      rw [hq]
      exact congrArg z (congrArg₂ ix2 (Fin.ext (by simp only []; omega)) rfl)
    · rw [dif_neg h, dif_neg h]
  unfold outsAt0
  rw [out_A]
  refine (pay16_apply _ _ y j).trans ?_
  unfold attn
  refine (ratio _ _ _ _ _ _ _ _ _ _ _ _ _ _ _ _ _ ?_ ?_ _).trans (by rw [hsc, hv])
  · rw [hsc]; exact hs _ _
  · rw [hsc]; exact h0 _ _

/-- The launch's result array, at every index, is the attention of the arguments. -/
theorem array (c : Dev nD) (z : Vec Ideal S16512x4480 .f32) (cc : Vec Ideal S16384x128 .f32) (cr : Vec Ideal S64x2048 .f32)
    (hq : m ((c : Thread nD τ).loc main_arg0) = z) (hl : m ((c : Thread nD τ).loc main_arg1) = cc) (hw : m ((c : Thread nD τ).loc main_arg2) = cr)
    (hs : ∀ n h l, scoreOf z cc cr n h l ≠ ⊤) (h0 : ∀ n h, scoreOf z cc cr n h 0 ≠ ⊥) :
    (dats m 0 c).arrAt 4 cfg0.N = (fun i => attn z cc cr (i 0) (i 1) : Vec Ideal S16384x512 .bf16) := by
  refine (dats m 0 c).arrAt_eq_of_covers 4 _ (by decide +kernel) fun t hf y => ?_
  have h := (index0 t).2.2.2.2.1
  blk_simp
  rw [after0_4]
  have e := point m c t z cc cr hq hl hw hs h0 (y 0) (y 1)
  refine Eq.trans (congrArg (outsAt0 m c t) ?_) (e.trans ?_)
  · funext a; fin_cases a <;> rfl
  · refine congrArg₂ (attn z cc cr) (Fin.ext ?_) (Fin.ext ?_)
    · blk_simp [h]
      exact congrArg (· + _) (Nat.mul_comm _ _)
    · blk_simp [h]
end Cert.Fox
-- ==== Proof.FoxRef.lean ====
module
public import proofs.«01_k».proof.Proof.FoxArray
public import proofs.«01_k».proof.Proof.MlaRef
public import proofs.«01_k».proof.Proof.Gen.Reference7Ideal.Read
@[expose] public section
set_option maxRecDepth 16384
noncomputable section
open Idealize.ShloMosaic Idealize.ShloMosaic.TcCoe Idealize.SL.Sem
namespace Cert.FoxRef
open Cert.Reference7Ideal Cert.Reference7Ideal.Gen Cert.Reference7Ideal.Read Cert.SoftmaxSum Finset

variable (z : Vec Ideal S16512x4480 .f32) (cc : Vec Ideal S16384x128 .f32) (cr : Vec Ideal S64x2048 .f32)

/-- The array row of position `t` of sequence `b`. -/
def row (b : Fin 8) (t : Fin 2048) : Fin 16384 := ⟨2048 * b.val + t.val, by omega⟩

/-- The scale is the number one eighth. -/
theorem scale_eq : Fox.scale = ((1 / 8 : ℝ) : EReal) := by
  unfold Fox.scale
  simp [Ideal.ofBits, Ideal.ieee]
  norm_num
  rw [← EReal.coe_mul]
  norm_num

/-- The queries by sequence, position and head. -/
theorem v1_apply (b : Fin 8) (t : Fin 2048) (h : Fin 8) (c : Fin 64) :
    val_main_v1 (F := Ideal) z (ix4 b t h c) = z (ix2 ⟨2048 * b.val + t.val, by omega⟩ ⟨2560 + (64 * h.val + c.val), by omega⟩) := by
  pointwise [val_main_v1, val_main_v0]
  exact congrArg z (congrArg₂ ix2 (Fin.ext (by simp only []; omega)) (Fin.ext (by first | rfl | omega | (simp only []; omega))))

/-- The keys by sequence and position. -/
theorem v10_apply (b : Fin 8) (l : Fin 2048) (c : Fin 64) :
    val_main_v10 (F := Ideal) z (ix3 b l c) = z (ix2 ⟨2048 * b.val + l.val, by omega⟩ ⟨4224 + c.val, by omega⟩) := by
  pointwise [val_main_v10, val_main_v9, val_main_v3, val_main_v2]
  exact congrArg z (congrArg₂ ix2 (Fin.ext (by simp only []; omega)) (Fin.ext (by first | rfl | omega | (simp only []; omega))))

/-- The values by sequence and position. -/
theorem v39_apply (b : Fin 8) (l : Fin 2048) (c : Fin 64) :
    val_main_v39 (F := Ideal) z (ix3 b l c) = z (ix2 ⟨2048 * b.val + l.val, by omega⟩ ⟨4224 + (64 + c.val), by omega⟩) := by
  pointwise [val_main_v39, val_main_v38, val_main_v3, val_main_v2]
  exact congrArg z (congrArg₂ ix2 (Fin.ext (by simp only []; omega)) (Fin.ext (by first | rfl | omega | (simp only []; omega))))

/-- The rows' running log gates by sequence, head and position. -/
theorem v16_apply (b h : Fin 8) (t l : Fin 2048) :
    val_main_v16 (F := Ideal) cc (ix4 b h t l) = cc (ix2 (row b t) ⟨h.val, by omega⟩) := by
  pointwise [val_main_v16, val_main_v15, val_main_v6, val_main_v5, val_main_v4]
  exact congrArg cc (congrArg₂ ix2 (Fin.ext (by unfold row; simp only []; omega)) (Fin.ext (by first | rfl | omega | (simp only []; omega))))

/-- The keys' running log gates by sequence, head and position. -/
theorem v19_apply (b h : Fin 8) (t l : Fin 2048) :
    val_main_v19 (F := Ideal) cr (ix4 b h t l) = cr (ix2 ⟨8 * b.val + h.val, by omega⟩ l) := by
  pointwise [val_main_v19, val_main_v18, val_main_v7]
  exact congrArg cr (congrArg₂ ix2 (Fin.ext (by simp only []; omega)) (Fin.ext (by first | rfl | omega | (simp only []; omega))))

/-- The product of a key with a query. -/
theorem v11_apply (b : Fin 8) (l t : Fin 2048) (h : Fin 8) :
    val_main_v11 (F := Ideal) z (ix4 b l t h) = ∑ k : Fin 64, val_main_v10 (F := Ideal) z (ix3 b l k) * val_main_v1 (F := Ideal) z (ix4 b t h k) := by
  rw [val_main_v11_apply]
  refine Finset.sum_congr rfl fun k _ => congrArg₂ (· * ·) (congrArg _ ?_) (congrArg _ ?_) <;>
    (funext a; fin_cases a <;> rfl)

/-- The scaled products. -/
theorem v14_apply (b h : Fin 8) (t l : Fin 2048) :
    val_main_v14 (F := Ideal) z (ix4 b h t l) = ∑ c : Fin 64, z (ix2 ⟨2048 * b.val + t.val, by omega⟩ ⟨2560 + (64 * h.val + c.val), by omega⟩) * Fox.scale * z (ix2 ⟨2048 * b.val + l.val, by omega⟩ ⟨4224 + c.val, by omega⟩) := by
  have e12 : val_main_v12 (F := Ideal) z (ix4 b h t l) = ∑ k : Fin 64, val_main_v10 (F := Ideal) z (ix3 b l k) * val_main_v1 (F := Ideal) z (ix4 b t h k) := by
    rw [← v11_apply]
    unfold val_main_v12
    generalize val_main_v11 (F := Ideal) z = y
    pointwise
  have e13 : val_main_v13 (F := Ideal) (ix4 b h t l) = Fox.scale := by
    rw [val_main_v13_apply, val_main_cst_apply]
    rfl
  rw [val_main_v14_apply, e12, e13]
  refine (sum_mul_of_nonneg Fox.scale (by rw [scale_eq]; exact EReal.coe_nonneg.mpr (by norm_num)) (by rw [scale_eq]; exact EReal.coe_ne_top _) Finset.univ _).trans ?_
  refine Finset.sum_congr rfl fun k _ => ?_
  rw [v10_apply, v1_apply, mul_assoc, mul_comm]

/-- The masked scores. -/
theorem v26_apply (b h : Fin 8) (t l : Fin 2048) :
    val_main_v26 (F := Ideal) z cc cr (ix4 b h t l) = Fox.scoreOf z cc cr (row b t) h l.val := by
  have e20 : val_main_v20 (F := Ideal) z cc cr (ix4 b h t l) = (val_main_v14 (F := Ideal) z (ix4 b h t l) + val_main_v16 (F := Ideal) cc (ix4 b h t l) : EReal) - val_main_v19 (F := Ideal) cr (ix4 b h t l) := rfl
  rw [v14_apply, v16_apply, v19_apply] at e20
  unfold val_main_v26
  generalize val_main_v20 (F := Ideal) z cc cr = y at *
  pointwise [val_main_call0_v1, val_main_call0_v2, val_main_call0_v0, val_main_cst_0, val_main_v25, val_main_v24, val_main_v23, val_main_v22, val_main_v21, val_main_v8]
  rw [WordCmp.cmpi_sle_ofNat (by omega) (by omega), e20]
  have hr : (row b t).val % 2048 = t.val := by show (2048 * b.val + t.val) % 2048 = _; omega
  have hr' : (row b t).val / 2048 = b.val := by show (2048 * b.val + t.val) / 2048 = _; omega
  unfold Fox.scoreOf
  by_cases hl : l.val ≤ t.val
  · rw [dif_pos (by rw [hr]; exact hl)]
    simp only [hl, decide_true]
    refine (Mla.sel_one _ _).trans ?_
    simp only [hr']
    rw [sub_eq_add_neg, sub_eq_add_neg, add_right_comm]
    rfl
  · rw [dif_neg (by rw [hr]; exact hl)]
    simp only [hl, decide_false]
    exact Mla.ninf

/-- The row maximum. -/
theorem v27_apply (b h : Fin 8) (t : Fin 2048) :
    val_main_v27 (F := Ideal) z cc cr (ix3 b h t) = (range 2048).sup (Fox.scoreOf z cc cr (row b t) h) := by
  rw [← MlaRef.fold_eq, ← Mla.ninf]
  have e := v26_apply z cc cr b h t
  unfold val_main_v27
  generalize val_main_v26 (F := Ideal) z cc cr = y at *
  rw [← funext e]
  pointwise [val_main_cst_1]

/-- The weights before division. -/
theorem v33_apply (b h : Fin 8) (t l : Fin 2048) :
    val_main_v33 (F := Ideal) z cc cr (ix4 b h t l) = wt (Fox.scoreOf z cc cr (row b t) h) 2048 l.val := by
  have e := v26_apply z cc cr b h t l
  have e' := v27_apply z cc cr b h t
  have e31 : val_main_v31 (F := Ideal) z cc cr (ix4 b h t l) = val_main_v29 (F := Ideal) z cc cr (ix3 b h t) := by
    rw [val_main_v31_apply, val_main_v30_apply]
    exact congrArg _ (by funext a; fin_cases a <;> rfl)
  rw [val_main_v33_apply, val_main_v32_apply, e31, val_main_v29_apply, e, e', val_main_v28_apply, val_main_cst_2_apply]
  simp only [Ideal.maximumf_def, Ideal.subf_def, Ideal.ofBits_def, Mla.ninf, max_eq_right bot_le]
  rfl

/-- The total weight of a row. -/
theorem v34_apply (b h : Fin 8) (t : Fin 2048) :
    val_main_v34 (F := Ideal) z cc cr (ix3 b h t) = ∑ l ∈ range 2048, wt (Fox.scoreOf z cc cr (row b t) h) 2048 l := by
  rw [val_main_v34_apply, ← Fin.sum_univ_eq_sum_range]
  have hz : (val_main_cst_3 (F := Ideal)) (Shape.Idx.first h_S_) = 0 := by rw [val_main_cst_3_apply]; simp [Ideal.ofBits, Ideal.ieee]
  rw [hz, zero_add]
  refine Finset.sum_congr rfl fun k _ => ?_
  rw [← v33_apply]
  exact congrArg _ (by funext a; fin_cases a <;> rfl)

/-- The softmax weights. -/
theorem v37_apply (b h : Fin 8) (t l : Fin 2048) :
    val_main_v37 (F := Ideal) z cc cr (ix4 b h t l) = Mla.prob (Fox.scoreOf z cc cr (row b t) h) l.val := by
  have e := v33_apply z cc cr b h t l
  have e' := v34_apply z cc cr b h t
  have e36 : val_main_v36 (F := Ideal) z cc cr (ix4 b h t l) = val_main_v34 (F := Ideal) z cc cr (ix3 b h t) := by
    rw [val_main_v36_apply, val_main_v35_apply]
    exact congrArg _ (by funext a; fin_cases a <;> rfl)
  rw [val_main_v37_apply, e36, e, e']
  rfl

/-- The weighted values. -/
theorem v40_apply (b : Fin 8) (c : Fin 64) (h : Fin 8) (t : Fin 2048) :
    val_main_v40 (F := Ideal) z cc cr (ix4 b c h t) = ∑ l : Fin 2048, z (ix2 ⟨2048 * b.val + l.val, by omega⟩ ⟨4224 + (64 + c.val), by omega⟩) * Mla.prob (Fox.scoreOf z cc cr (row b t) h) l.val := by
  rw [val_main_v40_apply]
  refine Finset.sum_congr rfl fun l _ => ?_
  refine (congrArg₂ (· * ·) (congrArg _ ?_) (congrArg _ ?_)).trans (congrArg₂ (· * ·) (v39_apply z b l c) (v37_apply z cc cr b h t l)) <;> (funext a; fin_cases a <;> rfl)

/-- The reference's result at an index is the attention of the arguments there. -/
theorem v43_apply (n : Fin 16384) (j : Fin 512) :
    val_main_v43 (F := Ideal) z cc cr (ix2 n j) = Fox.attn z cc cr n j := by
  have e : val_main_v43 (F := Ideal) z cc cr (ix2 n j) = val_main_v40 (F := Ideal) z cc cr (ix4 ⟨n.val / 2048, by omega⟩ ⟨j.val % 64, by omega⟩ ⟨j.val / 64, by omega⟩ ⟨n.val % 2048, by omega⟩) := by
    unfold val_main_v43 val_main_v42 val_main_v41
    generalize val_main_v40 (F := Ideal) z cc cr = y
    pointwise
  have hrow : row ⟨n.val / 2048, by omega⟩ ⟨n.val % 2048, by omega⟩ = n := Fin.ext (by unfold row; simp only []; omega)
  rw [e, v40_apply, hrow]
  unfold Fox.attn
  rw [← Fin.sum_univ_eq_sum_range]
  refine Finset.sum_congr rfl fun l _ => ?_
  rw [mul_comm, Fox.valOf, dif_pos l.isLt]

end Cert.FoxRef
-- ==== Proof.FoxClaim.lean ====
module
public import proofs.«01_k».proof.Defs
public import proofs.«01_k».proof.Proof.FoxRef
public import proofs.«01_k».proof.Proof.MlaClaim
public import proofs.«01_k».proof.Proof.Gen.Pre_finite_fox
public import Idealize.ShloMosaic.Lib.Claim
@[expose] public section
set_option maxRecDepth 16384
noncomputable section
open Idealize.ShloMosaic Idealize.ShloMosaic.TcCoe Idealize.SL.Sem
namespace Cert.FoxClaim
open Cert.Pre_finite_fox Cert.Pre_finite_fox.Gen

variable (z : Vec Ideal S16512x4480 .f32) (cc : Vec Ideal S16384x128 .f32) (cr : Vec Ideal S64x2048 .f32)

/-- Under the precondition every query is a real number. -/
theorem q_real (hp : Cert.Pre_finite_fox.fn (F := Ideal) z cc cr = fun _ => 1#1) (n : Fin 16384) (j : Fin 512) :
    z (ix2 ⟨n.val, by omega⟩ ⟨2560 + j.val, by omega⟩) ≠ ⊤ ∧ z (ix2 ⟨n.val, by omega⟩ ⟨2560 + j.val, by omega⟩) ≠ ⊥ := by
  have e := congrFun hp (ix2 n ⟨j.val, by omega⟩)
  refine MlaClaim.real_of_test _ (Eq.trans ?_ e)
  unfold Cert.Pre_finite_fox.fn
  symm
  pointwise
  rfl

/-- Under the precondition every key is a real number. -/
theorem k_real (hp : Cert.Pre_finite_fox.fn (F := Ideal) z cc cr = fun _ => 1#1) (n : Fin 16384) (j : Fin 64) :
    z (ix2 ⟨n.val, by omega⟩ ⟨4224 + j.val, by omega⟩) ≠ ⊤ ∧ z (ix2 ⟨n.val, by omega⟩ ⟨4224 + j.val, by omega⟩) ≠ ⊥ := by
  have e := congrFun hp (ix2 n ⟨512 + j.val, by omega⟩)
  refine MlaClaim.real_of_test _ (Eq.trans ?_ e)
  unfold Cert.Pre_finite_fox.fn
  symm
  pointwise
  rfl

/-- Under the precondition every running log gate of a row is a real number. -/
theorem cc_real (hp : Cert.Pre_finite_fox.fn (F := Ideal) z cc cr = fun _ => 1#1) (n : Fin 16384) (h : Fin 8) :
    cc (ix2 n ⟨h.val, by omega⟩) ≠ ⊤ ∧ cc (ix2 n ⟨h.val, by omega⟩) ≠ ⊥ := by
  have e := congrFun hp (ix2 n ⟨576 + h.val, by omega⟩)
  refine MlaClaim.real_of_test _ (Eq.trans ?_ e)
  unfold Cert.Pre_finite_fox.fn
  symm
  pointwise
  refine congrArg (fun x : EReal => BitVec.ofBool (decide (max x (-x) < Ideal.ofBits .f32 2139095040#32))) ?_
  rw [dif_neg (by omega), dif_neg (by omega), dif_pos (by omega)]
  exact congrArg cc (congrArg₂ ix2 rfl (Fin.ext (by simp only []; omega)))

/-- Under the precondition every running log gate of a key is a real number. -/
theorem cr_real (hp : Cert.Pre_finite_fox.fn (F := Ideal) z cc cr = fun _ => 1#1) (n : Fin 64) (l : Fin 2048) :
    cr (ix2 n l) ≠ ⊤ ∧ cr (ix2 n l) ≠ ⊥ := by
  have e := congrFun hp (ix2 ⟨(2048 * n.val + l.val) / 8, by omega⟩ ⟨584 + (2048 * n.val + l.val) % 8, by omega⟩)
  refine MlaClaim.real_of_test _ (Eq.trans ?_ e)
  unfold Cert.Pre_finite_fox.fn
  symm
  pointwise
  refine congrArg (fun x : EReal => BitVec.ofBool (decide (max x (-x) < Ideal.ofBits .f32 2139095040#32))) ?_
  rw [dif_neg (by omega), dif_neg (by omega), dif_neg (by omega)]

/-- A real number times the scale is a real number. -/
theorem scaled_real (x : EReal) (h : x ≠ ⊤ ∧ x ≠ ⊥) : x * Fox.scale ≠ ⊤ ∧ x * Fox.scale ≠ ⊥ := by
  rw [FoxRef.scale_eq, ← EReal.coe_toReal h.1 h.2, ← EReal.coe_mul]
  exact ⟨EReal.coe_ne_top _, EReal.coe_ne_bot _⟩

/-- A real number less a second one plus a third is a real number. -/
theorem gated_real (x y w : EReal) (hx : x ≠ ⊤ ∧ x ≠ ⊥) (hy : y ≠ ⊤ ∧ y ≠ ⊥) (hw : w ≠ ⊤ ∧ w ≠ ⊥) : x - y + w ≠ ⊤ ∧ x - y + w ≠ ⊥ := by
  rw [← EReal.coe_toReal hx.1 hx.2, ← EReal.coe_toReal hy.1 hy.2, ← EReal.coe_toReal hw.1 hw.2, ← EReal.coe_sub, ← EReal.coe_add]
  exact ⟨EReal.coe_ne_top _, EReal.coe_ne_bot _⟩

/-- The score of a key up to the row's own position is a real number. -/
theorem score_real (hp : Cert.Pre_finite_fox.fn (F := Ideal) z cc cr = fun _ => 1#1) (n : Fin 16384) (h : Fin 8) (l : ℕ) (hl : l ≤ n.val % 2048) :
    Fox.scoreOf z cc cr n h l ≠ ⊤ ∧ Fox.scoreOf z cc cr n h l ≠ ⊥ := by
  unfold Fox.scoreOf
  rw [dif_pos hl]
  refine gated_real _ _ _ (MlaClaim.sum_real _ _ _ (fun c => scaled_real _ ?_) (fun c => ?_)) (cr_real z cc cr hp _ _) (cc_real z cc cr hp n h)
  · exact q_real z cc cr hp n ⟨64 * h.val + c.val, by omega⟩
  · exact k_real z cc cr hp ⟨2048 * (n.val / 2048) + l, by omega⟩ c

/-- The scores are below +∞. -/
theorem score_top (hp : Cert.Pre_finite_fox.fn (F := Ideal) z cc cr = fun _ => 1#1) (n : Fin 16384) (h : Fin 8) (l : ℕ) :
    Fox.scoreOf z cc cr n h l ≠ ⊤ := by
  by_cases hl : l ≤ n.val % 2048
  · exact (score_real z cc cr hp n h l hl).1
  · unfold Fox.scoreOf
    rw [dif_neg hl]
    exact bot_ne_top

/-- The score of the first key is above −∞. -/
theorem score_bot (hp : Cert.Pre_finite_fox.fn (F := Ideal) z cc cr = fun _ => 1#1) (n : Fin 16384) (h : Fin 8) :
    Fox.scoreOf z cc cr n h 0 ≠ ⊥ := (score_real z cc cr hp n h 0 (Nat.zero_le _)).2

/-- The reference's counters: it declares no semaphore. -/
theorem ref_sem (s : MemSt Cert.Reference7Ideal.nD Cert.Reference7Ideal.τ Cert.Reference7Ideal.sig (Elt Ideal)) : s.sem = fun _ => 0 :=
  funext fun s => match s with
    | (_, .reg k) => k.elim0
    | (_, .dma k) => k.elim0

/-- The reference runs, keeps its arguments and ends quiescent. -/
theorem ref_frame : Cert.quiescent_Reference7Ideal := fun m g _ =>
  θ_run_mono (Cert.Reference7Ideal.Value.run m g) fun r h => ⟨fun c => (h c).2, ref_sem r.2⟩

/-- The same under the precondition. -/
theorem ref_frame_pre : Cert.quiescent_Reference7Ideal_pre_finite_fox := fun m g _ => ref_frame m g trivial

/-- The forgetting attention call and its reference compute the same array. -/
theorem algebraic : Cert.algebraic_Kernel7Ideal_Reference7Ideal_pre_finite_fox := by
  intro m g m' g' hpre hagree
  refine ⟨fun c => (fun i => Fox.attn (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (i 0) (i 1) : Vec Ideal Cert.Kernel7Ideal.S16384x512 .bf16), ?_, ?_⟩
  · exact θ_run_mono (Cert.Kernel7Ideal.Value.run_blocks m g) fun r h c =>
      ⟨(h c).1.trans (Fox.array m c _ _ _ rfl rfl rfl (score_top _ _ _ (hpre c)) (score_bot _ _ _ (hpre c))), (h c).2⟩
  · refine θ_run_mono (Cert.Reference7Ideal.Value.run m' g') fun r h c => ⟨(h c).1.trans ?_, (h c).2⟩
    rw [Cert.Reference7Ideal.Read.val_main_v43_eq, (hagree c).1, (hagree c).2.1, (hagree c).2.2]
    funext i
    exact (congrArg _ (by funext a; fin_cases a <;> rfl)).trans (FoxRef.v43_apply _ _ _ (i 0) (i 1))

end Cert.FoxClaim
-- ==== Proof.GmlpRun.lean ====
module
public import proofs.«01_k».proof.Proof.MlaRun
public import proofs.«01_k».proof.Proof.Gen.Kernel8Ideal.Value
@[expose] public section
set_option maxRecDepth 16384
noncomputable section
open Idealize.ShloMosaic Idealize.ShloMosaic.TcCoe Idealize.SL.Sem
namespace Cert.Gmlp
open Cert.Kernel8Ideal Cert.Kernel8Ideal.Gen Finset

/-- A column's head. -/
theorem pay3_apply (r : Fin 128) (j : Fin 512) : k0_pay3 (ix2 r j) = BitVec.ofNat 32 (j.val / 64) := by
  pointwise [k0_pay3]
  revert j
  decide +kernel

/-- The lower triangular matrix of ones. -/
def tril (r k : ℕ) : EReal := if k ≤ r then 1 else 0

/-- The kernel's lower triangular matrix of ones. -/
theorem pay2_apply (r k : Fin 128) : k0_pay2 (F := Ideal) (ix2 r k) = tril r.val k.val := by
  pointwise [k0_pay2]
  have e : IntOp.cmpi CmpIPredicate.sge (BitVec.ofNat 32 r.val) (BitVec.ofNat 32 k.val) = IntOp.cmpi CmpIPredicate.sle (BitVec.ofNat 32 k.val) (BitVec.ofNat 32 r.val) := rfl
  rw [e, WordCmp.cmpi_sle_ofNat (by omega) (by omega)]
  unfold tril
  by_cases h : k.val ≤ r.val
  · simp only [h, decide_true, if_true]
    show ((((BitVec.setWidth 32 (BitVec.ofBool true)).toInt : ℝ)) : EReal) = 1
    rw [show (BitVec.setWidth 32 (BitVec.ofBool true)).toInt = 1 by decide]
    norm_num
  · simp only [h, decide_false, if_false]
    show ((((BitVec.setWidth 32 (BitVec.ofBool false)).toInt : ℝ)) : EReal) = 0
    norm_num

/-- A selection by the equality of two small numbers. -/
theorem sel_eq (g k : ℕ) (hg : g < 8) (hk : k < 8) (a b : EReal) :
    Scalar.select (IntOp.cmpi CmpIPredicate.eq (BitVec.ofNat 32 g) (BitVec.ofNat 32 k)) a b = if g = k then a else b := by
  rw [WordCmp.cmpi_eq_ofNat (by omega) (by omega)]
  by_cases h : g = k
  · simp only [h, decide_true, if_true]; rfl
  · simp only [h, decide_false, if_false]; rfl

/-- A chunk's result: the gate times the bias plus the product of the column's head's lower triangular matrix with the chunk's rows. -/
theorem chunk_apply (w : Fin 8 → Vec Ideal S1x128x128 .f32) (v b u : Vec Ideal S128x512 .f32) (r : Fin 128) (j : Fin 512) (g : Fin 8) (hg : j.val / 64 = g.val) :
    k0_pay14 (F := Ideal) k0_pay3 (k0_pay6 (w 2)) (k0_pay7 k0_pay2 (w 3)) (k0_pay8 k0_pay2 (w 4)) (k0_pay9 k0_pay2 (w 5)) (k0_pay10 k0_pay2 (w 6)) (k0_pay11 k0_pay2 (w 7)) (k0_pay12 v) (k0_pay13 k0_pay3 (k0_pay4 (w 0)) (k0_pay5 (w 1)) v b) u (ix2 r j)
      = u (ix2 r j) * (b (ix2 r j) + ∑ x : Fin 128, w g (ix3 0 r x) * tril r.val x.val * v (ix2 x j)) := by
  pointwise [k0_pay14, k0_pay13, k0_pay12, k0_pay11, k0_pay10, k0_pay9, k0_pay8, k0_pay7, k0_pay6, k0_pay5, k0_pay4, pay3_apply, pay2_apply]
  rw [hg]
  have h := fun k hk => sel_eq g.val k g.isLt hk
  have h0 := h 0 (by omega); have h1 := h 1 (by omega); have h2 := h 2 (by omega); have h3 := h 3 (by omega)
  have h4 := h 4 (by omega); have h5 := h 5 (by omega); have h6 := h 6 (by omega); have h7 := h 7 (by omega)
  simp only [h0, h1, h2, h3, h4, h5, h6, h7]
  clear h h0 h1 h2 h3 h4 h5 h6 h7 hg
  fin_cases g <;> simp

/-- The gated mixing over a block of four chunks. -/
def mixB (x0 x1 : Vec Ideal S512x512 .f32) (x2 : Vec Ideal S8x128x128 .f32) (x3 : Vec Ideal S128x512 .f32) (y : Fin 512) (j : Fin 512) : EReal :=
  x0 (ix2 y j) * (x3 (ix2 ⟨y.val % 128, by omega⟩ j) + ∑ x : Fin 128, x2 (ix3 ⟨j.val / 64, by omega⟩ ⟨y.val % 128, by omega⟩ x) * tril (y.val % 128) x.val * x1 (ix2 ⟨128 * (y.val / 128) + x.val, by omega⟩ j))

/-- The matrix of head `g`, as the body loads it. -/
abbrev wld (x2 : Vec Ideal S8x128x128 .f32) : Fin 8 → Vec Ideal S1x128x128 .f32 := ![View.ld x2 (Rect.unit ![0, 0, 0] ![1, 128, 128] inb_S8x128x128_S1x128x128_0_0_0), View.ld x2 (Rect.unit ![1, 0, 0] ![1, 128, 128] inb_S8x128x128_S1x128x128_1_0_0), View.ld x2 (Rect.unit ![2, 0, 0] ![1, 128, 128] inb_S8x128x128_S1x128x128_2_0_0), View.ld x2 (Rect.unit ![3, 0, 0] ![1, 128, 128] inb_S8x128x128_S1x128x128_3_0_0), View.ld x2 (Rect.unit ![4, 0, 0] ![1, 128, 128] inb_S8x128x128_S1x128x128_4_0_0), View.ld x2 (Rect.unit ![5, 0, 0] ![1, 128, 128] inb_S8x128x128_S1x128x128_5_0_0), View.ld x2 (Rect.unit ![6, 0, 0] ![1, 128, 128] inb_S8x128x128_S1x128x128_6_0_0), View.ld x2 (Rect.unit ![7, 0, 0] ![1, 128, 128] inb_S8x128x128_S1x128x128_7_0_0)]

/-- The loaded matrix of head `g` is that head's matrix. -/
theorem wld_apply (x2 : Vec Ideal S8x128x128 .f32) (g : Fin 8) (r x : Fin 128) : wld x2 g (ix3 0 r x) = x2 (ix3 g r x) := by
  fin_cases g <;>
  · refine congrArg x2 (funext fun a => Fin.ext ?_)
    fin_cases a
    · rfl
    · exact (Nat.zero_add _).trans (Nat.one_mul _)
    · exact (Nat.zero_add _).trans (Nat.one_mul _)

/-- A chunk's stored rows, at the rows of the block they go to. -/
theorem chunk_eq (x0 x1 : Vec Ideal S512x512 .f32) (x2 : Vec Ideal S8x128x128 .f32) (x3 : Vec Ideal S128x512 .f32) (o a : ℕ) (ho : o < 4) (ha : a = 128 * o) (inb : ∀ d, (![a, 0] : Fin 2 → ℕ) d + S128x512.size d ≤ S512x512.size d) (r : Fin 128) (j : Fin 512) :
    k0_pay14 (F := Ideal) k0_pay3 (k0_pay6 (wld x2 2)) (k0_pay7 k0_pay2 (wld x2 3)) (k0_pay8 k0_pay2 (wld x2 4)) (k0_pay9 k0_pay2 (wld x2 5)) (k0_pay10 k0_pay2 (wld x2 6)) (k0_pay11 k0_pay2 (wld x2 7)) (k0_pay12 (View.ld x1 (Rect.unit ![a, 0] S128x512.size inb))) (k0_pay13 k0_pay3 (k0_pay4 (wld x2 0)) (k0_pay5 (wld x2 1)) (View.ld x1 (Rect.unit ![a, 0] S128x512.size inb)) (View.ld x3 (Rect.unit ![0, 0] ![128, 512] inb_S128x512_S128x512_0_0))) (View.ld x0 (Rect.unit ![a, 0] S128x512.size inb)) (ix2 r j)
      = mixB x0 x1 x2 x3 ⟨a + r.val, by omega⟩ j := by
  subst ha
  rw [chunk_apply (wld x2) _ _ _ r j ⟨j.val / 64, by omega⟩ rfl]
  have er : (128 * o + r.val) % 128 = r.val := by omega
  have eq : (128 * o + r.val) / 128 = o := by omega
  have e0 : ∀ (z : Vec Ideal S512x512 .f32) (q : Fin 128), View.ld z (Rect.unit (s := S512x512) ![128 * o, 0] S128x512.size inb) (ix2 q j) = z (ix2 ⟨128 * o + q.val, by omega⟩ j) := fun z q => by
    refine congrArg z (funext fun d => Fin.ext ?_)
    fin_cases d
    · exact congrArg (128 * o + ·) (Nat.one_mul _)
    · exact (Nat.zero_add _).trans (Nat.one_mul _)
  have e3 : View.ld x3 (Rect.unit (s := S128x512) ![0, 0] ![128, 512] inb_S128x512_S128x512_0_0) (ix2 r j) = x3 (ix2 r j) := by
    refine congrArg x3 (funext fun d => Fin.ext ?_)
    fin_cases d <;> exact (Nat.zero_add _).trans (Nat.one_mul _)
  unfold mixB
  simp only [er, eq]
  rw [e3, e0 x0 r]
  simp only [e0 x1, wld_apply]

/-- What a point stores: the gated mixing of its four chunks. -/
theorem out_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S8x128x128 .f32) (harg3 : arg3.IsWhole) (arg4 : Memref sig .tc .vmem S128x512 .f32) (harg4 : arg4.IsWhole) (arg5 : Memref sig .tc .vmem S512x512 .bf16) (harg5 : arg5.IsWhole)
    (x0 : Vec Ideal S512x512 .f32) (x1 : Vec Ideal S512x512 .f32) (x2 : Vec Ideal S8x128x128 .f32) (x3 : Vec Ideal S128x512 .f32) :
    out0_A_4 (F := Ideal) c i arg1 harg1 arg2 harg2 arg3 harg3 arg4 harg4 arg5 harg5 x0 x1 x2 x3 = fun y => mixB x0 x1 x2 x3 (y 0) (y 1) := by
  unfold out0_A_4
  rw [View.read_writes_eq_canon _ _ _ (cover0_A_4 c i arg1 harg1 arg2 harg2 arg3 harg3 arg4 harg4 arg5 harg5 x0 x1 x2 x3)]
  refine funext fun y => View.canon_apply_of_pieces (Val := Elt Ideal) (S := S512x512) (e := .bf16) (fun y : S512x512.Idx => mixB x0 x1 x2 x3 (y 0) (y 1)) _ ?_ y (cover0_A_4 c i arg1 harg1 arg2 harg2 arg3 harg3 arg4 harg4 arg5 harg5 x0 x1 x2 x3 y)
  · unfold kernelRun0_A
    dsimp only
    sl_unfold_words
    simp only [View.readAt_eq_ld, harg1.read_unread, harg2.read_unread, harg3.read_unread, harg4.read_unread]
    intro p hp x
    have key : ∀ (o a : ℕ) (ho : o < 4) (ha : a = 128 * o) (inb : ∀ d, (![a, 0] : Fin 2 → ℕ) d + S128x512.size d ≤ S512x512.size d) (x : S128x512.Idx),
        k0_pay14 (F := Ideal) k0_pay3 (k0_pay6 (wld x2 2)) (k0_pay7 k0_pay2 (wld x2 3)) (k0_pay8 k0_pay2 (wld x2 4)) (k0_pay9 k0_pay2 (wld x2 5)) (k0_pay10 k0_pay2 (wld x2 6)) (k0_pay11 k0_pay2 (wld x2 7)) (k0_pay12 (View.ld x1 (Rect.unit ![a, 0] S128x512.size inb))) (k0_pay13 k0_pay3 (k0_pay4 (wld x2 0)) (k0_pay5 (wld x2 1)) (View.ld x1 (Rect.unit ![a, 0] S128x512.size inb)) (View.ld x3 (Rect.unit ![0, 0] ![128, 512] inb_S128x512_S128x512_0_0))) (View.ld x0 (Rect.unit ![a, 0] S128x512.size inb)) x
          = mixB x0 x1 x2 x3 ((Rect.unit (s := S512x512) ![a, 0] S128x512.size inb).emb x 0) ((Rect.unit (s := S512x512) ![a, 0] S128x512.size inb).emb x 1) := by
      intro o a ho ha inb x
      have h := chunk_eq x0 x1 x2 x3 o a ho ha inb (x 0) (x 1)
      refine Eq.trans (congrArg _ ?_) (h.trans (congrArg₂ (mixB x0 x1 x2 x3) (Fin.ext ?_) (Fin.ext ?_)))
      · funext d; fin_cases d <;> rfl
      · exact congrArg (a + ·) (Nat.one_mul _).symm
      · exact ((Nat.zero_add _).trans (Nat.one_mul _)).symm
    simp only [List.mem_cons, List.not_mem_nil, or_false] at hp
    rcases hp with rfl | rfl | rfl | rfl
    · exact key 3 384 (by omega) rfl inb_S512x512_S128x512_384_0 x
    · exact key 2 256 (by omega) rfl inb_S512x512_S128x512_256_0 x
    · exact key 1 128 (by omega) rfl inb_S512x512_S128x512_128_0 x
    · exact key 0 0 (by omega) rfl inb_S512x512_S128x512_0_0 x
end Cert.Gmlp
-- ==== Proof.GmlpArray.lean ====
module
public import proofs.«01_k».proof.Proof.GmlpRun
public import proofs.«01_k».proof.Proof.FfnArray
public import Idealize.ShloMosaic.Lib.Claim
@[expose] public section
set_option maxRecDepth 16384
noncomputable section
open Idealize.ShloMosaic Idealize.ShloMosaic.TcCoe Idealize.SL.Sem
namespace Cert.Gmlp
open Cert.Kernel8Ideal Cert.Kernel8Ideal.Gen Finset

/-- The gated mixing at `(n, j)`: the gate times the bias plus the mix of the rows of `n`'s chunk by the column's head's lower triangular matrix. -/
def mix (u v : Vec Ideal S16512x512 .f32) (ws : Vec Ideal S8x128x128 .f32) (bs : Vec Ideal S8x128 .f32) (n : Fin 16384) (j : Fin 512) : EReal :=
  u (ix2 ⟨n.val, by omega⟩ j) * (bs (ix2 ⟨j.val / 64, by omega⟩ ⟨n.val % 128, by omega⟩) + ∑ x : Fin 128, ws (ix3 ⟨j.val / 64, by omega⟩ ⟨n.val % 128, by omega⟩ x) * tril (n.val % 128) x.val * v (ix2 ⟨128 * (n.val / 128) + x.val, by omega⟩ j))

/-- The blocks of the windows at every point. -/
theorem index0 : ∀ t : Fin cfg0.N, win0_0.index t = ![t.val, 0] ∧ win0_1.index t = ![t.val, 0] ∧ win0_2.index t = ![0, 0, 0] ∧ win0_3.index t = ![0, 0] ∧ win0_4.index t = ![t.val, 0] := by
  decide +kernel

variable (m : (ℓ : Loc nD τ sig) → Buf (Elt Ideal) ℓ)

/-- There are 32 points. -/
theorem t_lt (t : Fin cfg0.N) : t.val < 32 := lt_of_lt_of_eq t.isLt N_0

/-- Point `t`'s rows of the gate. -/
theorem u_apply (c : Dev nD) (t : Fin cfg0.N) (r : Fin 512) (d : Fin 512) :
    (X0_0 m c t : Vec Ideal S512x512 .f32) (ix2 r d) = (m ((c : Thread nD τ).loc main_arg0) : Vec Ideal S16512x512 .f32) (ix2 ⟨512 * t.val + r.val, by have := t_lt t; omega⟩ d) := by
  have h := (index0 t).1
  unfold X0_0 Pipeline.Window.fill
  rw [dif_pos (moved0_0 t _)]
  blk_ext [iblk, V, h]

/-- Point `t`'s rows of the values. -/
theorem v_apply (c : Dev nD) (t : Fin cfg0.N) (r : Fin 512) (d : Fin 512) :
    (X0_1 m c t : Vec Ideal S512x512 .f32) (ix2 r d) = (m ((c : Thread nD τ).loc main_arg1) : Vec Ideal S16512x512 .f32) (ix2 ⟨512 * t.val + r.val, by have := t_lt t; omega⟩ d) := by
  have h := (index0 t).2.1
  unfold X0_1 Pipeline.Window.fill
  rw [dif_pos (moved0_1 t _)]
  blk_ext [iblk, V, h]

/-- The heads' matrices. -/
theorem ws_apply (c : Dev nD) (t : Fin cfg0.N) (g : Fin 8) (r x : Fin 128) :
    (iblk m c 2 t : Vec Ideal S8x128x128 .f32) (ix3 g r x) = (m ((c : Thread nD τ).loc main_arg2) : Vec Ideal S8x128x128 .f32) (ix3 g r x) := by
  have h := (index0 t).2.2.1
  blk_ext [iblk, V, h]

/-- The bias, spread over the heads' columns by the host. -/
theorem bs_apply (c : Dev nD) (t : Fin cfg0.N) (r : Fin 128) (j : Fin 512) :
    (iblk m c 3 t : Vec Ideal S128x512 .f32) (ix2 r j) = (m ((c : Thread nD τ).loc main_arg3) : Vec Ideal S8x128 .f32) (ix2 ⟨j.val / 64, by omega⟩ r) := by
  have h := (index0 t).2.2.2.1
  have e : (V m c main_v2 : Vec Ideal S128x512 .f32) (ix2 r j) = (m ((c : Thread nD τ).loc main_arg3) : Vec Ideal S8x128 .f32) (ix2 ⟨j.val / 64, by omega⟩ r) := by
    entry_read
    pointwise
  rw [← e]
  blk_ext [iblk, h]

variable (c : Dev nD) (u v : Vec Ideal S16512x512 .f32) (ws : Vec Ideal S8x128x128 .f32) (bs : Vec Ideal S8x128 .f32)
  (hu : m ((c : Thread nD τ).loc main_arg0) = u) (hv : m ((c : Thread nD τ).loc main_arg1) = v) (hw : m ((c : Thread nD τ).loc main_arg2) = ws) (hb : m ((c : Thread nD τ).loc main_arg3) = bs)
include hu hv hw hb

/-- What a point stores is the gated mixing of the arguments at its rows. -/
theorem point (t : Fin cfg0.N) (y : Fin 512) (j : Fin 512) :
    (outsAt0 m c t : Vec Ideal S512x512 .bf16) (ix2 y j) = mix u v ws bs ⟨512 * t.val + y.val, by have := t_lt t; omega⟩ j := by
  have ht := t_lt t
  unfold outsAt0
  rw [out_eq]
  show mixB _ _ _ _ y j = _
  unfold mixB mix
  rw [u_apply, bs_apply, hu, hb]
  have er : (512 * t.val + y.val) % 128 = y.val % 128 := by omega
  simp only [er]
  refine congrArg (_ * ·) (congrArg (_ + ·) (Finset.sum_congr rfl fun x _ => ?_))
  rw [ws_apply, v_apply, hv, hw]
  exact congrArg (fun q => _ * v (ix2 q j)) (Fin.ext (by simp only []; omega))

/-- The launch's result array, at every index, is the gated mixing of the arguments. -/
theorem array : (dats m 0 c).arrAt 4 cfg0.N = (fun i => mix u v ws bs (i 0) (i 1) : Vec Ideal S16384x512 .bf16) := by
  refine (dats m 0 c).arrAt_eq_of_covers 4 _ (by decide +kernel) fun t hf y => ?_
  have h := (index0 t).2.2.2.2
  blk_simp
  rw [after0_4]
  have e := point m c u v ws bs hu hv hw hb t (y 0) (y 1)
  refine Eq.trans (congrArg (outsAt0 m c t) ?_) (e.trans ?_)
  · funext a; fin_cases a <;> rfl
  · refine congrArg₂ (mix u v ws bs) (Fin.ext ?_) (Fin.ext ?_)
    · blk_simp [h]
      exact congrArg (· + _) (Nat.mul_comm _ _)
    · blk_simp [h]
end Cert.Gmlp
-- ==== Proof.GmlpRef.lean ====
module
public import proofs.«01_k».proof.Proof.GmlpArray
public import proofs.«01_k».proof.Proof.PleRef
public import proofs.«01_k».proof.Proof.Gen.Reference8Ideal.Read
@[expose] public section
set_option maxRecDepth 16384
noncomputable section
open Idealize.ShloMosaic Idealize.ShloMosaic.TcCoe Idealize.SL.Sem
namespace Cert.GmlpRef
open Cert.Reference8Ideal Cert.Reference8Ideal.Gen Cert.Reference8Ideal.Read Finset

variable (u v : Vec Ideal S16512x512 .f32) (ws : Vec Ideal S8x128x128 .f32) (bs : Vec Ideal S8x128 .f32)

/-- The lower triangular matrix of ones. -/
theorem v1_apply (r k : Fin 128) : val_main_v1 (F := Ideal) (ix2 r k) = Gmlp.tril r.val k.val := by
  rw [val_main_v1_apply, val_main_call0_v4_apply, val_main_call0_v2_apply, val_main_call0_v0_apply, val_main_call0_v1_apply, val_main_call0_c_apply, val_main_call0_v3_apply, val_main_v0_apply, val_main_cst_apply, val_main_call0_v5_apply, val_main_call0_cst_apply]
  have e : IntOp.cmpi CmpIPredicate.sge (IntOp.addi (BitVec.ofNat 32 r.val) 0#32) (BitVec.ofNat 32 k.val) = IntOp.cmpi CmpIPredicate.sle (BitVec.ofNat 32 k.val) (BitVec.ofNat 32 r.val) := by
    have e' : IntOp.addi (BitVec.ofNat 32 r.val) 0#32 = BitVec.ofNat 32 r.val := BitVec.add_zero _
    rw [e']; rfl
  show Scalar.select (IntOp.cmpi CmpIPredicate.sge (IntOp.addi (BitVec.ofNat 32 r.val) 0#32) (BitVec.ofNat 32 k.val)) (Ideal.ofBits .f32 0x3F800000#32) (Ideal.ofBits .f32 0x00000000#32) = _
  rw [e, WordCmp.cmpi_sle_ofNat (by omega) (by omega), PleRef.one_word]
  unfold Gmlp.tril
  by_cases h : k.val ≤ r.val
  · simp only [h, decide_true, if_true]; rfl
  · simp only [h, decide_false, if_false]
    show Ideal.ofBits .f32 0x00000000#32 = 0
    simp [Ideal.ofBits, Ideal.ieee]

/-- The heads' lower triangular matrices. -/
theorem v4_apply (g : Fin 8) (r x : Fin 128) : val_main_v4 (F := Ideal) ws (ix3 g r x) = ws (ix3 g r x) * Gmlp.tril r.val x.val := by
  rw [val_main_v4_apply, val_main_v3_apply, val_main_v2_apply, ← v1_apply]
  refine congrArg (ws (ix3 g r x) * ·) (congrArg _ ?_)
  funext a; fin_cases a <;> rfl

/-- The mixed rows plus the bias. -/
theorem v14_apply (n : Fin 16384) (j : Fin 512) :
    val_main_v14 (F := Ideal) v ws bs (ix2 n j) = (∑ x : Fin 128, v (ix2 ⟨128 * (n.val / 128) + x.val, by omega⟩ j) * (ws (ix3 ⟨j.val / 64, by omega⟩ ⟨n.val % 128, by omega⟩ x) * Gmlp.tril (n.val % 128) x.val)) + bs (ix2 ⟨j.val / 64, by omega⟩ ⟨n.val % 128, by omega⟩) := by
  rw [val_main_v14_apply, val_main_v12_apply, val_main_v8_apply, val_main_v7_apply, val_main_v11_apply, val_main_v10_apply, val_main_v9_apply]
  refine congrArg₂ (· + ·) (Finset.sum_congr rfl fun x _ => congrArg₂ (· * ·) ?_ ?_) (congrArg bs ?_)
  · rw [val_main_v6_apply, val_main_v5_apply]
    refine congrArg v (funext fun a => Fin.ext ?_)
    fin_cases a
    · show ((((((n.val * 512 + j.val) / 1048576) * 16 + (n.val * 512 + j.val) / 65536 % 16) * 128 + x.val) * 8 + (n.val * 512 + j.val) / 64 % 8) * 64 + (n.val * 512 + j.val) % 64) / 512 = 128 * (n.val / 128) + x.val
      omega
    · show ((((((n.val * 512 + j.val) / 1048576) * 16 + (n.val * 512 + j.val) / 65536 % 16) * 128 + x.val) * 8 + (n.val * 512 + j.val) / 64 % 8) * 64 + (n.val * 512 + j.val) % 64) % 512 = j.val
      omega
  · rw [← v4_apply]
    refine congrArg _ (funext fun a => Fin.ext ?_)
    fin_cases a
    · show (n.val * 512 + j.val) / 64 % 8 = j.val / 64
      omega
    · show (n.val * 512 + j.val) / 512 % 128 = n.val % 128
      omega
    · rfl
  · refine funext fun a => Fin.ext ?_
    fin_cases a
    · show (n.val * 512 + j.val) / 64 % 8 = j.val / 64
      omega
    · show (n.val * 512 + j.val) / 512 % 128 = n.val % 128
      omega

/-- The reference's result at an index is the gated mixing of the arguments there. -/
theorem v16_apply (n : Fin 16384) (j : Fin 512) : val_main_v16 (F := Ideal) u v ws bs (ix2 n j) = Gmlp.mix u v ws bs n j := by
  rw [val_main_v16_apply, val_main_v15_apply, val_main_v13_apply, v14_apply]
  unfold Gmlp.mix
  refine congrArg₂ (· * ·) (congrArg u ?_) ((add_comm _ _).trans (congrArg (_ + ·) (Finset.sum_congr rfl fun x _ => mul_comm _ _)))
  funext a; fin_cases a <;> rfl
end Cert.GmlpRef
-- ==== Proof.GmlpClaim.lean ====
module
public import proofs.«01_k».proof.Defs
public import proofs.«01_k».proof.Proof.GmlpRef
public import proofs.«01_k».proof.Proof.Gen.Reference8Ideal.Run
public import Idealize.ShloMosaic.Lib.Claim
@[expose] public section
noncomputable section
open Idealize.ShloMosaic Idealize.ShloMosaic.TcCoe Idealize.SL.Sem
namespace Cert.GmlpClaim

/-- The gated mixing reference's counters: it declares no semaphore. -/
theorem ref_sem (s : MemSt Cert.Reference8Ideal.nD Cert.Reference8Ideal.τ Cert.Reference8Ideal.sig (Elt Ideal)) : s.sem = fun _ => 0 :=
  funext fun s => match s with
    | (_, .reg k) => k.elim0
    | (_, .dma k) => k.elim0

/-- The gated mixing reference runs, keeps its arguments and ends quiescent. -/
theorem ref_frame : Cert.quiescent_Reference8Ideal := fun m g _ =>
  θ_run_mono (Cert.Reference8Ideal.Value.run m g) fun r h => ⟨fun c => (h c).2, ref_sem r.2⟩

/-- The gated mixing call and its reference compute the same array. -/
theorem algebraic : Cert.algebraic_Kernel8Ideal_Reference8Ideal := by
  intro m g m' g' hpre hagree
  refine ⟨fun c => (fun i => Gmlp.mix (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (i 0) (i 1) : Vec Ideal Cert.Kernel8Ideal.S16384x512 .bf16), ?_, ?_⟩
  · exact θ_run_mono (Cert.Kernel8Ideal.Value.run_blocks m g) fun r h c => ⟨(h c).1.trans (Gmlp.array m c _ _ _ _ rfl rfl rfl rfl), (h c).2⟩
  · refine θ_run_mono (Cert.Reference8Ideal.Value.run m' g') fun r h c => ⟨(h c).1.trans ?_, (h c).2⟩
    rw [Cert.Reference8Ideal.Read.val_main_v16_eq, (hagree c).1, (hagree c).2.1, (hagree c).2.2.1, (hagree c).2.2.2]
    funext i
    exact (congrArg _ (by funext a; fin_cases a <;> rfl)).trans (GmlpRef.v16_apply _ _ _ _ (i 0) (i 1))

end Cert.GmlpClaim
-- ==== Proof.CmpRun.lean ====
module
public import proofs.«01_k».proof.Proof.MlaRun
public import proofs.«01_k».proof.Proof.Gen.Kernel9Ideal.Value
@[expose] public section
set_option maxRecDepth 16384
noncomputable section
open Idealize.ShloMosaic Idealize.ShloMosaic.TcCoe Idealize.SL.Sem
namespace Cert.Cmp
open Cert.Kernel9Ideal Cert.Kernel9Ideal.Gen Finset

/-- A sum of 32 terms, one after another. -/
theorem sum32 (f : Fin 32 → EReal) : ∑ q : Fin 32, f q = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 := by
  simp only [Fin.sum_univ_castSucc, Fin.sum_univ_zero, zero_add]
  rfl

/-- The weighted sum of the 32 rows of a block that start at column `o` of the packed row. -/
def wsum (x0 : Vec Ideal S32x8192 .f32) (x1 : Vec Ideal S32x128 .f32) (o : ℕ) (ho : o ≤ 4096) (r : Fin 32) (d : Fin 128) : EReal :=
  ∑ q : Fin 32, x0 (ix2 r ⟨o + 128 * q.val + d.val, by omega⟩) * x1 (ix2 q d)

/-- What a point stores in the first result: the weighted sums of the even blocks times 1/32. -/
theorem out2_eq (c : Dev nD) (i : grid0.Coords) (arg1 : Memref sig .tc .vmem S32x8192 .f32) (harg1 : arg1.IsWhole) (arg2 : Memref sig .tc .vmem S32x128 .f32) (harg2 : arg2.IsWhole) (arg3 : Memref sig .tc .vmem S32x128 .f32) (harg3 : arg3.IsWhole) (arg4 : Memref sig .tc .vmem S32x128 .f32) (harg4 : arg4.IsWhole)
    (x0 : Vec Ideal S32x8192 .f32) (x1 : Vec Ideal S32x128 .f32) (r : Fin 32) (d : Fin 128) :
    out0_A_2 (F := Ideal) c i arg1 harg1 arg2 harg2 arg3 harg3 arg4 harg4 x0 x1 (ix2 r d) = wsum x0 x1 0 (by omega) r d * Ideal.ofBits FTy.f32 0x3D000000#32 := by
  unfold out0_A_2
  rw [View.read_writes_eq_canon _ _ _ (cover0_A_2 c i arg1 harg1 arg2 harg2 arg3 harg3 arg4 harg4 x0 x1)]
  unfold kernelRun0_A
  dsimp only
  sl_unfold_words
  rw [View.canon_unit_zero Mla.hz]
  simp only [View.readAt_eq_ld, harg1.read_unread, harg2.read_unread]
  pointwise [k0_pay8, k0_pay7, k0_pay6, k0_pay5, k0_pay4, k0_pay3, k0_pay2, k0_pay1]
  refine congrArg (· * _) ?_
  unfold wsum
  rw [sum32]
  have e : (⟨0 + 128 * (0 : Fin 32).val + d.val, by simp only [Fin.val_zero]; omega⟩ : Fin 8192) = ⟨d.val, by omega⟩ := Fin.ext (by simp only [Fin.val_zero]; omega)
  rw [e]
  rfl

/-- What a point stores in the second result: the weighted sums of the odd blocks times 1/32. -/
theorem out3_eq (c : Dev nD) (i : grid0.Coords) (arg1 : Memref sig .tc .vmem S32x8192 .f32) (harg1 : arg1.IsWhole) (arg2 : Memref sig .tc .vmem S32x128 .f32) (harg2 : arg2.IsWhole) (arg3 : Memref sig .tc .vmem S32x128 .f32) (harg3 : arg3.IsWhole) (arg4 : Memref sig .tc .vmem S32x128 .f32) (harg4 : arg4.IsWhole)
    (x0 : Vec Ideal S32x8192 .f32) (x1 : Vec Ideal S32x128 .f32) (r : Fin 32) (d : Fin 128) :
    out0_A_3 (F := Ideal) c i arg1 harg1 arg2 harg2 arg3 harg3 arg4 harg4 x0 x1 (ix2 r d) = wsum x0 x1 4096 (by omega) r d * Ideal.ofBits FTy.f32 0x3D000000#32 := by
  unfold out0_A_3
  rw [View.read_writes_eq_canon _ _ _ (cover0_A_3 c i arg1 harg1 arg2 harg2 arg3 harg3 arg4 harg4 x0 x1)]
  unfold kernelRun0_A
  dsimp only
  sl_unfold_words
  rw [View.canon_unit_zero Mla.hz]
  simp only [View.readAt_eq_ld, harg1.read_unread, harg2.read_unread]
  pointwise [k0_pay17, k0_pay16, k0_pay15, k0_pay14, k0_pay13, k0_pay12, k0_pay11, k0_pay10, k0_pay9]
  refine congrArg (· * _) ?_
  unfold wsum
  rw [sum32]
  rfl
end Cert.Cmp
-- ==== Proof.CmpArray.lean ====
module
public import proofs.«01_k».proof.Proof.CmpRun
public import proofs.«01_k».proof.Proof.FfnArray
public import Idealize.ShloMosaic.Lib.Claim
@[expose] public section
set_option maxRecDepth 16384
noncomputable section
open Idealize.ShloMosaic Idealize.ShloMosaic.TcCoe Idealize.SL.Sem
namespace Cert.Cmp
open Cert.Kernel9Ideal Cert.Kernel9Ideal.Gen Finset

/-- The compressed row of half `p` (0 even, 1 odd) of the 64 rows from `64 i`, at column `d`: the mean of the 32 weighted rows. -/
def cmp (kv : Vec Ideal S16512x128 .f32) (w : Vec Ideal S32x2x64 .f32) (p : Fin 2) (i : Fin 256) (d : Fin 128) : EReal :=
  (∑ q : Fin 32, kv (ix2 ⟨64 * i.val + 32 * p.val + q.val, by omega⟩ d) * w (ix3 q ⟨d.val / 64, by omega⟩ ⟨d.val % 64, by omega⟩)) * ((1 / 32 : ℝ) : EReal)

/-- The word of 1/32 reads as 1/32. -/
theorem word : Ideal.ofBits .f32 0x3D000000#32 = ((1 / 32 : ℝ) : EReal) := by
  simp [Ideal.ofBits, Ideal.ieee]
  rw [← EReal.coe_mul]
  norm_num

/-- The blocks of the windows at every point. -/
theorem index0 : ∀ t : Fin cfg0.N, win0_0.index t = ![t.val, 0] ∧ win0_1.index t = ![0, 0] ∧ win0_2.index t = ![t.val, 0] ∧ win0_3.index t = ![t.val, 0] := by
  decide +kernel

variable (m : (ℓ : Loc nD τ sig) → Buf (Elt Ideal) ℓ)

/-- There are 8 points. -/
theorem t_lt (t : Fin cfg0.N) : t.val < 8 := lt_of_lt_of_eq t.isLt N_0

/-- Point `t`'s packed rows. -/
theorem x_apply (c : Dev nD) (t : Fin cfg0.N) (r : Fin 32) (q : Fin 8192) :
    (X0_0 m c t : Vec Ideal S32x8192 .f32) (ix2 r q) = (m ((c : Thread nD τ).loc main_arg0) : Vec Ideal S16512x128 .f32) (ix2 ⟨64 * (32 * t.val + r.val) + q.val / 128, by have := t_lt t; omega⟩ ⟨q.val % 128, by omega⟩) := by
  have ht := t_lt t
  have h := (index0 t).1
  have e : ∀ n : Fin 258, (V m c main_v1 : Vec Ideal S258x8192 .f32) (ix2 n q) = (m ((c : Thread nD τ).loc main_arg0) : Vec Ideal S16512x128 .f32) (ix2 ⟨64 * n.val + q.val / 128, by omega⟩ ⟨q.val % 128, by omega⟩) := by
    intro n
    entry_read
    refine (shapeCast_apply _ shapeCasts_S16512x128_S258x8192 (ix2 n q) (ix2 ⟨64 * n.val + q.val / 128, by omega⟩ ⟨q.val % 128, by omega⟩) ?_)
    rewrite [Shape.rowMajor_val_two, Shape.rowMajor_val_two]
    show (64 * n.val + q.val / 128) * 128 + q.val % 128 = n.val * 8192 + q.val
    omega
  rw [← e ⟨32 * t.val + r.val, by omega⟩]
  unfold X0_0 Pipeline.Window.fill
  rw [dif_pos (moved0_0 t _)]
  blk_ext [iblk, h]

/-- The weights. -/
theorem w_apply (c : Dev nD) (t : Fin cfg0.N) (q : Fin 32) (d : Fin 128) :
    (iblk m c 1 t : Vec Ideal S32x128 .f32) (ix2 q d) = (m ((c : Thread nD τ).loc main_arg1) : Vec Ideal S32x2x64 .f32) (ix3 q ⟨d.val / 64, by omega⟩ ⟨d.val % 64, by omega⟩) := by
  have h := (index0 t).2.1
  have e : (V m c main_v0 : Vec Ideal S32x128 .f32) (ix2 q d) = (m ((c : Thread nD τ).loc main_arg1) : Vec Ideal S32x2x64 .f32) (ix3 q ⟨d.val / 64, by omega⟩ ⟨d.val % 64, by omega⟩) := by
    entry_read
    refine (shapeCast_apply _ shapeCasts_S32x2x64_S32x128 (ix2 q d) (ix3 q ⟨d.val / 64, by omega⟩ ⟨d.val % 64, by omega⟩) ?_)
    rewrite [Shape.rowMajor_val_two, Shape.rowMajor_val_three]
    show (q.val * 2 + d.val / 64) * 64 + d.val % 64 = q.val * 128 + d.val
    omega
  rw [← e]
  blk_ext [iblk, h]

variable (c : Dev nD) (kv : Vec Ideal S16512x128 .f32) (w : Vec Ideal S32x2x64 .f32)
  (hk : m ((c : Thread nD τ).loc main_arg0) = kv) (hw : m ((c : Thread nD τ).loc main_arg1) = w)
include hk hw

/-- A point's weighted sums times 1/32 are the compressed rows. -/
theorem sum_eq (t : Fin cfg0.N) (p : Fin 2) (o : ℕ) (ho : o ≤ 4096) (hp : o = 4096 * p.val) (r : Fin 32) (d : Fin 128) :
    wsum (X0_0 m c t) (iblk m c 1 t) o ho r d * Ideal.ofBits FTy.f32 0x3D000000#32 = cmp kv w p ⟨32 * t.val + r.val, by have := t_lt t; omega⟩ d := by
  have ht := t_lt t
  rw [word]
  unfold wsum cmp
  refine congrArg (· * _) (Finset.sum_congr rfl fun q _ => ?_)
  rw [x_apply, w_apply, hk, hw]
  refine congrArg (· * _) (congrArg kv (congrArg₂ ix2 (Fin.ext ?_) (Fin.ext ?_)))
  · simp only []; omega
  · simp only []; omega

/-- What point `t` stores in result 1. -/
theorem point2 (t : Fin cfg0.N) (r : Fin 32) (d : Fin 128) : (outsAt0 m c t).1 (ix2 r d) = cmp kv w 0 ⟨32 * t.val + r.val, by have := t_lt t; omega⟩ d := by
  unfold outsAt0
  exact (out2_eq c (grid0.coords t) (ms0_0 t) (hs0_0 t) (ms0_1 t) (hs0_1 t) (ms0_2 t) (hs0_2 t) (ms0_3 t) (hs0_3 t) (X0_0 m c t) (iblk m c 1 t) r d).trans (sum_eq m c kv w hk hw t 0 0 (by omega) rfl r d)
/-- The launch's result 1, at every index, is the even compressed rows. -/
theorem array2 : (dats m 0 c).arrAt 2 cfg0.N = (fun i => cmp kv w 0 (i 0) (i 1) : Vec Ideal S256x128 .f32) := by
  refine (dats m 0 c).arrAt_eq_of_covers 2 _ (by decide +kernel) fun t hf y => ?_
  have h := (index0 t).2.2.1
  blk_simp
  rw [after0_2]
  have e := point2 m c kv w hk hw t (y 0) (y 1)
  refine Eq.trans (congrArg (outsAt0 m c t).1 ?_) (e.trans ?_)
  · funext a; fin_cases a <;> rfl
  · refine congrArg₂ (cmp kv w 0) (Fin.ext ?_) (Fin.ext ?_)
    · blk_simp [h]
      exact congrArg (· + _) (Nat.mul_comm _ _)
    · blk_simp [h]

/-- What point `t` stores in result 2. -/
theorem point3 (t : Fin cfg0.N) (r : Fin 32) (d : Fin 128) : (outsAt0 m c t).2 (ix2 r d) = cmp kv w 1 ⟨32 * t.val + r.val, by have := t_lt t; omega⟩ d := by
  unfold outsAt0
  exact (out3_eq c (grid0.coords t) (ms0_0 t) (hs0_0 t) (ms0_1 t) (hs0_1 t) (ms0_2 t) (hs0_2 t) (ms0_3 t) (hs0_3 t) (X0_0 m c t) (iblk m c 1 t) r d).trans (sum_eq m c kv w hk hw t 1 4096 (by omega) rfl r d)
/-- The launch's result 2, at every index, is the odd compressed rows. -/
theorem array3 : (dats m 0 c).arrAt 3 cfg0.N = (fun i => cmp kv w 1 (i 0) (i 1) : Vec Ideal S256x128 .f32) := by
  refine (dats m 0 c).arrAt_eq_of_covers 3 _ (by decide +kernel) fun t hf y => ?_
  have h := (index0 t).2.2.2
  blk_simp
  rw [after0_3]
  have e := point3 m c kv w hk hw t (y 0) (y 1)
  refine Eq.trans (congrArg (outsAt0 m c t).2 ?_) (e.trans ?_)
  · funext a; fin_cases a <;> rfl
  · refine congrArg₂ (cmp kv w 1) (Fin.ext ?_) (Fin.ext ?_)
    · blk_simp [h]
      exact congrArg (· + _) (Nat.mul_comm _ _)
    · blk_simp [h]
end Cert.Cmp
-- ==== Proof.CmpRef.lean ====
module
public import proofs.«01_k».proof.Proof.CmpArray
public import proofs.«01_k».proof.Proof.PleRef
public import proofs.«01_k».proof.Proof.Gen.Reference9Ideal.Read
@[expose] public section
set_option maxRecDepth 16384
noncomputable section
open Idealize.ShloMosaic Idealize.ShloMosaic.TcCoe Idealize.SL.Sem
namespace Cert.CmpRef
open Cert.Reference9Ideal Cert.Reference9Ideal.Gen Cert.Reference9Ideal.Read Finset

variable (kv : Vec Ideal S16512x128 .f32) (w : Vec Ideal S32x2x64 .f32)

/-- A quotient by 32 is a product with 1/32. -/
theorem div32 (s : EReal) : Ideal.div s (Ideal.ofBits .f32 0x42000000#32) = s * ((1 / 32 : ℝ) : EReal) := by
  have e : Ideal.ofBits .f32 0x42000000#32 = ((32 : ℝ) : EReal) := by
    simp [Ideal.ofBits, Ideal.ieee]
    rw [← EReal.coe_mul]
    norm_num
  rw [e]
  unfold Ideal.div
  rw [if_neg (by norm_num), ← EReal.coe_inv, one_div]

/-- The mean of the weighted rows of half `p` of the 64 rows from `64 i`. -/
theorem v8_apply (i : Fin 256) (p : Fin 2) (d : Fin 128) : val_main_v8 (F := Ideal) kv w (ix3 i p d) = Cmp.cmp kv w p i d := by
  rw [val_main_v8_apply, val_main_v7_apply, val_main_v6_apply, val_main_cst_0_apply, val_main_v5_apply]
  have hz : (val_main_cst (F := Ideal)) (Shape.Idx.first h_S_) = 0 := by rw [val_main_cst_apply]; simp [Ideal.ofBits, Ideal.ieee]
  rw [hz, zero_add]
  unfold Cmp.cmp
  refine (div32 _).trans (congrArg (· * _) (Finset.sum_congr rfl fun q _ => ?_))
  rw [val_main_v4_apply, val_main_v1_apply, val_main_v0_apply, val_main_v3_apply, val_main_v2_apply]
  have hi := i.isLt; have hp := p.isLt; have hd := d.isLt; have hq := q.isLt
  refine congrArg₂ (· * ·) (congrArg kv (funext fun a => Fin.ext ?_)) (congrArg w (funext fun a => Fin.ext ?_))
  · fin_cases a
    · show (((((((i.val * 2 + p.val) * 128 + d.val) / 8192) * 64 + ((i.val * 2 + p.val) * 128 + d.val) / 128 % 64) * 32 + q.val) * 2 + ((i.val * 2 + p.val) * 128 + d.val) / 64 % 2) * 64 + ((i.val * 2 + p.val) * 128 + d.val) % 64) / 128 = 64 * i.val + 32 * p.val + q.val
      omega
    · show (((((((i.val * 2 + p.val) * 128 + d.val) / 8192) * 64 + ((i.val * 2 + p.val) * 128 + d.val) / 128 % 64) * 32 + q.val) * 2 + ((i.val * 2 + p.val) * 128 + d.val) / 64 % 2) * 64 + ((i.val * 2 + p.val) * 128 + d.val) % 64) % 128 = d.val
      omega
  · fin_cases a
    · rfl
    · show ((i.val * 2 + p.val) * 128 + d.val) / 64 % 2 = d.val / 64
      omega
    · show ((i.val * 2 + p.val) * 128 + d.val) % 64 = d.val % 64
      omega

/-- The reference's first result is the even compressed rows. -/
theorem v10_apply (i : Fin 256) (d : Fin 128) : val_main_v10 (F := Ideal) kv w (ix2 i d) = Cmp.cmp kv w 0 i d := by
  rw [val_main_v10_apply, val_main_v9_apply, ← v8_apply]
  refine congrArg _ (funext fun a => Fin.ext ?_)
  fin_cases a
  · show (i.val * 128 + d.val) / 128 = i.val
    omega
  · rfl
  · show (i.val * 128 + d.val) % 128 = d.val
    omega

/-- The reference's second result is the odd compressed rows. -/
theorem v12_apply (i : Fin 256) (d : Fin 128) : val_main_v12 (F := Ideal) kv w (ix2 i d) = Cmp.cmp kv w 1 i d := by
  rw [val_main_v12_apply, val_main_v11_apply, ← v8_apply]
  refine congrArg _ (funext fun a => Fin.ext ?_)
  fin_cases a
  · show (i.val * 128 + d.val) / 128 = i.val
    omega
  · rfl
  · show (i.val * 128 + d.val) % 128 = d.val
    omega
end Cert.CmpRef
-- ==== Proof.CmpClaim.lean ====
module
public import proofs.«01_k».proof.Defs
public import proofs.«01_k».proof.Proof.CmpRef
public import proofs.«01_k».proof.Proof.Gen.Reference9Ideal.Run
public import Idealize.ShloMosaic.Lib.Claim
@[expose] public section
noncomputable section
open Idealize.ShloMosaic Idealize.ShloMosaic.TcCoe Idealize.SL.Sem
namespace Cert.CmpClaim

/-- The compression reference's counters: it declares no semaphore. -/
theorem ref_sem (s : MemSt Cert.Reference9Ideal.nD Cert.Reference9Ideal.τ Cert.Reference9Ideal.sig (Elt Ideal)) : s.sem = fun _ => 0 :=
  funext fun s => match s with
    | (_, .reg k) => k.elim0
    | (_, .dma k) => k.elim0

/-- The compression reference runs, keeps its arguments and ends quiescent. -/
theorem ref_frame : Cert.quiescent_Reference9Ideal := fun m g _ =>
  θ_run_mono (Cert.Reference9Ideal.Value.run m g) fun r h => ⟨fun c => (h c).2.2, ref_sem r.2⟩

/-- The compression call and its reference compute the same two arrays. -/
theorem algebraic : Cert.algebraic_Kernel9Ideal_Reference9Ideal := by
  intro m g m' g' hpre hagree
  refine ⟨fun c => (fun i => Cmp.cmp (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) 0 (i 0) (i 1) : Vec Ideal Cert.Kernel9Ideal.S256x128 .f32), fun c => (fun i => Cmp.cmp (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) 1 (i 0) (i 1) : Vec Ideal Cert.Kernel9Ideal.S256x128 .f32), ?_, ?_⟩
  · exact θ_run_mono (Cert.Kernel9Ideal.Value.run_blocks m g) fun r h c => ⟨(h c).1.trans (Cmp.array2 m c _ _ rfl rfl), (h c).2.1.trans (Cmp.array3 m c _ _ rfl rfl), (h c).2.2⟩
  · refine θ_run_mono (Cert.Reference9Ideal.Value.run m' g') fun r h c => ⟨(h c).1.trans ?_, (h c).2.1.trans ?_, (h c).2.2⟩
    · rw [Cert.Reference9Ideal.Read.val_main_v10_eq, (hagree c).1, (hagree c).2]
      funext i
      exact (congrArg _ (by funext a; fin_cases a <;> rfl)).trans (CmpRef.v10_apply _ _ (i 0) (i 1))
    · rw [Cert.Reference9Ideal.Read.val_main_v12_eq, (hagree c).1, (hagree c).2]
      funext i
      exact (congrArg _ (by funext a; fin_cases a <;> rfl)).trans (CmpRef.v12_apply _ _ (i 0) (i 1))

end Cert.CmpClaim
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Pre_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Loops
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Loops
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite_fox
public import proofs.«01_k».proof.Proof.MlaClaim
public import proofs.«01_k».proof.Proof.FfnClaim2
public import proofs.«01_k».proof.Proof.MergeFrame
public import proofs.«01_k».proof.Proof.MergeFrameIdeal
public import proofs.«01_k».proof.Proof.MergeClaim
public import proofs.«01_k».proof.Proof.ProjClaim
public import proofs.«01_k».proof.Proof.PleClaim
public import proofs.«01_k».proof.Proof.PleLastClaim
public import proofs.«01_k».proof.Proof.FoxClaim
public import proofs.«01_k».proof.Proof.GmlpClaim
public import proofs.«01_k».proof.Proof.CmpClaim
public import Idealize.ShloMosaic.Adequacy
public import Idealize.ShloMosaic.Init

@[expose] public section

noncomputable section

namespace Cert.Proof

open Idealize.ShloMosaic Idealize.SL.Sem Cert.Kernel

/-- All the claims of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_finite.Gen.facts, Cert.Pre_finite_fox.Gen.facts,
  fun m g _ => Cert.Kernel.Gen.frame m g,
  fun m g _ => Cert.KernelIdeal.Gen.frame m g,
  fun m g _ => Cert.KernelIdeal.Gen.frame m g,
  MlaClaim.ref_frame,
  MlaClaim.ref_frame_pre,
  fun m g _ => Cert.Kernel2.Gen.frame m g,
  fun m g _ => Cert.Kernel2Ideal.Gen.frame m g,
  FfnClaim.ref_frame,
  fun m g _ => MergeFrame.frame m g,
  fun m g _ => MergeFrameIdeal.frame m g,
  MergeClaim.ref_frame,
  fun m g _ => Cert.Kernel4.Gen.frame m g,
  fun m g _ => Cert.Kernel4Ideal.Gen.frame m g,
  ProjClaim.ref_frame,
  fun m g _ => Cert.Kernel5.Gen.frame m g,
  fun m g _ => Cert.Kernel5Ideal.Gen.frame m g,
  PleClaim.ref_frame,
  fun m g _ => Cert.Kernel6.Gen.frame m g,
  fun m g _ => Cert.Kernel6Ideal.Gen.frame m g,
  PleLastClaim.ref_frame,
  fun m g _ => Cert.Kernel7.Gen.frame m g,
  fun m g _ => Cert.Kernel7Ideal.Gen.frame m g,
  fun m g _ => Cert.Kernel7Ideal.Gen.frame m g,
  FoxClaim.ref_frame,
  FoxClaim.ref_frame_pre,
  fun m g _ => Cert.Kernel8.Gen.frame m g,
  fun m g _ => Cert.Kernel8Ideal.Gen.frame m g,
  GmlpClaim.ref_frame,
  fun m g _ => Cert.Kernel9.Gen.frame m g,
  fun m g _ => Cert.Kernel9Ideal.Gen.frame m g,
  CmpClaim.ref_frame,
  IdealRules.named_const.statement Cert.KernelIdeal.κ "mask" .f32 0xF149F2CA#32 ⊥ rfl,
  MlaClaim.algebraic,
  trivial,
  FfnClaim.algebraic,
  trivial,
  MergeClaim.algebraic,
  trivial,
  ProjClaim.algebraic,
  trivial,
  PleClaim.algebraic,
  trivial,
  PleLastClaim.algebraic,
  IdealRules.named_const.statement Cert.Kernel7Ideal.κ "mask" .f32 0xF149F2CA#32 ⊥ rfl,
  FoxClaim.algebraic,
  trivial,
  GmlpClaim.algebraic,
  trivial,
  CmpClaim.algebraic⟩

end Cert.Proof

end
